-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v29)) (v1 : (c : Dev Cert.Kernel2Ideal.nD) → Buf (Elt Ideal) ((c.tc : Thread Cert.Kernel2Ideal.nD Cert.Kernel2Ideal.τ).loc Cert.Kernel2Ideal.main_v30)) (v2 : (c : Dev Cert.Kernel2Ideal.nD) → Buf (Elt Ideal) ((c.tc : Thread Cert.Kernel2Ideal.nD Cert.Kernel2Ideal.τ).loc Cert.Kernel2Ideal.main_v31)) (v3 : (c : Dev Cert.Kernel2Ideal.nD) → Buf (Elt Ideal) ((c.tc : Thread Cert.Kernel2Ideal.nD Cert.Kernel2Ideal.τ).loc Cert.Kernel2Ideal.main_v28_3)) (v4 : (c : Dev Cert.Kernel2Ideal.nD) → Buf (Elt Ideal) ((c.tc : Thread Cert.Kernel2Ideal.nD Cert.Kernel2Ideal.τ).loc Cert.Kernel2Ideal.main_v32)) (v5 : (c : Dev Cert.Kernel2Ideal.nD) → Buf (Elt Ideal) ((c.tc : Thread Cert.Kernel2Ideal.nD Cert.Kernel2Ideal.τ).loc Cert.Kernel2Ideal.main_v33)) (v6 : (c : Dev Cert.Kernel2Ideal.nD) → Buf (Elt Ideal) ((c.tc : Thread Cert.Kernel2Ideal.nD Cert.Kernel2Ideal.τ).loc Cert.Kernel2Ideal.main_v34)) (v7 : (c : Dev Cert.Kernel2Ideal.nD) → Buf (Elt Ideal) ((c.tc : Thread Cert.Kernel2Ideal.nD Cert.Kernel2Ideal.τ).loc Cert.Kernel2Ideal.main_v35)) (v8 : (c : Dev Cert.Kernel2Ideal.nD) → Buf (Elt Ideal) ((c.tc : Thread Cert.Kernel2Ideal.nD Cert.Kernel2Ideal.τ).loc Cert.Kernel2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_v30) = v1 c
          ∧ r.2.mem ((c.tc : Thread Cert.Kernel2Ideal.nD Cert.Kernel2Ideal.τ).loc Cert.Kernel2Ideal.main_v31) = v2 c
          ∧ r.2.mem ((c.tc : Thread Cert.Kernel2Ideal.nD Cert.Kernel2Ideal.τ).loc Cert.Kernel2Ideal.main_v28_3) = v3 c
          ∧ r.2.mem ((c.tc : Thread Cert.Kernel2Ideal.nD Cert.Kernel2Ideal.τ).loc Cert.Kernel2Ideal.main_v32) = v4 c
          ∧ r.2.mem ((c.tc : Thread Cert.Kernel2Ideal.nD Cert.Kernel2Ideal.τ).loc Cert.Kernel2Ideal.main_v33) = v5 c
          ∧ r.2.mem ((c.tc : Thread Cert.Kernel2Ideal.nD Cert.Kernel2Ideal.τ).loc Cert.Kernel2Ideal.main_v34) = v6 c
          ∧ r.2.mem ((c.tc : Thread Cert.Kernel2Ideal.nD Cert.Kernel2Ideal.τ).loc Cert.Kernel2Ideal.main_v35) = v7 c
          ∧ r.2.mem ((c.tc : Thread Cert.Kernel2Ideal.nD Cert.Kernel2Ideal.τ).loc Cert.Kernel2Ideal.main_v36) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v80) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_v83) = v4 c
          ∧ r.2.mem ((c.tc : Thread Cert.Reference2Ideal.nD Cert.Reference2Ideal.τ).loc Cert.Reference2Ideal.main_arg9) = v5 c
          ∧ r.2.mem ((c.tc : Thread Cert.Reference2Ideal.nD Cert.Reference2Ideal.τ).loc Cert.Reference2Ideal.main_arg10) = v6 c
          ∧ r.2.mem ((c.tc : Thread Cert.Reference2Ideal.nD Cert.Reference2Ideal.τ).loc Cert.Reference2Ideal.main_v84) = v7 c
          ∧ r.2.mem ((c.tc : Thread Cert.Reference2Ideal.nD Cert.Reference2Ideal.τ).loc Cert.Reference2Ideal.main_arg12) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
-- ==== Pre_finite.lean ====
abbrev S2x16384x2048 : Shape := ⟨3, ![2, 16384, 2048]⟩
abbrev S2x2048 : Shape := ⟨2, ![2, 2048]⟩
abbrev S2048 : Shape := ⟨1, ![2048]⟩
abbrev S2048x6144 : Shape := ⟨2, ![2048, 6144]⟩
abbrev S6144 : Shape := ⟨1, ![6144]⟩
abbrev S2048x4096 : Shape := ⟨2, ![2048, 4096]⟩
abbrev S4x512x512 : Shape := ⟨3, ![4, 512, 512]⟩
abbrev S2048x2048 : Shape := ⟨2, ![2048, 2048]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg6 : FVec F S2048x4096 .f32) (main_v3 : IVec S_ 1) (main_v7 : IVec S_ 1) (main_v11 : IVec S_ 1) (main_v15 : IVec S_ 1) : IVec S_ 1 :=
  let main_v16 : FVec F S2048x4096 .f32 := Host.absf main_arg6
  let main_cst_6 : FVec F S_ .f32 := constant S_ .f32 0x7F800000#32
  let main_v17 : FVec F S2048x4096 .f32 := broadcastInDim S2048x4096 ![] bcast_S_S2048x4096 main_cst_6
  let main_v18 : IVec S2048x4096 1 := cmpf .olt main_v16 main_v17
  let main_c_7 : IVec S_ 1 := constantI S_ 1 1#1
  let main_v19 : IVec S_ 1 := (fun x v => Host.reduce IntOp.andi x v reducesTo_S2048x4096_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x16384x2048 .f32) (main_arg1 : FVec F S2x2048 .f32) (main_arg2 : FVec F S2048 .f32) (main_arg3 : FVec F S2048 .f32) (main_arg4 : FVec F S2048x6144 .f32) (main_arg5 : FVec F S6144 .f32) (main_arg6 : FVec F S2048x4096 .f32) (main_arg7 : FVec F S4x512x512 .f32) (main_arg8 : FVec F S2048 .f32) (main_arg9 : FVec F S2048x2048 .f32) (main_arg10 : FVec F S2048 .f32) : IVec S_ 1 :=
  let main_v0 : FVec F S2x2048 .f32 := Host.absf main_arg1
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  let main_c : IVec S_ 1 := constantI S_ 1 1#1
  let main_v3 : IVec S_ 1 := (fun x v => Host.reduce IntOp.andi x v reducesTo_S2x2048_S_d0_1 h_S_) main_v2 main_c
  let main_v4 : FVec F S2048 .f32 := Host.absf main_arg3
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : FVec F S2048x6144 .f32 := Host.absf main_arg4
  let main_cst_2 : FVec F S_ .f32 := constant S_ .f32 0x7F800000#32
  let main_v9 : FVec F S2048x6144 .f32 := broadcastInDim S2048x6144 ![] bcast_S_S2048x6144 main_cst_2
  let main_v10 : IVec S2048x6144 1 := cmpf .olt main_v8 main_v9
  let main_c_3 : IVec S_ 1 := constantI S_ 1 1#1
  let main_v11 : IVec S_ 1 := (fun x v => Host.reduce IntOp.andi x v reducesTo_S2048x6144_S_d0_1 h_S_) main_v10 main_c_3
  let main_v12 : FVec F S6144 .f32 := Host.absf main_arg5
  let main_cst_4 : FVec F S_ .f32 := constant S_ .f32 0x7F800000#32
  let main_v13 : FVec F S6144 .f32 := broadcastInDim S6144 ![] bcast_S_S6144 main_cst_4
  let main_v14 : IVec S6144 1 := cmpf .olt main_v12 main_v13
  let main_c_5 : IVec S_ 1 := constantI S_ 1 1#1
  let main_v15 : IVec S_ 1 := (fun x v => Host.reduce IntOp.andi x v reducesTo_S6144_S_d0 h_S_) main_v14 main_c_5
  fn_part1 (F := F) main_arg6 main_v3 main_v7 main_v11 main_v15
-- ==== Pre_finite2.lean ====
abbrev S2x16384x2048 : Shape := ⟨3, ![2, 16384, 2048]⟩
abbrev S2x2048 : Shape := ⟨2, ![2, 2048]⟩
abbrev S2048 : Shape := ⟨1, ![2048]⟩
abbrev S16384x2x32 : Shape := ⟨3, ![16384, 2, 32]⟩
abbrev S2048x6144 : Shape := ⟨2, ![2048, 6144]⟩
abbrev S6144 : Shape := ⟨1, ![6144]⟩
abbrev S2048x5120 : Shape := ⟨2, ![2048, 5120]⟩
abbrev S2048x2048 : Shape := ⟨2, ![2048, 2048]⟩
abbrev S2048x4096 : Shape := ⟨2, ![2048, 4096]⟩
abbrev S4x512x512 : Shape := ⟨3, ![4, 512, 512]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_
  bcast_S_S2048x5120 : S_.BroadcastsInDim S2048x5120 (![] : Fin 0 → Fin S2048x5120.rank)
  reducesTo_S2048x5120_S_d0_1 : S2048x5120.ReducesTo [0, 1] S_

variable [Facts]

def fn_part1 {F : FTy → Type} [FloatOps F] (main_arg8 : FVec F S2048x5120 .f32) (main_v3 : IVec S_ 1) (main_v7 : IVec S_ 1) (main_v11 : IVec S_ 1) (main_v15 : IVec S_ 1) : IVec S_ 1 :=
  let main_v16 : FVec F S2048x5120 .f32 := Host.absf main_arg8
  let main_cst_6 : FVec F S_ .f32 := constant S_ .f32 0x7F800000#32
  let main_v17 : FVec F S2048x5120 .f32 := broadcastInDim S2048x5120 ![] bcast_S_S2048x5120 main_cst_6
  let main_v18 : IVec S2048x5120 1 := cmpf .olt main_v16 main_v17
  let main_c_7 : IVec S_ 1 := constantI S_ 1 1#1
  let main_v19 : IVec S_ 1 := (fun x v => Host.reduce IntOp.andi x v reducesTo_S2048x5120_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x16384x2048 .f32) (main_arg1 : FVec F S2x2048 .f32) (main_arg2 : FVec F S2048 .f32) (main_arg3 : FVec F S16384x2x32 .f32) (main_arg4 : FVec F S16384x2x32 .f32) (main_arg5 : FVec F S2048 .f32) (main_arg6 : FVec F S2048x6144 .f32) (main_arg7 : FVec F S6144 .f32) (main_arg8 : FVec F S2048x5120 .f32) (main_arg9 : FVec F S2048x2048 .f32) (main_arg10 : FVec F S2048x4096 .f32) (main_arg11 : FVec F S4x512x512 .f32) (main_arg12 : FVec F S2048x2048 .f32) : IVec S_ 1 :=
  let main_v0 : FVec F S2x2048 .f32 := Host.absf main_arg1
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  let main_c : IVec S_ 1 := constantI S_ 1 1#1
  let main_v3 : IVec S_ 1 := (fun x v => Host.reduce IntOp.andi x v reducesTo_S2x2048_S_d0_1 h_S_) main_v2 main_c
  let main_v4 : FVec F S2048 .f32 := Host.absf main_arg5
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : FVec F S2048x6144 .f32 := Host.absf main_arg6
  let main_cst_2 : FVec F S_ .f32 := constant S_ .f32 0x7F800000#32
  let main_v9 : FVec F S2048x6144 .f32 := broadcastInDim S2048x6144 ![] bcast_S_S2048x6144 main_cst_2
  let main_v10 : IVec S2048x6144 1 := cmpf .olt main_v8 main_v9
  let main_c_3 : IVec S_ 1 := constantI S_ 1 1#1
  let main_v11 : IVec S_ 1 := (fun x v => Host.reduce IntOp.andi x v reducesTo_S2048x6144_S_d0_1 h_S_) main_v10 main_c_3
  let main_v12 : FVec F S6144 .f32 := Host.absf main_arg7
  let main_cst_4 : FVec F S_ .f32 := constant S_ .f32 0x7F800000#32
  let main_v13 : FVec F S6144 .f32 := broadcastInDim S6144 ![] bcast_S_S6144 main_cst_4
  let main_v14 : IVec S6144 1 := cmpf .olt main_v12 main_v13
  let main_c_5 : IVec S_ 1 := constantI S_ 1 1#1
  let main_v15 : IVec S_ 1 := (fun x v => Host.reduce IntOp.andi x v reducesTo_S6144_S_d0 h_S_) main_v14 main_c_5
  fn_part1 (F := F) main_arg8 main_v3 main_v7 main_v11 main_v15
-- ==== Kernel.lean ====
abbrev S2x16384x2048 : Shape := ⟨3, ![2, 16384, 2048]⟩
abbrev S2x2048 : Shape := ⟨2, ![2, 2048]⟩
abbrev S2048 : Shape := ⟨1, ![2048]⟩
abbrev S2048x6144 : Shape := ⟨2, ![2048, 6144]⟩
abbrev S6144 : Shape := ⟨1, ![6144]⟩
abbrev S2048x4096 : Shape := ⟨2, ![2048, 4096]⟩
abbrev S4x512x512 : Shape := ⟨3, ![4, 512, 512]⟩
abbrev S2048x2048 : Shape := ⟨2, ![2048, 2048]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S1x6144 : Shape := ⟨2, ![1, 6144]⟩
abbrev S8x1x6144 : Shape := ⟨3, ![8, 1, 6144]⟩
abbrev S2048x1536 : Shape := ⟨2, ![2048, 1536]⟩
abbrev S1x1536 : Shape := ⟨2, ![1, 1536]⟩
abbrev S8x1x1536 : Shape := ⟨3, ![8, 1, 1536]⟩
abbrev S8x1536 : Shape := ⟨2, ![8, 1536]⟩
abbrev S1x1024x2048 : Shape := ⟨3, ![1, 1024, 2048]⟩
abbrev S1x1x2048 : Shape := ⟨3, ![1, 1, 2048]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x256x512 : Shape := ⟨3, ![1, 256, 512]⟩
abbrev S4x128x256 : Shape := ⟨3, ![4, 128, 256]⟩
abbrev S1x512x2048 : Shape := ⟨3, ![1, 512, 2048]⟩
abbrev S1x16x2048 : Shape := ⟨3, ![1, 16, 2048]⟩
abbrev S640x2048 : Shape := ⟨2, ![640, 2048]⟩
abbrev S512x2048 : Shape := ⟨2, ![512, 2048]⟩
abbrev S48x2048 : Shape := ⟨2, ![48, 2048]⟩
abbrev S16x2048 : Shape := ⟨2, ![16, 2048]⟩
abbrev S1x512x512 : Shape := ⟨3, ![1, 512, 512]⟩
abbrev S512x512 : Shape := ⟨2, ![512, 512]⟩
abbrev S1x128x256 : Shape := ⟨3, ![1, 128, 256]⟩
abbrev S128x256 : Shape := ⟨2, ![128, 256]⟩
abbrev S128x512 : Shape := ⟨2, ![128, 512]⟩
abbrev S1x512 : Shape := ⟨2, ![1, 512]⟩
abbrev S8x512 : Shape := ⟨2, ![8, 512]⟩
abbrev S496x512 : Shape := ⟨2, ![496, 512]⟩
abbrev S512 : Shape := ⟨1, ![512]⟩
abbrev S512x1 : Shape := ⟨2, ![512, 1]⟩

abbrev nBuf : Space → Nat
  | .hbm => 133
  | .vmem => 44
  | .smem => 0
  | _ => 0

abbrev hbmTy0_0 (i : Nat) : BufTy := match i % 128 with
  | 0 => ⟨S2x16384x2048, .f32⟩
  | 1 => ⟨S2x2048, .f32⟩
  | 2 => ⟨S2048, .f32⟩
  | 3 => ⟨S2048, .f32⟩
  | 4 => ⟨S2048x6144, .f32⟩
  | 5 => ⟨S6144, .f32⟩
  | 6 => ⟨S2048x4096, .f32⟩
  | 7 => ⟨S4x512x512, .f32⟩
  | 8 => ⟨S2048, .f32⟩
  | 9 => ⟨S2048x2048, .f32⟩
  | 10 => ⟨S2048, .f32⟩
  | 11 => ⟨S1x2048, .f32⟩
  | 12 => ⟨S_, .f32⟩
  | 13 => ⟨S5x2048, .f32⟩
  | 14 => ⟨S8x2048, .f32⟩
  | 15 => ⟨S1x6144, .f32⟩
  | 16 => ⟨S8x1x6144, .f32⟩
  | 17 => ⟨S2048x4096, .bf16⟩
  | 18 => ⟨S1x2048, .f32⟩
  | 19 => ⟨S2x16384x2048, .bf16⟩
  | 20 => ⟨S2x16384x2048, .bf16⟩
  | 21 => ⟨S4x512x512, .bf16⟩
  | 22 => ⟨S2048x2048, .bf16⟩
  | 23 => ⟨S8x2048, .i32⟩
  | 24 => ⟨S_, .i32⟩
  | 25 => ⟨S8x2048, .i32⟩
  | 26 => ⟨S8x2048, .i32⟩
  | 27 => ⟨S_, .i32⟩
  | 28 => ⟨S8x2048, .i32⟩
  | 29 => ⟨S8x2048, .i32⟩
  | 30 => ⟨S_, .i32⟩
  | 31 => ⟨S8x2048, .i32⟩
  | 32 => ⟨S8x2048, .i32⟩
  | 33 => ⟨S8x2048, .i32⟩
  | 34 => ⟨S_, .i32⟩
  | 35 => ⟨S8x2048, .i32⟩
  | 36 => ⟨S8x2048, .i32⟩
  | 37 => ⟨S8x2048, .i32⟩
  | 38 => ⟨S_, .i32⟩
  | 39 => ⟨S8x2048, .i32⟩
  | 40 => ⟨S8x2048, .i32⟩
  | 41 => ⟨S8x2048, .i32⟩
  | 42 => ⟨S_, .i32⟩
  | 43 => ⟨S8x2048, .i32⟩
  | 44 => ⟨S8x2048, .i32⟩
  | 45 => ⟨S8x2048, .i32⟩
  | 46 => ⟨S8x2048, .f32⟩
  | 47 => ⟨S_, .f32⟩
  | 48 => ⟨S8x2048, .f32⟩
  | 49 => ⟨S8x2048, .f32⟩
  | 50 => ⟨S8x2048, .i32⟩
  | 51 => ⟨S_, .i32⟩
  | 52 => ⟨S8x2048, .i32⟩
  | 53 => ⟨S8x2048, .i32⟩
  | 54 => ⟨S_, .i32⟩
  | 55 => ⟨S8x2048, .i32⟩
  | 56 => ⟨S8x2048, .i32⟩
  | 57 => ⟨S_, .i32⟩
  | 58 => ⟨S8x2048, .i32⟩
  | 59 => ⟨S8x2048, .i32⟩
  | 60 => ⟨S8x2048, .i32⟩
  | 61 => ⟨S_, .i32⟩
  | 62 => ⟨S8x2048, .i32⟩
  | 63 => ⟨S8x2048, .i32⟩
  | 64 => ⟨S8x2048, .i32⟩
  | 65 => ⟨S_, .i32⟩
  | 66 => ⟨S8x2048, .i32⟩
  | 67 => ⟨S8x2048, .i32⟩
  | 68 => ⟨S8x2048, .i32⟩
  | 69 => ⟨S_, .i32⟩
  | 70 => ⟨S8x2048, .i32⟩
  | 71 => ⟨S8x2048, .i32⟩
  | 72 => ⟨S8x2048, .i32⟩
  | 73 => ⟨S8x2048, .f32⟩
  | 74 => ⟨S_, .f32⟩
  | 75 => ⟨S8x2048, .f32⟩
  | 76 => ⟨S8x2048, .f32⟩
  | 77 => ⟨S1x2048, .i32⟩
  | 78 => ⟨S_, .i32⟩
  | 79 => ⟨S1x2048, .i32⟩
  | 80 => ⟨S1x2048, .i32⟩
  | 81 => ⟨S_, .i32⟩
  | 82 => ⟨S1x2048, .i32⟩
  | 83 => ⟨S1x2048, .i32⟩
  | 84 => ⟨S_, .i32⟩
  | 85 => ⟨S1x2048, .i32⟩
  | 86 => ⟨S1x2048, .i32⟩
  | 87 => ⟨S1x2048, .i32⟩
  | 88 => ⟨S_, .i32⟩
  | 89 => ⟨S1x2048, .i32⟩
  | 90 => ⟨S1x2048, .i32⟩
  | 91 => ⟨S1x2048, .i32⟩
  | 92 => ⟨S_, .i32⟩
  | 93 => ⟨S1x2048, .i32⟩
  | 94 => ⟨S1x2048, .i32⟩
  | 95 => ⟨S1x2048, .i32⟩
  | 96 => ⟨S_, .i32⟩
  | 97 => ⟨S1x2048, .i32⟩
  | 98 => ⟨S1x2048, .i32⟩
  | 99 => ⟨S1x2048, .i32⟩
  | 100 => ⟨S1x2048, .f32⟩
  | 101 => ⟨S_, .f32⟩
  | 102 => ⟨S1x2048, .f32⟩
  | 103 => ⟨S1x2048, .f32⟩
  | 104 => ⟨S1x2048, .f32⟩
  | 105 => ⟨S1x2048, .f32⟩
  | 106 => ⟨S_, .i32⟩
  | 107 => ⟨S4x128x256, .i32⟩
  | 108 => ⟨S4x128x256, .i32⟩
  | 109 => ⟨S4x128x256, .i32⟩
  | 110 => ⟨S4x128x256, .i32⟩
  | 111 => ⟨S4x128x256, .i32⟩
  | 112 => ⟨S_, .i32⟩
  | 113 => ⟨S4x128x256, .i32⟩
  | 114 => ⟨S4x128x256, .i32⟩
  | 115 => ⟨S_, .i32⟩
  | 116 => ⟨S4x128x256, .i32⟩
  | 117 => ⟨S4x128x256, .i32⟩
  | 118 => ⟨S4x128x256, .i32⟩
  | 119 => ⟨S4x128x256, .i1⟩
  | 120 => ⟨S4x128x256, .i32⟩
  | 121 => ⟨S_, .i32⟩
  | 122 => ⟨S4x128x256, .i32⟩
  | 123 => ⟨S4x128x256, .i32⟩
  | 124 => ⟨S4x128x256, .i1⟩
  | 125 => ⟨S4x128x256, .i1⟩
  | 126 => ⟨S_, .f32⟩
  | 127 => ⟨S4x128x256, .f32⟩
  | _ => ⟨S2x16384x2048, .f32⟩

abbrev hbmTy0_1 (i : Nat) : BufTy := match i % 128 with
  | 0 => ⟨S_, .f32⟩
  | 1 => ⟨S4x128x256, .f32⟩
  | 2 => ⟨S4x128x256, .f32⟩
  | 3 => ⟨S4x128x256, .bf16⟩
  | 4 => ⟨S2x16384x2048, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | .local _ .vmem, ⟨0, _⟩ => ⟨S8x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S8x1x1536, .f32⟩
  | .local _ .vmem, ⟨6, _⟩ => ⟨S8x1x1536, .f32⟩
  | .local _ .vmem, ⟨7, _⟩ => ⟨S1x1024x2048, .f32⟩
  | .local _ .vmem, ⟨8, _⟩ => ⟨S1x1024x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S2048x4096, .bf16⟩
  | .local _ .vmem, ⟨15, _⟩ => ⟨S1x1024x2048, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S1x1024x2048, .bf16⟩
  | .local _ .vmem, ⟨19, _⟩ => ⟨S1024x2048, .bf16⟩
  | .local _ .vmem, ⟨20, _⟩ => ⟨S1x512x2048, .bf16⟩
  | .local _ .vmem, ⟨21, _⟩ => ⟨S1x512x2048, .bf16⟩
  | .local _ .vmem, ⟨22, _⟩ => ⟨S1x16x2048, .bf16⟩
  | .local _ .vmem, ⟨23, _⟩ => ⟨S1x16x2048, .bf16⟩
  | .local _ .vmem, ⟨24, _⟩ => ⟨S1x16x2048, .bf16⟩
  | .local _ .vmem, ⟨25, _⟩ => ⟨S1x16x2048, .bf16⟩
  | .local _ .vmem, ⟨26, _⟩ => ⟨S1x512x2048, .bf16⟩
  | .local _ .vmem, ⟨27, _⟩ => ⟨S1x512x2048, .bf16⟩
  | .local _ .vmem, ⟨28, _⟩ => ⟨S1x512x2048, .f32⟩
  | .local _ .vmem, ⟨29, _⟩ => ⟨S1x512x2048, .f32⟩
  | .local _ .vmem, ⟨30, _⟩ => ⟨S1x1x2048, .f32⟩
  | .local _ .vmem, ⟨31, _⟩ => ⟨S1x1x2048, .f32⟩
  | .local _ .vmem, ⟨32, _⟩ => ⟨S1x2048, .f32⟩
  | .local _ .vmem, ⟨33, _⟩ => ⟨S1x2048, .f32⟩
  | .local _ .vmem, ⟨34, _⟩ => ⟨S8x2048, .f32⟩
  | .local _ .vmem, ⟨35, _⟩ => ⟨S8x2048, .f32⟩
  | .local _ .vmem, ⟨36, _⟩ => ⟨S1x2048, .f32⟩
  | .local _ .vmem, ⟨37, _⟩ => ⟨S4x128x256, .bf16⟩
  | .local _ .vmem, ⟨38, _⟩ => ⟨S4x512x512, .bf16⟩
  | .local _ .vmem, ⟨39, _⟩ => ⟨S2048x2048, .bf16⟩
  | .local _ .vmem, ⟨40, _⟩ => ⟨S1x512x2048, .f32⟩
  | .local _ .vmem, ⟨41, _⟩ => ⟨S1x512x2048, .f32⟩
  | .local _ .vmem, ⟨42, _⟩ => ⟨S640x2048, .bf16⟩
  | .local _ .vmem, ⟨43, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_c_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_16 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_18 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_19 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_20 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_21 : Ref sig .tc := ⟨.hbm, 112, rfl⟩
abbrev main_v77 : Ref sig .tc := ⟨.hbm, 113, rfl⟩
abbrev main_v78 : Ref sig .tc := ⟨.hbm, 114, rfl⟩
abbrev main_c_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_23 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_24 : Ref sig .tc := ⟨.hbm, 126, rfl⟩
abbrev main_v88 : Ref sig .tc := ⟨.hbm, 127, rfl⟩
abbrev main_cst_25 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_stg13_0 : Ref sig .tc := ⟨.vmem, 39, rfl⟩
abbrev cc2_stg14_0 : Ref sig .tc := ⟨.vmem, 40, rfl⟩
abbrev cc2_stg14_1 : Ref sig .tc := ⟨.vmem, 41, rfl⟩
abbrev cc2_scratch0 : Ref sig .tc := ⟨.vmem, 42, rfl⟩
abbrev cc2_scratch1 : Ref sig .tc := ⟨.vmem, 43, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem13_0 : DmaSem sig := 38
abbrev cc2_sem14_0 : DmaSem sig := 39
abbrev cc2_sem14_1 : DmaSem sig := 40

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S2048x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x16x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S8x2048 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S8x2048 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x2048 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S4x128x256 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S4x512x512 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S2048x2048 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 2 → Memref sig .tc .vmem S1x512x2048 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]
-- ==== ReferenceIdeal.lean ====
abbrev S2x16384x2048 : Shape := ⟨3, ![2, 16384, 2048]⟩
abbrev S2x2048 : Shape := ⟨2, ![2, 2048]⟩
abbrev S2048 : Shape := ⟨1, ![2048]⟩
abbrev S2048x6144 : Shape := ⟨2, ![2048, 6144]⟩
abbrev S6144 : Shape := ⟨1, ![6144]⟩
abbrev S2048x4096 : Shape := ⟨2, ![2048, 4096]⟩
abbrev S4x512x512 : Shape := ⟨3, ![4, 512, 512]⟩
abbrev S2048x2048 : Shape := ⟨2, ![2048, 2048]⟩
abbrev S_ : Shape := ⟨0, ![]⟩
abbrev S2x6144 : Shape := ⟨2, ![2, 6144]⟩
abbrev S1x6144 : Shape := ⟨2, ![1, 6144]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16384x4096 : Shape := ⟨3, ![2, 16384, 4096]⟩
abbrev S2x16384x4x512 : Shape := ⟨4, ![2, 16384, 4, 512]⟩
abbrev S4x16384 : Shape := ⟨2, ![4, 16384]⟩
abbrev S4x16384x16384 : Shape := ⟨3, ![4, 16384, 16384]⟩
abbrev S4x16384x1 : Shape := ⟨3, ![4, 16384, 1]⟩
abbrev S4x2x512x16384 : Shape := ⟨4, ![4, 2, 512, 16384]⟩
abbrev S16384x4 : Shape := ⟨2, ![16384, 4]⟩
abbrev S1x16384x4x1 : Shape := ⟨4, ![1, 16384, 4, 1]⟩
abbrev S4x512x2x16384 : Shape := ⟨4, ![4, 512, 2, 16384]⟩

abbrev nBuf : Space → Nat
  | .hbm => 128
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2048, .f32⟩
  | .hbm, ⟨3, _⟩ => ⟨S2048, .f32⟩
  | .hbm, ⟨4, _⟩ => ⟨S2048x6144, .f32⟩
  | .hbm, ⟨5, _⟩ => ⟨S6144, .f32⟩
  | .hbm, ⟨6, _⟩ => ⟨S2048x4096, .f32⟩
  | .hbm, ⟨7, _⟩ => ⟨S4x512x512, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S2x2048, .f32⟩
  | .hbm, ⟨16, _⟩ => ⟨S_, .f32⟩
  | .hbm, ⟨17, _⟩ => ⟨S2x2048, .f32⟩
  | .hbm, ⟨18, _⟩ => ⟨S2x2048, .f32⟩
  | .hbm, ⟨19, _⟩ => ⟨S2x2048, .f32⟩
  | .hbm, ⟨20, _⟩ => ⟨S2x6144, .f32⟩
  | .hbm, ⟨21, _⟩ => ⟨S1x6144, .f32⟩
  | .hbm, ⟨22, _⟩ => ⟨S2x6144, .f32⟩
  | .hbm, ⟨23, _⟩ => ⟨S2x6144, .f32⟩
  | .hbm, ⟨24, _⟩ => ⟨S2x2048, .f32⟩
  | .hbm, ⟨25, _⟩ => ⟨S2x2048, .f32⟩
  | .hbm, ⟨26, _⟩ => ⟨S2x2048, .f32⟩
  | .hbm, ⟨27, _⟩ => ⟨S2x16384x2048, .f32⟩
  | .hbm, ⟨28, _⟩ => ⟨S_, .f32⟩
  | .hbm, ⟨29, _⟩ => ⟨S2x16384, .f32⟩
  | .hbm, ⟨30, _⟩ => ⟨S2x16384x1, .f32⟩
  | .hbm, ⟨31, _⟩ => ⟨S_, .f32⟩
  | .hbm, ⟨32, _⟩ => ⟨S2x16384x1, .f32⟩
  | .hbm, ⟨33, _⟩ => ⟨S2x16384x1, .f32⟩
  | .hbm, ⟨34, _⟩ => ⟨S_, .f32⟩
  | .hbm, ⟨35, _⟩ => ⟨S2x16384x1, .f32⟩
  | .hbm, ⟨36, _⟩ => ⟨S2x16384x1, .f32⟩
  | .hbm, ⟨37, _⟩ => ⟨S2x16384x1, .f32⟩
  | .hbm, ⟨38, _⟩ => ⟨S2x16384x2048, .f32⟩
  | .hbm, ⟨39, _⟩ => ⟨S2x16384x2048, .f32⟩
  | .hbm, ⟨40, _⟩ => ⟨S1x1x2048, .f32⟩
  | .hbm, ⟨41, _⟩ => ⟨S2x16384x2048, .f32⟩
  | .hbm, ⟨42, _⟩ => ⟨S2x16384x2048, .f32⟩
  | .hbm, ⟨43, _⟩ => ⟨S2x1x2048, .f32⟩
  | .hbm, ⟨44, _⟩ => ⟨S_, .f32⟩
  | .hbm, ⟨45, _⟩ => ⟨S2x1x2048, .f32⟩
  | .hbm, ⟨46, _⟩ => ⟨S2x1x2048, .f32⟩
  | .hbm, ⟨47, _⟩ => ⟨S2x16384x2048, .f32⟩
  | .hbm, ⟨48, _⟩ => ⟨S2x16384x2048, .f32⟩
  | .hbm, ⟨49, _⟩ => ⟨S2x1x2048, .f32⟩
  | .hbm, ⟨50, _⟩ => ⟨S2x16384x2048, .f32⟩
  | .hbm, ⟨51, _⟩ => ⟨S2x16384x2048, .f32⟩
  | .hbm, ⟨52, _⟩ => ⟨S2x1x2048, .f32⟩
  | .hbm, ⟨53, _⟩ => ⟨S2x16384x4096, .f32⟩
  | .hbm, ⟨54, _⟩ => ⟨S2x16384x2048, .f32⟩
  | .hbm, ⟨55, _⟩ => ⟨S2x16384x2048, .f32⟩
  | .hbm, ⟨56, _⟩ => ⟨S2x16384x4x512, .f32⟩
  | .hbm, ⟨57, _⟩ => ⟨S4x16384, .i32⟩
  | .hbm, ⟨58, _⟩ => ⟨S4x16384, .i32⟩
  | .hbm, ⟨59, _⟩ => ⟨S_, .i32⟩
  | .hbm, ⟨60, _⟩ => ⟨S4x16384, .i32⟩
  | .hbm, ⟨61, _⟩ => ⟨S4x16384, .i32⟩
  | .hbm, ⟨62, _⟩ => ⟨S_, .i32⟩
  | .hbm, ⟨63, _⟩ => ⟨S4x16384, .i32⟩
  | .hbm, ⟨64, _⟩ => ⟨S4x16384, .i32⟩
  | .hbm, ⟨65, _⟩ => ⟨S4x16384, .i32⟩
  | .hbm, ⟨66, _⟩ => ⟨S_, .i32⟩
  | .hbm, ⟨67, _⟩ => ⟨S4x16384, .i32⟩
  | .hbm, ⟨68, _⟩ => ⟨S4x16384, .i32⟩
  | .hbm, ⟨69, _⟩ => ⟨S4x16384, .i32⟩
  | .hbm, ⟨70, _⟩ => ⟨S4x16384, .i32⟩
  | .hbm, ⟨71, _⟩ => ⟨S_, .i32⟩
  | .hbm, ⟨72, _⟩ => ⟨S4x16384, .i32⟩
  | .hbm, ⟨73, _⟩ => ⟨S4x16384, .i32⟩
  | .hbm, ⟨74, _⟩ => ⟨S4x16384x16384, .i32⟩
  | .hbm, ⟨75, _⟩ => ⟨S4x16384x1, .i32⟩
  | .hbm, ⟨76, _⟩ => ⟨S4x16384x16384, .i32⟩
  | .hbm, ⟨77, _⟩ => ⟨S4x16384x16384, .i1⟩
  | .hbm, ⟨78, _⟩ => ⟨S4x16384x1, .i32⟩
  | .hbm, ⟨79, _⟩ => ⟨S4x16384x16384, .i32⟩
  | .hbm, ⟨80, _⟩ => ⟨S4x16384x16384, .i1⟩
  | .hbm, ⟨81, _⟩ => ⟨S4x16384x16384, .i1⟩
  | .hbm, ⟨82, _⟩ => ⟨S4x16384x16384, .f32⟩
  | .hbm, ⟨83, _⟩ => ⟨S4x2x512x16384, .f32⟩
  | .hbm, ⟨84, _⟩ => ⟨S2x16384x4x512, .f32⟩
  | .hbm, ⟨85, _⟩ => ⟨S4x16384, .i32⟩
  | .hbm, ⟨86, _⟩ => ⟨S4x16384, .f32⟩
  | .hbm, ⟨87, _⟩ => ⟨S16384x4, .f32⟩
  | .hbm, ⟨88, _⟩ => ⟨S1x16384x4x1, .f32⟩
  | .hbm, ⟨89, _⟩ => ⟨S2x16384x4x512, .f32⟩
  | .hbm, ⟨90, _⟩ => ⟨S2x16384x4x512, .f32⟩
  | .hbm, ⟨91, _⟩ => ⟨S2x16384x4x512, .f32⟩
  | .hbm, ⟨92, _⟩ => ⟨S4x512x2x16384, .f32⟩
  | .hbm, ⟨93, _⟩ => ⟨S2x16384x4x512, .f32⟩
  | .hbm, ⟨94, _⟩ => ⟨S2x16384x2048, .f32⟩
  | .hbm, ⟨95, _⟩ => ⟨S1x1x2048, .f32⟩
  | .hbm, ⟨96, _⟩ => ⟨S2x16384x2048, .f32⟩
  | .hbm, ⟨97, _⟩ => ⟨S2x16384x2048, .f32⟩
  | .hbm, ⟨98, _⟩ => ⟨S2x16384x2048, .f32⟩
  | .hbm, ⟨99, _⟩ => ⟨S2x16384x2048, .f32⟩
  | .hbm, ⟨100, _⟩ => ⟨S_, .f32⟩
  | .hbm, ⟨101, _⟩ => ⟨S2x16384x2048, .f32⟩
  | .hbm, ⟨102, _⟩ => ⟨S2x16384x2048, .f32⟩
  | .hbm, ⟨103, _⟩ => ⟨S_, .f32⟩
  | .hbm, ⟨104, _⟩ => ⟨S2x16384x2048, .f32⟩
  | .hbm, ⟨105, _⟩ => ⟨S2x16384x2048, .f32⟩
  | .hbm, ⟨106, _⟩ => ⟨S2x16384x2048, .f32⟩
  | .hbm, ⟨107, _⟩ => ⟨S2x16384x2048, .f32⟩
  | .hbm, ⟨108, _⟩ => ⟨S2x16384x2048, .f32⟩
  | .hbm, ⟨109, _⟩ => ⟨S2x16384x2048, .f32⟩
  | .hbm, ⟨110, _⟩ => ⟨S2x16384x2048, .f32⟩
  | .hbm, ⟨111, _⟩ => ⟨S2x16384x2048, .f32⟩
  | .hbm, ⟨112, _⟩ => ⟨S2x16384x2048, .f32⟩
  | .hbm, ⟨113, _⟩ => ⟨S_, .f32⟩
  | .hbm, ⟨114, _⟩ => ⟨S2x16384, .f32⟩
  | .hbm, ⟨115, _⟩ => ⟨S2x16384x1, .f32⟩
  | .hbm, ⟨116, _⟩ => ⟨S_, .f32⟩
  | .hbm, ⟨117, _⟩ => ⟨S2x16384x1, .f32⟩
  | .hbm, ⟨118, _⟩ => ⟨S2x16384x1, .f32⟩
  | .hbm, ⟨119, _⟩ => ⟨S_, .f32⟩
  | .hbm, ⟨120, _⟩ => ⟨S2x16384x1, .f32⟩
  | .hbm, ⟨121, _⟩ => ⟨S2x16384x1, .f32⟩
  | .hbm, ⟨122, _⟩ => ⟨S2x16384x1, .f32⟩
  | .hbm, ⟨123, _⟩ => ⟨S2x16384x2048, .f32⟩
  | .hbm, ⟨124, _⟩ => ⟨S2x16384x2048, .f32⟩
  | .hbm, ⟨125, _⟩ => ⟨S1x1x2048, .f32⟩
  | .hbm, ⟨126, _⟩ => ⟨S2x16384x2048, .f32⟩
  | .hbm, ⟨127, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c : Ref sig .tc := ⟨.hbm, 59, rfl⟩
abbrev main_v36 : Ref sig .tc := ⟨.hbm, 60, rfl⟩
abbrev main_v37 : Ref sig .tc := ⟨.hbm, 61, rfl⟩
abbrev main_c_3 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_6 : Ref sig .tc := ⟨.hbm, 113, rfl⟩
abbrev main_v78 : Ref sig .tc := ⟨.hbm, 114, rfl⟩
abbrev main_v79 : Ref sig .tc := ⟨.hbm, 115, rfl⟩
abbrev main_cst_7 : Ref sig .tc := ⟨.hbm, 116, rfl⟩
abbrev main_v80 : Ref sig .tc := ⟨.hbm, 117, rfl⟩
abbrev main_v81 : Ref sig .tc := ⟨.hbm, 118, rfl⟩
abbrev main_cst_8 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x2048 : Shape := ⟨2, ![2, 2048]⟩
abbrev S2048 : Shape := ⟨1, ![2048]⟩
abbrev S16384x2x32 : Shape := ⟨3, ![16384, 2, 32]⟩
abbrev S2048x6144 : Shape := ⟨2, ![2048, 6144]⟩
abbrev S6144 : Shape := ⟨1, ![6144]⟩
abbrev S2048x5120 : Shape := ⟨2, ![2048, 5120]⟩
abbrev S2048x2048 : Shape := ⟨2, ![2048, 2048]⟩
abbrev S2048x4096 : Shape := ⟨2, ![2048, 4096]⟩
abbrev S4x512x512 : Shape := ⟨3, ![4, 512, 512]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S1x6144 : Shape := ⟨2, ![1, 6144]⟩
abbrev S8x1x6144 : Shape := ⟨3, ![8, 1, 6144]⟩
abbrev S2048x1536 : Shape := ⟨2, ![2048, 1536]⟩
abbrev S1x1536 : Shape := ⟨2, ![1, 1536]⟩
abbrev S8x1x1536 : Shape := ⟨3, ![8, 1, 1536]⟩
abbrev S8x1536 : Shape := ⟨2, ![8, 1536]⟩
abbrev S16384x1x32 : Shape := ⟨3, ![16384, 1, 32]⟩
abbrev S16384x32 : Shape := ⟨2, ![16384, 32]⟩
abbrev S16384x128 : Shape := ⟨2, ![16384, 128]⟩
abbrev S2048x512 : Shape := ⟨2, ![2048, 512]⟩
abbrev S2x16384x1536 : Shape := ⟨3, ![2, 16384, 1536]⟩
abbrev S2x16384x512 : Shape := ⟨3, ![2, 16384, 512]⟩
abbrev S1x512x2048 : Shape := ⟨3, ![1, 512, 2048]⟩
abbrev S1x1x2048 : Shape := ⟨3, ![1, 1, 2048]⟩
abbrev S512x128 : Shape := ⟨2, ![512, 128]⟩
abbrev S32x2048 : Shape := ⟨2, ![32, 2048]⟩
abbrev S32x4096 : Shape := ⟨2, ![32, 4096]⟩
abbrev S32x512 : Shape := ⟨2, ![32, 512]⟩
abbrev S1x512x1536 : Shape := ⟨3, ![1, 512, 1536]⟩
abbrev S1x512x512 : Shape := ⟨3, ![1, 512, 512]⟩
abbrev S512x2048 : Shape := ⟨2, ![512, 2048]⟩
abbrev S256x128 : Shape := ⟨2, ![256, 128]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1x256x512 : Shape := ⟨3, ![1, 256, 512]⟩
abbrev S1x256x128 : Shape := ⟨3, ![1, 256, 128]⟩

abbrev nBuf : Space → Nat
  | .hbm => 59
  | .vmem => 46
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2048, .f32⟩
  | .hbm, ⟨3, _⟩ => ⟨S16384x2x32, .f32⟩
  | .hbm, ⟨4, _⟩ => ⟨S16384x2x32, .f32⟩
  | .hbm, ⟨5, _⟩ => ⟨S2048, .f32⟩
  | .hbm, ⟨6, _⟩ => ⟨S2048x6144, .f32⟩
  | .hbm, ⟨7, _⟩ => ⟨S6144, .f32⟩
  | .hbm, ⟨8, _⟩ => ⟨S2048x5120, .f32⟩
  | .hbm, ⟨9, _⟩ => ⟨S2048x2048, .f32⟩
  | .hbm, ⟨10, _⟩ => ⟨S2048x4096, .f32⟩
  | .hbm, ⟨11, _⟩ => ⟨S4x512x512, .f32⟩
  | .hbm, ⟨12, _⟩ => ⟨S2048x2048, .f32⟩
  | .hbm, ⟨13, _⟩ => ⟨S1x2048, .f32⟩
  | .hbm, ⟨14, _⟩ => ⟨S_, .f32⟩
  | .hbm, ⟨15, _⟩ => ⟨S5x2048, .f32⟩
  | .hbm, ⟨16, _⟩ => ⟨S8x2048, .f32⟩
  | .hbm, ⟨17, _⟩ => ⟨S1x6144, .f32⟩
  | .hbm, ⟨18, _⟩ => ⟨S8x1x6144, .f32⟩
  | .hbm, ⟨19, _⟩ => ⟨S16384x1x32, .f32⟩
  | .hbm, ⟨20, _⟩ => ⟨S16384x32, .f32⟩
  | .hbm, ⟨21, _⟩ => ⟨S16384x1x32, .f32⟩
  | .hbm, ⟨22, _⟩ => ⟨S16384x32, .f32⟩
  | .hbm, ⟨23, _⟩ => ⟨S16384x1x32, .f32⟩
  | .hbm, ⟨24, _⟩ => ⟨S16384x32, .f32⟩
  | .hbm, ⟨25, _⟩ => ⟨S16384x1x32, .f32⟩
  | .hbm, ⟨26, _⟩ => ⟨S16384x32, .f32⟩
  | .hbm, ⟨27, _⟩ => ⟨S16384x128, .f32⟩
  | .hbm, ⟨28, _⟩ => ⟨S16384x1x32, .f32⟩
  | .hbm, ⟨29, _⟩ => ⟨S16384x32, .f32⟩
  | .hbm, ⟨30, _⟩ => ⟨S16384x32, .f32⟩
  | .hbm, ⟨31, _⟩ => ⟨S16384x1x32, .f32⟩
  | .hbm, ⟨32, _⟩ => ⟨S16384x32, .f32⟩
  | .hbm, ⟨33, _⟩ => ⟨S16384x1x32, .f32⟩
  | .hbm, ⟨34, _⟩ => ⟨S16384x32, .f32⟩
  | .hbm, ⟨35, _⟩ => ⟨S16384x32, .f32⟩
  | .hbm, ⟨36, _⟩ => ⟨S16384x1x32, .f32⟩
  | .hbm, ⟨37, _⟩ => ⟨S16384x32, .f32⟩
  | .hbm, ⟨38, _⟩ => ⟨S16384x128, .f32⟩
  | .hbm, ⟨39, _⟩ => ⟨S2048x512, .f32⟩
  | .hbm, ⟨40, _⟩ => ⟨S2048x5120, .bf16⟩
  | .hbm, ⟨41, _⟩ => ⟨S1x2048, .f32⟩
  | .hbm, ⟨42, _⟩ => ⟨S2x16384x1536, .bf16⟩
  | .hbm, ⟨43, _⟩ => ⟨S2x16384x512, .bf16⟩
  | .hbm, ⟨44, _⟩ => ⟨S2x16384x512, .bf16⟩
  | .hbm, ⟨45, _⟩ => ⟨S2x16384x512, .f32⟩
  | .hbm, ⟨46, _⟩ => ⟨S2x16384x2048, .bf16⟩
  | .hbm, ⟨47, _⟩ => ⟨S2048x2048, .bf16⟩
  | .hbm, ⟨48, _⟩ => ⟨S2048x4096, .bf16⟩
  | .hbm, ⟨49, _⟩ => ⟨S2048x512, .bf16⟩
  | .hbm, ⟨50, _⟩ => ⟨S2048x2048, .bf16⟩
  | .hbm, ⟨51, _⟩ => ⟨S2x16384x1536, .f32⟩
  | .hbm, ⟨52, _⟩ => ⟨S2x16384x512, .f32⟩
  | .hbm, ⟨53, _⟩ => ⟨S2x16384x512, .f32⟩
  | .hbm, ⟨54, _⟩ => ⟨S2x16384x2048, .f32⟩
  | .hbm, ⟨55, _⟩ => ⟨S2048x2048, .f32⟩
  | .hbm, ⟨56, _⟩ => ⟨S2048x4096, .f32⟩
  | .hbm, ⟨57, _⟩ => ⟨S2048x512, .f32⟩
  | .hbm, ⟨58, _⟩ => ⟨S2048x2048, .f32⟩
  | .local _ .vmem, ⟨0, _⟩ => ⟨S8x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S8x1x1536, .f32⟩
  | .local _ .vmem, ⟨6, _⟩ => ⟨S8x1x1536, .f32⟩
  | .local _ .vmem, ⟨7, _⟩ => ⟨S1x512x2048, .f32⟩
  | .local _ .vmem, ⟨8, _⟩ => ⟨S1x512x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S2048x5120, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S32x2048, .f32⟩
  | .local _ .vmem, ⟨20, _⟩ => ⟨S32x2048, .f32⟩
  | .local _ .vmem, ⟨21, _⟩ => ⟨S32x4096, .f32⟩
  | .local _ .vmem, ⟨22, _⟩ => ⟨S32x4096, .f32⟩
  | .local _ .vmem, ⟨23, _⟩ => ⟨S32x512, .f32⟩
  | .local _ .vmem, ⟨24, _⟩ => ⟨S32x512, .f32⟩
  | .local _ .vmem, ⟨25, _⟩ => ⟨S32x2048, .f32⟩
  | .local _ .vmem, ⟨26, _⟩ => ⟨S32x2048, .f32⟩
  | .local _ .vmem, ⟨27, _⟩ => ⟨S1x512x1536, .bf16⟩
  | .local _ .vmem, ⟨28, _⟩ => ⟨S1x512x1536, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .f32⟩
  | .local _ .vmem, ⟨34, _⟩ => ⟨S1x512x512, .f32⟩
  | .local _ .vmem, ⟨35, _⟩ => ⟨S1x512x2048, .bf16⟩
  | .local _ .vmem, ⟨36, _⟩ => ⟨S1x512x2048, .bf16⟩
  | .local _ .vmem, ⟨37, _⟩ => ⟨S32x2048, .bf16⟩
  | .local _ .vmem, ⟨38, _⟩ => ⟨S32x2048, .bf16⟩
  | .local _ .vmem, ⟨39, _⟩ => ⟨S32x4096, .bf16⟩
  | .local _ .vmem, ⟨40, _⟩ => ⟨S32x4096, .bf16⟩
  | .local _ .vmem, ⟨41, _⟩ => ⟨S32x512, .bf16⟩
  | .local _ .vmem, ⟨42, _⟩ => ⟨S32x512, .bf16⟩
  | .local _ .vmem, ⟨43, _⟩ => ⟨S32x2048, .bf16⟩
  | .local _ .vmem, ⟨44, _⟩ => ⟨S32x2048, .bf16⟩
  | .local _ .vmem, ⟨45, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev main_v28_3 : Ref sig .tc := ⟨.hbm, 45, rfl⟩
abbrev main_v28_4 : Ref sig .tc := ⟨.hbm, 46, rfl⟩
abbrev main_v28_5 : Ref sig .tc := ⟨.hbm, 47, rfl⟩
abbrev main_v28_6 : Ref sig .tc := ⟨.hbm, 48, rfl⟩
abbrev main_v28_7 : Ref sig .tc := ⟨.hbm, 49, rfl⟩
abbrev main_v28_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg15_1 : Ref sig .tc := ⟨.vmem, 36, rfl⟩
abbrev cc1_stg16_0 : Ref sig .tc := ⟨.vmem, 37, rfl⟩
abbrev cc1_stg16_1 : Ref sig .tc := ⟨.vmem, 38, rfl⟩
abbrev cc1_stg17_0 : Ref sig .tc := ⟨.vmem, 39, rfl⟩
abbrev cc1_stg17_1 : Ref sig .tc := ⟨.vmem, 40, rfl⟩
abbrev cc1_stg18_0 : Ref sig .tc := ⟨.vmem, 41, rfl⟩
abbrev cc1_stg18_1 : Ref sig .tc := ⟨.vmem, 42, rfl⟩
abbrev cc1_stg19_0 : Ref sig .tc := ⟨.vmem, 43, rfl⟩
abbrev cc1_stg19_1 : Ref sig .tc := ⟨.vmem, 44, rfl⟩
abbrev cc1_scratch0 : Ref sig .tc := ⟨.vmem, 45, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37
abbrev cc1_sem16_1 : DmaSem sig := 38
abbrev cc1_sem17_0 : DmaSem sig := 39
abbrev cc1_sem17_1 : DmaSem sig := 40
abbrev cc1_sem18_0 : DmaSem sig := 41
abbrev cc1_sem18_1 : DmaSem sig := 42
abbrev cc1_sem19_0 : DmaSem sig := 43
abbrev cc1_sem19_1 : DmaSem sig := 44

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_16 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_17 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_18 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_19 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S2048x5120 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S32x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S32x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S32x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S32x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x1536 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x512x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x512x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x512x2048 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S32x2048 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S32x4096 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S32x512 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S32x2048 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]
-- ==== Reference2Ideal.lean ====
abbrev S2x16384x2048 : Shape := ⟨3, ![2, 16384, 2048]⟩
abbrev S2x2048 : Shape := ⟨2, ![2, 2048]⟩
abbrev S2048 : Shape := ⟨1, ![2048]⟩
abbrev S16384x2x32 : Shape := ⟨3, ![16384, 2, 32]⟩
abbrev S2048x6144 : Shape := ⟨2, ![2048, 6144]⟩
abbrev S6144 : Shape := ⟨1, ![6144]⟩
abbrev S2048x5120 : Shape := ⟨2, ![2048, 5120]⟩
abbrev S2048x2048 : Shape := ⟨2, ![2048, 2048]⟩
abbrev S2048x4096 : Shape := ⟨2, ![2048, 4096]⟩
abbrev S4x512x512 : Shape := ⟨3, ![4, 512, 512]⟩
abbrev S_ : Shape := ⟨0, ![]⟩
abbrev S2x6144 : Shape := ⟨2, ![2, 6144]⟩
abbrev S1x6144 : Shape := ⟨2, ![1, 6144]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16384x5120 : Shape := ⟨3, ![2, 16384, 5120]⟩
abbrev S2x16384x1536 : Shape := ⟨3, ![2, 16384, 1536]⟩
abbrev S2x16384x512 : Shape := ⟨3, ![2, 16384, 512]⟩
abbrev S2x16384x12x128 : Shape := ⟨4, ![2, 16384, 12, 128]⟩
abbrev S2x16384x12x2x2x32 : Shape := ⟨6, ![2, 16384, 12, 2, 2, 32]⟩
abbrev S2x16384x12x2x1x32 : Shape := ⟨6, ![2, 16384, 12, 2, 1, 32]⟩
abbrev S2x16384x12x2x32 : Shape := ⟨5, ![2, 16384, 12, 2, 32]⟩
abbrev S1x16384x1x2x32 : Shape := ⟨5, ![1, 16384, 1, 2, 32]⟩
abbrev S2x16384x4x128 : Shape := ⟨4, ![2, 16384, 4, 128]⟩
abbrev S2x16384x4x2x2x32 : Shape := ⟨6, ![2, 16384, 4, 2, 2, 32]⟩
abbrev S2x16384x4x2x1x32 : Shape := ⟨6, ![2, 16384, 4, 2, 1, 32]⟩
abbrev S2x16384x4x2x32 : Shape := ⟨5, ![2, 16384, 4, 2, 32]⟩
abbrev S2048x512 : Shape := ⟨2, ![2048, 512]⟩

abbrev nBuf : Space → Nat
  | .hbm => 119
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2048, .f32⟩
  | .hbm, ⟨3, _⟩ => ⟨S16384x2x32, .f32⟩
  | .hbm, ⟨4, _⟩ => ⟨S16384x2x32, .f32⟩
  | .hbm, ⟨5, _⟩ => ⟨S2048, .f32⟩
  | .hbm, ⟨6, _⟩ => ⟨S2048x6144, .f32⟩
  | .hbm, ⟨7, _⟩ => ⟨S6144, .f32⟩
  | .hbm, ⟨8, _⟩ => ⟨S2048x5120, .f32⟩
  | .hbm, ⟨9, _⟩ => ⟨S2048x2048, .f32⟩
  | .hbm, ⟨10, _⟩ => ⟨S2048x4096, .f32⟩
  | .hbm, ⟨11, _⟩ => ⟨S4x512x512, .f32⟩
  | .hbm, ⟨12, _⟩ => ⟨S2048x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S2x2048, .f32⟩
  | .hbm, ⟨20, _⟩ => ⟨S2x2048, .f32⟩
  | .hbm, ⟨21, _⟩ => ⟨S2x2048, .f32⟩
  | .hbm, ⟨22, _⟩ => ⟨S2x6144, .f32⟩
  | .hbm, ⟨23, _⟩ => ⟨S1x6144, .f32⟩
  | .hbm, ⟨24, _⟩ => ⟨S2x6144, .f32⟩
  | .hbm, ⟨25, _⟩ => ⟨S2x6144, .f32⟩
  | .hbm, ⟨26, _⟩ => ⟨S2x2048, .f32⟩
  | .hbm, ⟨27, _⟩ => ⟨S2x2048, .f32⟩
  | .hbm, ⟨28, _⟩ => ⟨S2x2048, .f32⟩
  | .hbm, ⟨29, _⟩ => ⟨S2x16384x2048, .f32⟩
  | .hbm, ⟨30, _⟩ => ⟨S_, .f32⟩
  | .hbm, ⟨31, _⟩ => ⟨S2x16384, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S_, .f32⟩
  | .hbm, ⟨37, _⟩ => ⟨S2x16384x1, .f32⟩
  | .hbm, ⟨38, _⟩ => ⟨S2x16384x1, .f32⟩
  | .hbm, ⟨39, _⟩ => ⟨S2x16384x1, .f32⟩
  | .hbm, ⟨40, _⟩ => ⟨S2x16384x2048, .f32⟩
  | .hbm, ⟨41, _⟩ => ⟨S2x16384x2048, .f32⟩
  | .hbm, ⟨42, _⟩ => ⟨S1x1x2048, .f32⟩
  | .hbm, ⟨43, _⟩ => ⟨S2x16384x2048, .f32⟩
  | .hbm, ⟨44, _⟩ => ⟨S2x16384x2048, .f32⟩
  | .hbm, ⟨45, _⟩ => ⟨S2x1x2048, .f32⟩
  | .hbm, ⟨46, _⟩ => ⟨S_, .f32⟩
  | .hbm, ⟨47, _⟩ => ⟨S2x1x2048, .f32⟩
  | .hbm, ⟨48, _⟩ => ⟨S2x1x2048, .f32⟩
  | .hbm, ⟨49, _⟩ => ⟨S2x16384x2048, .f32⟩
  | .hbm, ⟨50, _⟩ => ⟨S2x16384x2048, .f32⟩
  | .hbm, ⟨51, _⟩ => ⟨S2x1x2048, .f32⟩
  | .hbm, ⟨52, _⟩ => ⟨S2x16384x2048, .f32⟩
  | .hbm, ⟨53, _⟩ => ⟨S2x16384x2048, .f32⟩
  | .hbm, ⟨54, _⟩ => ⟨S2x16384x5120, .f32⟩
  | .hbm, ⟨55, _⟩ => ⟨S2x16384x1536, .f32⟩
  | .hbm, ⟨56, _⟩ => ⟨S2x16384x512, .f32⟩
  | .hbm, ⟨57, _⟩ => ⟨S2x16384x512, .f32⟩
  | .hbm, ⟨58, _⟩ => ⟨S2x16384x512, .f32⟩
  | .hbm, ⟨59, _⟩ => ⟨S2x16384x2048, .f32⟩
  | .hbm, ⟨60, _⟩ => ⟨S2x16384x12x128, .f32⟩
  | .hbm, ⟨61, _⟩ => ⟨S2x16384x12x2x2x32, .f32⟩
  | .hbm, ⟨62, _⟩ => ⟨S2x16384x12x2x1x32, .f32⟩
  | .hbm, ⟨63, _⟩ => ⟨S2x16384x12x2x32, .f32⟩
  | .hbm, ⟨64, _⟩ => ⟨S2x16384x12x2x1x32, .f32⟩
  | .hbm, ⟨65, _⟩ => ⟨S2x16384x12x2x32, .f32⟩
  | .hbm, ⟨66, _⟩ => ⟨S1x16384x1x2x32, .f32⟩
  | .hbm, ⟨67, _⟩ => ⟨S1x16384x1x2x32, .f32⟩
  | .hbm, ⟨68, _⟩ => ⟨S2x16384x12x2x32, .f32⟩
  | .hbm, ⟨69, _⟩ => ⟨S2x16384x12x2x32, .f32⟩
  | .hbm, ⟨70, _⟩ => ⟨S2x16384x12x2x32, .f32⟩
  | .hbm, ⟨71, _⟩ => ⟨S2x16384x12x2x32, .f32⟩
  | .hbm, ⟨72, _⟩ => ⟨S2x16384x12x2x32, .f32⟩
  | .hbm, ⟨73, _⟩ => ⟨S2x16384x12x2x32, .f32⟩
  | .hbm, ⟨74, _⟩ => ⟨S2x16384x12x2x32, .f32⟩
  | .hbm, ⟨75, _⟩ => ⟨S2x16384x12x2x32, .f32⟩
  | .hbm, ⟨76, _⟩ => ⟨S2x16384x12x2x32, .f32⟩
  | .hbm, ⟨77, _⟩ => ⟨S2x16384x12x2x32, .f32⟩
  | .hbm, ⟨78, _⟩ => ⟨S2x16384x12x2x1x32, .f32⟩
  | .hbm, ⟨79, _⟩ => ⟨S2x16384x12x2x1x32, .f32⟩
  | .hbm, ⟨80, _⟩ => ⟨S2x16384x12x2x2x32, .f32⟩
  | .hbm, ⟨81, _⟩ => ⟨S2x16384x12x128, .f32⟩
  | .hbm, ⟨82, _⟩ => ⟨S2x16384x1536, .f32⟩
  | .hbm, ⟨83, _⟩ => ⟨S2x16384x4x128, .f32⟩
  | .hbm, ⟨84, _⟩ => ⟨S2x16384x4x2x2x32, .f32⟩
  | .hbm, ⟨85, _⟩ => ⟨S2x16384x4x2x1x32, .f32⟩
  | .hbm, ⟨86, _⟩ => ⟨S2x16384x4x2x32, .f32⟩
  | .hbm, ⟨87, _⟩ => ⟨S2x16384x4x2x1x32, .f32⟩
  | .hbm, ⟨88, _⟩ => ⟨S2x16384x4x2x32, .f32⟩
  | .hbm, ⟨89, _⟩ => ⟨S1x16384x1x2x32, .f32⟩
  | .hbm, ⟨90, _⟩ => ⟨S1x16384x1x2x32, .f32⟩
  | .hbm, ⟨91, _⟩ => ⟨S2x16384x4x2x32, .f32⟩
  | .hbm, ⟨92, _⟩ => ⟨S2x16384x4x2x32, .f32⟩
  | .hbm, ⟨93, _⟩ => ⟨S2x16384x4x2x32, .f32⟩
  | .hbm, ⟨94, _⟩ => ⟨S2x16384x4x2x32, .f32⟩
  | .hbm, ⟨95, _⟩ => ⟨S2x16384x4x2x32, .f32⟩
  | .hbm, ⟨96, _⟩ => ⟨S2x16384x4x2x32, .f32⟩
  | .hbm, ⟨97, _⟩ => ⟨S2x16384x4x2x32, .f32⟩
  | .hbm, ⟨98, _⟩ => ⟨S2x16384x4x2x32, .f32⟩
  | .hbm, ⟨99, _⟩ => ⟨S2x16384x4x2x32, .f32⟩
  | .hbm, ⟨100, _⟩ => ⟨S2x16384x4x2x32, .f32⟩
  | .hbm, ⟨101, _⟩ => ⟨S2x16384x4x2x1x32, .f32⟩
  | .hbm, ⟨102, _⟩ => ⟨S2x16384x4x2x1x32, .f32⟩
  | .hbm, ⟨103, _⟩ => ⟨S2x16384x4x2x2x32, .f32⟩
  | .hbm, ⟨104, _⟩ => ⟨S2x16384x4x128, .f32⟩
  | .hbm, ⟨105, _⟩ => ⟨S2x16384x512, .f32⟩
  | .hbm, ⟨106, _⟩ => ⟨S_, .f32⟩
  | .hbm, ⟨107, _⟩ => ⟨S2x16384x1536, .f32⟩
  | .hbm, ⟨108, _⟩ => ⟨S2x16384x1536, .f32⟩
  | .hbm, ⟨109, _⟩ => ⟨S2x16384x2048, .f32⟩
  | .hbm, ⟨110, _⟩ => ⟨S2x16384x2048, .f32⟩
  | .hbm, ⟨111, _⟩ => ⟨S_, .f32⟩
  | .hbm, ⟨112, _⟩ => ⟨S2x16384x2048, .f32⟩
  | .hbm, ⟨113, _⟩ => ⟨S2x16384x2048, .f32⟩
  | .hbm, ⟨114, _⟩ => ⟨S_, .f32⟩
  | .hbm, ⟨115, _⟩ => ⟨S2x16384x2048, .f32⟩
  | .hbm, ⟨116, _⟩ => ⟨S2x16384x2048, .f32⟩
  | .hbm, ⟨117, _⟩ => ⟨S2x16384x2048, .f32⟩
  | .hbm, ⟨118, _⟩ => ⟨S2048x512, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_3 : Ref sig .tc := ⟨.hbm, 106, rfl⟩
abbrev main_v81 : Ref sig .tc := ⟨.hbm, 107, rfl⟩
abbrev main_v82 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]
-- ==== Kernel3.lean ====
abbrev S2x16384x1536 : Shape := ⟨3, ![2, 16384, 1536]⟩
abbrev S2x16384x512 : Shape := ⟨3, ![2, 16384, 512]⟩
abbrev S2x16384x2048 : Shape := ⟨3, ![2, 16384, 2048]⟩
abbrev S2x2048 : Shape := ⟨2, ![2, 2048]⟩
abbrev S2048x2048 : Shape := ⟨2, ![2048, 2048]⟩
abbrev S_ : Shape := ⟨0, ![]⟩
abbrev S2x4096 : Shape := ⟨2, ![2, 4096]⟩
abbrev S2x6144 : Shape := ⟨2, ![2, 6144]⟩
abbrev S6x6144 : Shape := ⟨2, ![6, 6144]⟩
abbrev S8x6144 : Shape := ⟨2, ![8, 6144]⟩
abbrev S8x1x6144 : Shape := ⟨3, ![8, 1, 6144]⟩
abbrev S1x512x1536 : Shape := ⟨3, ![1, 512, 1536]⟩
abbrev S1x512x512 : Shape := ⟨3, ![1, 512, 512]⟩
abbrev S1x512x2048 : Shape := ⟨3, ![1, 512, 2048]⟩
abbrev S1x1x2048 : Shape := ⟨3, ![1, 1, 2048]⟩
abbrev S512x1536 : Shape := ⟨2, ![512, 1536]⟩
abbrev S512x512 : Shape := ⟨2, ![512, 512]⟩
abbrev S1536x2048 : Shape := ⟨2, ![1536, 2048]⟩
abbrev S512x2048 : Shape := ⟨2, ![512, 2048]⟩
abbrev S1x2048 : Shape := ⟨2, ![1, 2048]⟩

abbrev nBuf : Space → Nat
  | .hbm => 17
  | .vmem => 13
  | .smem => 0
  | _ => 0

abbrev bufTy : (tb : Table) → Fin (tcTables nBuf tb) → BufTy
  | .hbm, ⟨0, _⟩ => ⟨S2x16384x1536, .f32⟩
  | .hbm, ⟨1, _⟩ => ⟨S2x16384x512, .f32⟩
  | .hbm, ⟨2, _⟩ => ⟨S2x16384x2048, .f32⟩
  | .hbm, ⟨3, _⟩ => ⟨S2x16384x2048, .f32⟩
  | .hbm, ⟨4, _⟩ => ⟨S2x2048, .f32⟩
  | .hbm, ⟨5, _⟩ => ⟨S2048x2048, .f32⟩
  | .hbm, ⟨6, _⟩ => ⟨S_, .f32⟩
  | .hbm, ⟨7, _⟩ => ⟨S2x4096, .f32⟩
  | .hbm, ⟨8, _⟩ => ⟨S2x6144, .f32⟩
  | .hbm, ⟨9, _⟩ => ⟨S_, .f32⟩
  | .hbm, ⟨10, _⟩ => ⟨S6x6144, .f32⟩
  | .hbm, ⟨11, _⟩ => ⟨S8x6144, .f32⟩
  | .hbm, ⟨12, _⟩ => ⟨S8x1x6144, .f32⟩
  | .hbm, ⟨13, _⟩ => ⟨S2x16384x1536, .bf16⟩
  | .hbm, ⟨14, _⟩ => ⟨S2x16384x2048, .bf16⟩
  | .hbm, ⟨15, _⟩ => ⟨S2048x2048, .bf16⟩
  | .hbm, ⟨16, _⟩ => ⟨S2x16384x2048, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x512, .f32⟩
  | .local _ .vmem, ⟨3, _⟩ => ⟨S1x512x512, .f32⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x2048, .bf16⟩
  | .local _ .vmem, ⟨11, _⟩ => ⟨S1x512x2048, .f32⟩
  | .local _ .vmem, ⟨12, _⟩ => ⟨S1x512x2048, .f32⟩
  | _, _ => ⟨S2x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S2x16384x1536 : Shape := ⟨3, ![2, 16384, 1536]⟩
abbrev S2x16384x512 : Shape := ⟨3, ![2, 16384, 512]⟩
abbrev S2x16384x2048 : Shape := ⟨3, ![2, 16384, 2048]⟩
abbrev S2x2048 : Shape := ⟨2, ![2, 2048]⟩
abbrev S2048x2048 : Shape := ⟨2, ![2048, 2048]⟩
abbrev S2x1x2048 : Shape := ⟨3, ![2, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x16384x1536, .f32⟩
  | .hbm, ⟨1, _⟩ => ⟨S2x16384x512, .f32⟩
  | .hbm, ⟨2, _⟩ => ⟨S2x16384x2048, .f32⟩
  | .hbm, ⟨3, _⟩ => ⟨S2x16384x2048, .f32⟩
  | .hbm, ⟨4, _⟩ => ⟨S2x2048, .f32⟩
  | .hbm, ⟨5, _⟩ => ⟨S2048x2048, .f32⟩
  | .hbm, ⟨6, _⟩ => ⟨S2x16384x2048, .f32⟩
  | .hbm, ⟨7, _⟩ => ⟨S2x1x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | _, _ => ⟨S2x16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Spec.lean ====
/- The mathematics of the pooling layer as plain functions on extended reals: what both programs compute. -/
module

public import Idealize.ShloMosaic.Lib.Pointwise

@[expose] public section
noncomputable section
namespace Cert.Pool
open Idealize.ShloMosaic

/-- The width of the model, as the programs' own constant. -/
def width : EReal := Ideal.ofBits .f32 0x45000000#32
/-- The small constant under the root. -/
def tiny : EReal := Ideal.ofBits .f32 0x358637BD#32
/-- One half. -/
def half : EReal := Ideal.ofBits .f32 0x3F000000#32

/-- The gate as the kernel writes it, through the hyperbolic tangent. -/
def tanhGate (z : EReal) : EReal := half * z + half * z * Ideal.tanh (half * z)

/-- One row divided by the root of its mean square. -/
def unitRow (x : Fin 2048 → EReal) (k : Fin 2048) : EReal :=
  x k * Ideal.rsqrt (Ideal.div (∑ j, x j * x j) width + tiny)

/-- One row normalised, weighted, scaled and shifted. -/
def modRow (x g sc sh : Fin 2048 → EReal) (k : Fin 2048) : EReal := unitRow x k * g k * (1 + sc k) + sh k

/-- An inner product. -/
def inner {n : ℕ} (a b : Fin n → EReal) : EReal := ∑ k, a k * b k

/-- A channel of a group. -/
def chan (g : Fin 4) (d : Fin 512) : Fin 2048 := ⟨512 * g.val + d.val, by omega⟩
/-- A channel's group. -/
def grpOf (j : Fin 2048) : Fin 4 := ⟨j.val / 512, by omega⟩
/-- A channel's place in its group. -/
def remOf (j : Fin 2048) : Fin 512 := ⟨j.val % 512, by omega⟩

/-! ## The layer, over a gate and a windowed mean -/

section
variable (gate : EReal → EReal) (mean : (Fin 16384 → Fin 2048 → EReal) → Fin 16384 → Fin 2048 → EReal)
  (x : Fin 2 → Fin 16384 → Fin 2048 → EReal) (c : Fin 2 → Fin 2048 → EReal) (g : Fin 2048 → EReal) (wm : Fin 2048 → Fin 6144 → EReal) (bm : Fin 6144 → EReal)
  (win : Fin 2048 → Fin 4096 → EReal) (wg : Fin 4 → Fin 512 → Fin 512 → EReal) (ls : Fin 2048 → EReal) (wo : Fin 2048 → Fin 2048 → EReal) (fn : Fin 2048 → EReal)

/-- The modulation of a batch row. -/
def modAt (b : Fin 2) (k : Fin 6144) : EReal := inner (fun j => gate (c b j)) (fun j => wm j k) + bm k
/-- A token's modulated row. -/
def hAt (b : Fin 2) (t : Fin 16384) : Fin 2048 → EReal :=
  modRow (x b t) g (fun k => modAt gate c wm bm b ⟨2048 + k.val, by omega⟩) (fun k => modAt gate c wm bm b ⟨k.val, by omega⟩)
/-- The mixer's input. -/
def uAt (b : Fin 2) (t : Fin 16384) (j : Fin 2048) : EReal := inner (hAt gate x c g wm bm b t) (fun k => win k ⟨j.val, by omega⟩)
/-- The mixer's gate. -/
def zAt (b : Fin 2) (t : Fin 16384) (j : Fin 2048) : EReal := gate (inner (hAt gate x c g wm bm b t) (fun k => win k ⟨2048 + j.val, by omega⟩))
/-- The pooled values mixed within a group. -/
def mixOf (u : Fin 16384 → Fin 2048 → EReal) (t : Fin 16384) (q : Fin 4) (e : Fin 512) : EReal :=
  ∑ d : Fin 512, (mean u t (chan q d) - u t (chan q d)) * wg q d e
/-- A token's row with the branch added. -/
def resOf (b : Fin 2) (t : Fin 16384) (k : Fin 2048) : EReal :=
  x b t k + modAt gate c wm bm b ⟨4096 + k.val, by omega⟩
    * inner (fun j => mixOf mean wg (uAt gate x c g wm bm win b) t (grpOf j) (remOf j) * ls j * zAt gate x c g wm bm win b t j) (fun j => wo j k)
/-- The layer's output after the last norm. -/
def layer (b : Fin 2) (t : Fin 16384) (k : Fin 2048) : EReal := unitRow (resOf gate mean x c g wm bm win wg ls wo b t) k * fn k
end

end Cert.Pool
end
-- ==== Proof.Pool.lean ====
/- The pooling kernel's pieces: the extended rows, the four groups' mixed values, and the projection with the norm. -/
module

public import proofs.«01_k».proof.Proof.Gen.KernelIdeal.Frame
public import proofs.«01_k».proof.Proof.Spec

@[expose] public section
set_option maxRecDepth 16384
noncomputable section
namespace Cert.KernelIdeal.Val
open Idealize.ShloMosaic Idealize.ShloMosaic.TcCoe Idealize.ShloMosaic.Tactic
open Idealize.SL Idealize.SL.Sem
open Cert.KernelIdeal Cert.KernelIdeal.Gen Cert.Pool

/-- The rows the windows read: the block between two halos, empty at the ends of the sequence and beyond the halos. -/
def extRows (i : ℕ) (x0 : Vec Ideal S1x512x2048 .bf16) (x1 x2 : Vec Ideal S1x16x2048 .bf16) : S640x2048.Idx → EReal := fun y =>
  if h0 : (y 0).val < 48 then 0
  else if h1 : (y 0).val < 64 then (if 0 < i then x1 (ix3 0 ⟨(y 0).val - 48, by omega⟩ (y 1)) else 0)
  else if h2 : (y 0).val < 576 then x0 (ix3 0 ⟨(y 0).val - 64, by omega⟩ (y 1))
  else if h3 : (y 0).val < 592 then (if i < 31 then x2 (ix3 0 ⟨(y 0).val - 576, by omega⟩ (y 1)) else 0)
  else 0

/-- A row's factor: the edge table's row at the ends of the sequence, the inner row elsewhere. -/
def rowInv (i : ℕ) (fst lst : Fin 8 → EReal) (mid : EReal) (r : Fin 512) : EReal :=
  if h : r.val < 8 then (if i = 0 then fst ⟨r.val, h⟩ else mid)
  else if h2 : r.val < 504 then mid
  else if i = 31 then lst ⟨r.val - 504, by omega⟩ else mid

/-- A row's window sum through the band. -/
def bandSum (bd : S4x128x256.Idx → EReal) (ext : S640x2048.Idx → EReal) (g : Fin 4) (r : Fin 512) (j : Fin 2048) : EReal :=
  ∑ e : Fin 256, bd (ix3 g ⟨r.val % 128, by omega⟩ e) * ext (ix2 ⟨128 * (r.val / 128) + e.val, by omega⟩ j)

/-- One group's mixed value. -/
def mixAt (i : ℕ) (ext : S640x2048.Idx → EReal) (x0 : Vec Ideal S1x512x2048 .bf16) (x8 x9 : Vec Ideal S8x2048 .f32) (x10 : Vec Ideal S1x2048 .f32)
    (x11 : Vec Ideal S4x128x256 .bf16) (x12 : Vec Ideal S4x512x512 .bf16) (g : Fin 4) (r : Fin 512) (e : Fin 512) : EReal :=
  ∑ d : Fin 512, (bandSum x11 ext g r (chan g d) * rowInv i (fun a => x8 (ix2 a (chan g d))) (fun a => x9 (ix2 a (chan g d))) (x10 (ix2 0 (chan g d))) r
    - x0 (ix3 0 r (chan g d))) * x12 (ix3 g d e)

/-- The mixed rows of a block. -/
def mixRows (i : ℕ) (ext : S640x2048.Idx → EReal) (x0 : Vec Ideal S1x512x2048 .bf16) (x8 x9 : Vec Ideal S8x2048 .f32) (x10 : Vec Ideal S1x2048 .f32)
    (x11 : Vec Ideal S4x128x256 .bf16) (x12 : Vec Ideal S4x512x512 .bf16) : S512x2048.Idx → EReal := fun y =>
  mixAt i ext x0 x8 x9 x10 x11 x12 ⟨(y 1).val / 512, by have h : (y 1).val < 2048 := (y 1).isLt; omega⟩ (y 0) ⟨(y 1).val % 512, by omega⟩

/-- The block's result before the last norm. -/
def resRow (mix : S512x2048.Idx → EReal) (x3 : Vec Ideal S1x512x2048 .bf16) (x4 : Vec Ideal S1x512x2048 .f32) (x5 : Vec Ideal S1x1x2048 .f32)
    (x6 : Vec Ideal S1x2048 .f32) (x13 : Vec Ideal S2048x2048 .bf16) (r : Fin 512) (k : Fin 2048) : EReal :=
  x4 (ix3 0 r k) + x5 (ix3 0 0 k) * Cert.Pool.inner (fun j : Fin 2048 => mix (ix2 r j) * x6 (ix2 0 j) * x3 (ix3 0 r j)) (fun j => x13 (ix2 j k))

/-! ## The groups' payloads in one vocabulary -/

def grp (arg1 : BitVec 32) (ub : Vec Ideal S1x512x512 .bf16) (bd : Vec Ideal S1x128x256 .bf16) (e0 e1 e2 e3 : Vec Ideal S256x512 .bf16)
    (mid : Vec Ideal S1x512 .f32) (fst lst : Vec Ideal S8x512 .f32) (wg : Vec Ideal S1x512x512 .bf16) : FVec Ideal S512x512 .f32 :=
  k2_pay12 arg1 (k2_pay8 ub) (k2_pay9 bd e0 bd e1 bd e2 bd e3) (k2_pay10 mid) (k2_pay11 arg1 mid fst) 31#32 lst wg

section
variable (arg1 : BitVec 32) (ub : Vec Ideal S1x512x512 .bf16) (bd : Vec Ideal S1x128x256 .bf16) (e0 e1 e2 e3 : Vec Ideal S256x512 .bf16)
    (mid : Vec Ideal S1x512 .f32) (fst lst : Vec Ideal S8x512 .f32) (wg : Vec Ideal S1x512x512 .bf16)
theorem grp0 : k2_pay12 arg1 (k2_pay8 ub) (k2_pay9 bd e0 bd e1 bd e2 bd e3) (k2_pay10 mid) (k2_pay11 arg1 mid fst) 31#32 lst wg = grp arg1 ub bd e0 e1 e2 e3 mid fst lst wg := rfl
theorem grp1 : k2_pay17 (k2_pay16 arg1 (k2_pay13 ub) (k2_pay14 bd e0) (k2_pay15 bd e1) bd e2 bd e3 mid fst lst wg) = grp arg1 ub bd e0 e1 e2 e3 mid fst lst wg := rfl
theorem grp2 : k2_pay22 arg1 (k2_pay18 ub) (k2_pay19 bd e0 bd e1 bd e2 bd e3) (k2_pay20 mid) (Scalar.cmpi .eq arg1 0#32) (k2_pay21 fst) lst wg = grp arg1 ub bd e0 e1 e2 e3 mid fst lst wg := rfl
theorem grp3 : k2_pay28 (k2_pay26 arg1 (k2_pay23 ub) (k2_pay24 bd e0) (k2_pay25 bd) e1 (constant (F := Ideal) S128x512 .f32 0x00000000#32) bd e2 bd e3 mid fst lst) (k2_pay27 wg) (constant (F := Ideal) S512x512 .f32 0x00000000#32)
    = grp arg1 ub bd e0 e1 e2 e3 mid fst lst wg := rfl
end

theorem isFirst : ∀ n : Fin 32, Scalar.cmpi .eq (BitVec.ofNat 32 n.val) 0#32 = BitVec.ofBool (decide (n.val = 0)) := by decide
theorem isLast : ∀ n : Fin 32, Scalar.cmpi .eq (BitVec.ofNat 32 n.val) 31#32 = BitVec.ofBool (decide (n.val = 31)) := by decide
theorem hasPrev : ∀ n : Fin 32, Scalar.cmpi .sgt (BitVec.ofNat 32 n.val) 0#32 = BitVec.ofBool (decide (0 < n.val)) := by decide
theorem hasNext : ∀ n : Fin 32, Scalar.cmpi .slt (BitVec.ofNat 32 n.val) 31#32 = BitVec.ofBool (decide (n.val < 31)) := by decide

theorem sel_ofBool {α : Type} (p : Prop) [Decidable p] (a b : α) : Scalar.select (BitVec.ofBool (decide p)) a b = if p then a else b := by
  by_cases h : p <;> simp [h, Scalar.select]

/-- The window sums of a group, row by row. -/
theorem bandTiles_apply (b0 : Vec Ideal S1x128x256 .bf16) (e0 : Vec Ideal S256x512 .bf16) (b1 : Vec Ideal S1x128x256 .bf16) (e1 : Vec Ideal S256x512 .bf16)
    (b2 : Vec Ideal S1x128x256 .bf16) (e2 : Vec Ideal S256x512 .bf16) (b3 : Vec Ideal S1x128x256 .bf16) (e3 : Vec Ideal S256x512 .bf16) (r : Fin 512) (k : Fin 512) :
    k2_pay9 (F := Ideal) b0 e0 b1 e1 b2 e2 b3 e3 (ix2 r k)
      = ∑ e : Fin 256, (if r.val < 128 then b0 else if r.val < 256 then b1 else if r.val < 384 then b2 else b3) (ix3 0 ⟨r.val % 128, by omega⟩ e)
          * (if r.val < 128 then e0 else if r.val < 256 then e1 else if r.val < 384 then e2 else e3) (ix2 e k) := by
  unfold_payloads
  pointwise [dot_S128x256_S256x512_S128x512_1_0_0_1_n_n]
  have hr := r.isLt
  split
  · next h =>
    refine Finset.sum_congr rfl fun e _ => ?_
    simp only [if_pos h, Nat.mod_eq_of_lt h]
  split
  · next h h1 =>
    refine Finset.sum_congr rfl fun e _ => ?_
    simp only [if_neg h, if_pos (show r.val < 256 by omega), show r.val % 128 = r.val - 128 by omega]
  split
  · next h h1 h2 =>
    refine Finset.sum_congr rfl fun e _ => ?_
    simp only [if_neg h, if_neg (show ¬ r.val < 256 by omega), if_pos (show r.val < 384 by omega), show r.val % 128 = r.val - 128 - 128 by omega]
  · next h h1 h2 =>
    refine Finset.sum_congr rfl fun e _ => ?_
    simp only [if_neg h, if_neg (show ¬ r.val < 256 by omega), if_neg (show ¬ r.val < 384 by omega), show r.val % 128 = r.val - 128 - 128 - 128 by omega]
theorem bandTile_apply (bd : Vec Ideal S1x128x256 .bf16) (e0 e1 e2 e3 : Vec Ideal S256x512 .bf16) (r : Fin 512) (k : Fin 512) :
    k2_pay9 (F := Ideal) bd e0 bd e1 bd e2 bd e3 (ix2 r k)
      = ∑ e : Fin 256, bd (ix3 0 ⟨r.val % 128, by omega⟩ e) * (if r.val < 128 then e0 else if r.val < 256 then e1 else if r.val < 384 then e2 else e3) (ix2 e k) := by
  rw [bandTiles_apply]
  simp only [ite_self]

theorem grp_apply (n : Fin 32) (ub : Vec Ideal S1x512x512 .bf16) (bd : Vec Ideal S1x128x256 .bf16) (e0 e1 e2 e3 : Vec Ideal S256x512 .bf16)
    (mid : Vec Ideal S1x512 .f32) (fst lst : Vec Ideal S8x512 .f32) (wg : Vec Ideal S1x512x512 .bf16) (r : Fin 512) (k : Fin 512) :
    grp (BitVec.ofNat 32 n.val) ub bd e0 e1 e2 e3 mid fst lst wg (ix2 r k)
      = ∑ d : Fin 512, ((∑ e : Fin 256, bd (ix3 0 ⟨r.val % 128, by omega⟩ e) * (if r.val < 128 then e0 else if r.val < 256 then e1 else if r.val < 384 then e2 else e3) (ix2 e d))
          * rowInv n.val (fun a => fst (ix2 a d)) (fun a => lst (ix2 a d)) (mid (ix2 0 d)) r - ub (ix3 0 r d)) * wg (ix3 0 d k) := by
  unfold grp
  have hb := fun d : Fin 512 => bandTile_apply bd e0 e1 e2 e3 r d
  simp only [← hb]
  clear hb
  generalize k2_pay9 (F := Ideal) bd e0 bd e1 bd e2 bd e3 = ws
  unfold_payloads
  pointwise [dot_S512x512_S512x512_S512x512_1_0_0_1_n_n]
  refine Finset.sum_congr rfl fun d _ => ?_
  congr 2
  simp only [isFirst, isLast, sel_ofBool]
  unfold rowInv
  have hr := r.isLt
  split
  · next h => rfl
  · next h =>
    split
    · next h1 =>
      rw [dif_pos (show r.val < 504 by omega)]
      congr 3; apply Fin.ext; show 8 + (r.val - 8) = r.val; omega
    · next h1 =>
      rw [dif_neg (show ¬ r.val < 504 by omega)]
      congr 3
      all_goals first | (apply Fin.ext; show 504 + (r.val - 8 - 496) = r.val; omega) | (congr 2; apply Fin.ext; show r.val - 8 - 496 = r.val - 504; omega)

/-- A group's stored tile is the mixed rows at its place. -/
theorem grp_piece (n : Fin 32) (ext : Vec Ideal S640x2048 .bf16) (x0 : Vec Ideal S1x512x2048 .bf16) (x8 x9 : Vec Ideal S8x2048 .f32) (x10 : Vec Ideal S1x2048 .f32)
    (x11 : Vec Ideal S4x128x256 .bf16) (x12 : Vec Ideal S4x512x512 .bf16) (g co : ℕ) (hg : g < 4) (hco : co = 512 * g)
    (hu : ∀ a, (![0, 0, co] : Fin 3 → ℕ) a + S1x512x512.size a ≤ S1x512x2048.size a)
    (hb0 hb1 hb2 hb3 : ∀ a, (![g, 0, 0] : Fin 3 → ℕ) a + S1x128x256.size a ≤ S4x128x256.size a)
    (he0 : ∀ a, (![0, co] : Fin 2 → ℕ) a + S256x512.size a ≤ S640x2048.size a) (he1 : ∀ a, (![128, co] : Fin 2 → ℕ) a + S256x512.size a ≤ S640x2048.size a)
    (he2 : ∀ a, (![256, co] : Fin 2 → ℕ) a + S256x512.size a ≤ S640x2048.size a) (he3 : ∀ a, (![384, co] : Fin 2 → ℕ) a + S256x512.size a ≤ S640x2048.size a)
    (hm : ∀ a, (![0, co] : Fin 2 → ℕ) a + S1x512.size a ≤ S1x2048.size a) (hf hl : ∀ a, (![0, co] : Fin 2 → ℕ) a + S8x512.size a ≤ S8x2048.size a)
    (hw : ∀ a, (![g, 0, 0] : Fin 3 → ℕ) a + S1x512x512.size a ≤ S4x512x512.size a) (hy : ∀ a, (![0, co] : Fin 2 → ℕ) a + S512x512.size a ≤ S512x2048.size a) (y : S512x512.Idx) :
    grp (BitVec.ofNat 32 n.val) (View.ld (Val := Elt Ideal) (e' := .bf16) x0 (Rect.unit ![0, 0, co] S1x512x512.size hu))
        (View.ld (Val := Elt Ideal) (e' := .bf16) x11 (Rect.unit ![g, 0, 0] S1x128x256.size hb0))
        (View.ld (Val := Elt Ideal) (e' := .bf16) ext (Rect.unit ![0, co] S256x512.size he0)) (View.ld (Val := Elt Ideal) (e' := .bf16) ext (Rect.unit ![128, co] S256x512.size he1))
        (View.ld (Val := Elt Ideal) (e' := .bf16) ext (Rect.unit ![256, co] S256x512.size he2)) (View.ld (Val := Elt Ideal) (e' := .bf16) ext (Rect.unit ![384, co] S256x512.size he3))
        (View.ld (Val := Elt Ideal) (e' := .f32) x10 (Rect.unit ![0, co] S1x512.size hm)) (View.ld (Val := Elt Ideal) (e' := .f32) x8 (Rect.unit ![0, co] S8x512.size hf))
        (View.ld (Val := Elt Ideal) (e' := .f32) x9 (Rect.unit ![0, co] S8x512.size hl)) (View.ld (Val := Elt Ideal) (e' := .bf16) x12 (Rect.unit ![g, 0, 0] S1x512x512.size hw)) y
      = mixRows n.val ext x0 x8 x9 x10 x11 x12 ((Rect.unit (s := S512x2048) ![0, co] S512x512.size hy).emb y) := by
  have hy1 : (y 1).val < 512 := (y 1).isLt
  have hy0 : (y 0).val < 512 := (y 0).isLt
  have e1 : mixRows n.val ext x0 x8 x9 x10 x11 x12 ((Rect.unit (s := S512x2048) ![0, co] S512x512.size hy).emb y) = mixAt n.val ext x0 x8 x9 x10 x11 x12 ⟨g, hg⟩ (y 0) (y 1) := by
    unfold mixRows
    have v0 : ((Rect.unit (s := S512x2048) ![0, co] S512x512.size hy).emb y 0) = y 0 := Fin.ext (by show 0 + 1 * (y 0).val = _; omega)
    have v1 : ((Rect.unit (s := S512x2048) ![0, co] S512x512.size hy).emb y 1).val = 512 * g + (y 1).val := by show co + 1 * (y 1).val = _; omega
    rw [v0]
    congr 1
    · apply Fin.ext; show _ / 512 = g; rw [v1]; omega
    · apply Fin.ext; show _ % 512 = (y 1).val; rw [v1]; omega
  rw [e1]
  refine (congrArg _ (eq_ix2 y)).trans ?_
  refine (grp_apply _ _ _ _ _ _ _ _ _ _ _ (y 0) (y 1)).trans ?_
  unfold mixAt bandSum
  refine Finset.sum_congr rfl fun d _ => ?_
  have ec : ∀ d : Fin 512, co + 1 * d.val = 512 * g + d.val := fun d => by omega
  have hx0 : View.ld (Val := Elt Ideal) (e' := .bf16) x0 (Rect.unit ![0, 0, co] S1x512x512.size hu) (ix3 0 (y 0) d) = x0 (ix3 0 (y 0) (chan ⟨g, hg⟩ d)) := by
    refine congrArg x0 (funext fun a => Fin.ext ?_)
    match a with
    | ⟨0, _⟩ => rfl
    | ⟨1, _⟩ => show 0 + 1 * (y 0).val = (y 0).val; omega
    | ⟨2, _⟩ => exact ec d
  have hx12 : View.ld (Val := Elt Ideal) (e' := .bf16) x12 (Rect.unit ![g, 0, 0] S1x512x512.size hw) (ix3 0 d (y 1)) = x12 (ix3 ⟨g, hg⟩ d (y 1)) := by
    refine congrArg x12 (funext fun a => Fin.ext ?_)
    match a with
    | ⟨0, _⟩ => rfl
    | ⟨1, _⟩ => show 0 + 1 * d.val = d.val; omega
    | ⟨2, _⟩ => show 0 + 1 * (y 1).val = (y 1).val; omega
  have hx8 : ∀ a : Fin 8, View.ld (Val := Elt Ideal) (e' := .f32) x8 (Rect.unit ![0, co] S8x512.size hf) (ix2 a d) = x8 (ix2 a (chan ⟨g, hg⟩ d)) := fun b => by
    refine congrArg x8 (funext fun a => Fin.ext ?_)
    match a with
    | ⟨0, _⟩ => show 0 + 1 * b.val = b.val; omega
    | ⟨1, _⟩ => exact ec d
  have hx9 : ∀ a : Fin 8, View.ld (Val := Elt Ideal) (e' := .f32) x9 (Rect.unit ![0, co] S8x512.size hl) (ix2 a d) = x9 (ix2 a (chan ⟨g, hg⟩ d)) := fun b => by
    refine congrArg x9 (funext fun a => Fin.ext ?_)
    match a with
    | ⟨0, _⟩ => show 0 + 1 * b.val = b.val; omega
    | ⟨1, _⟩ => exact ec d
  have hx10 : View.ld (Val := Elt Ideal) (e' := .f32) x10 (Rect.unit ![0, co] S1x512.size hm) (ix2 0 d) = x10 (ix2 0 (chan ⟨g, hg⟩ d)) := by
    refine congrArg x10 (funext fun a => Fin.ext ?_)
    match a with
    | ⟨0, _⟩ => rfl
    | ⟨1, _⟩ => exact ec d
  have hx11 : ∀ (p : Fin 128) (e : Fin 256), View.ld (Val := Elt Ideal) (e' := .bf16) x11 (Rect.unit ![g, 0, 0] S1x128x256.size hb0) (ix3 0 p e) = x11 (ix3 ⟨g, hg⟩ p e) := fun p e => by
    refine congrArg x11 (funext fun a => Fin.ext ?_)
    match a with
    | ⟨0, _⟩ => rfl
    | ⟨1, _⟩ => show 0 + 1 * p.val = p.val; omega
    | ⟨2, _⟩ => show 0 + 1 * e.val = e.val; omega
  have hext : ∀ (o : ℕ) (he : ∀ a, (![o, co] : Fin 2 → ℕ) a + S256x512.size a ≤ S640x2048.size a) (e : Fin 256) (ho : o = 128 * ((y 0).val / 128)),
      View.ld (Val := Elt Ideal) (e' := .bf16) ext (Rect.unit ![o, co] S256x512.size he) (ix2 e d) = ext (ix2 ⟨128 * ((y 0).val / 128) + e.val, by omega⟩ (chan ⟨g, hg⟩ d)) := fun o he e ho => by
    refine congrArg ext (funext fun a => Fin.ext ?_)
    match a with
    | ⟨0, _⟩ => show o + 1 * e.val = 128 * ((y 0).val / 128) + e.val; omega
    | ⟨1, _⟩ => exact ec d
  simp only [hx0, hx12, hx8, hx9, hx10, hx11]
  congr 3
  refine Finset.sum_congr rfl fun e _ => ?_
  congr 1
  split
  · exact hext 0 he0 e (by omega)
  split
  · exact hext 128 he1 e (by omega)
  split
  · exact hext 256 he2 e (by omega)
  · exact hext 384 he3 e (by omega)

end Cert.KernelIdeal.Val
end
-- ==== Proof.PoolExt.lean ====
/- The pooling kernel's extended rows as its five stores leave them, and its last product with the norm. -/
module

public import proofs.«01_k».proof.Proof.Pool

@[expose] public section
set_option maxRecDepth 16384
noncomputable section
namespace Cert.KernelIdeal.Val
open Idealize.ShloMosaic Idealize.ShloMosaic.TcCoe Idealize.ShloMosaic.Tactic
open Idealize.SL Idealize.SL.Sem
open Cert.KernelIdeal Cert.KernelIdeal.Gen Cert.Pool

/-- The last product, the residual and the norm, row by row. -/
theorem final_apply (M : Vec Ideal S512x2048 .f32) (x3 : Vec Ideal S1x512x2048 .bf16) (x4 : Vec Ideal S1x512x2048 .f32) (x5 : Vec Ideal S1x1x2048 .f32)
    (x6 x7 : Vec Ideal S1x2048 .f32) (x13 : Vec Ideal S2048x2048 .bf16) (y : S1x512x2048.Idx) :
    k2_pay1 (F := Ideal) (k2_pay29 M x6 x3 x13 x4 x5) (k2_pay30 x7) y = unitRow (resRow M x3 x4 x5 x6 x13 (y 1)) (y 2) * x7 (ix2 0 (y 2)) := by
  unfold unitRow resRow Cert.Pool.inner width tiny; unfold_payloads
  pointwise [dot_S512x2048_S2048x2048_S512x2048_1_0_0_1_n_n]
  have e : x4 y = x4 (ix3 0 (y 1) (y 2)) := congrArg x4 (funext fun a => by
    match a with
    | ⟨0, _⟩ => exact Fin.ext (by have h0 : (y 0).val < 1 := (y 0).isLt; show (y 0).val = 0; omega)
    | ⟨1, _⟩ => rfl
    | ⟨2, _⟩ => rfl)
  rw [e]

/-! ## The extended rows -/

/-- The five stores of the extended rows, last first. -/
@[reducible] def extL (i : grid2.Coords) (x0 : Vec Ideal S1x512x2048 .bf16) (x1 x2 : Vec Ideal S1x16x2048 .bf16) : List (View.Piece (Elt Ideal) S640x2048 .bf16) :=
  [⟨Rect.unit ![592, 0] ![48, 2048] inb_S640x2048_S48x2048_592_0, k2_pay7 (F := Ideal)⟩,
   ⟨Rect.unit ![576, 0] ![16, 2048] inb_S640x2048_S16x2048_576_0, k2_pay6 i x2⟩,
   ⟨Rect.unit ![64, 0] ![512, 2048] inb_S640x2048_S512x2048_64_0, k2_pay5 x0⟩,
   ⟨Rect.unit ![48, 0] ![16, 2048] inb_S640x2048_S16x2048_48_0, k2_pay4 i x1⟩,
   ⟨Rect.unit ![0, 0] ![48, 2048] inb_S640x2048_S48x2048_0_0, k2_pay3 (F := Ideal)⟩]

theorem pay3_apply (y : S48x2048.Idx) : k2_pay3 (F := Ideal) y = 0 := by unfold_payloads; pointwise
theorem pay7_apply (y : S48x2048.Idx) : k2_pay7 (F := Ideal) y = 0 := by unfold_payloads; pointwise
theorem pay5_apply (x0 : Vec Ideal S1x512x2048 .bf16) (y : S512x2048.Idx) : k2_pay5 (F := Ideal) x0 y = x0 (ix3 0 (y 0) (y 1)) := by unfold_payloads; pointwise
theorem pay4_apply (i : grid2.Coords) (x1 : Vec Ideal S1x16x2048 .bf16) (y : S16x2048.Idx) :
    k2_pay4 (F := Ideal) i x1 y = if 0 < (i 1).val then x1 (ix3 0 (y 0) (y 1)) else 0 := by
  unfold_payloads; pointwise
  rw [hasPrev (i 1), sel_ofBool]
theorem pay6_apply (i : grid2.Coords) (x2 : Vec Ideal S1x16x2048 .bf16) (y : S16x2048.Idx) :
    k2_pay6 (F := Ideal) i x2 y = if (i 1).val < 31 then x2 (ix3 0 (y 0) (y 1)) else 0 := by
  unfold_payloads; pointwise
  rw [hasNext (i 1), sel_ofBool]

theorem extL_canon (i : grid2.Coords) (x0 : Vec Ideal S1x512x2048 .bf16) (x1 x2 : Vec Ideal S1x16x2048 .bf16) :
    View.canon (extL i x0 x1 x2) = extRows (i 1).val x0 x1 x2 := by
  funext y
  have hy0 : (y 0).val < 640 := (y 0).isLt
  have hy1 : (y 1).val < 2048 := (y 1).isLt
  refine View.canon_apply_of_pieces (Val := Elt Ideal) (e := .bf16) (extRows (i 1).val x0 x1 x2) _ ?_ y ?_
  · intro p hp
    simp only [extL, List.mem_cons, List.not_mem_nil, or_false] at hp
    rcases hp with rfl | rfl | rfl | rfl | rfl
    · intro x
      have hx : (x 0).val < 48 := (x 0).isLt
      refine (pay7_apply x).trans ?_
      unfold extRows
      have e : ((Rect.unit (s := S640x2048) ![592, 0] ![48, 2048] inb_S640x2048_S48x2048_592_0).emb x 0).val = 592 + (x 0).val := by show 592 + 1 * (x 0).val = _; omega
      rw [dif_neg (by rw [e]; omega), dif_neg (by rw [e]; omega), dif_neg (by rw [e]; omega), dif_neg (by rw [e]; omega)]
    · intro x
      have hx : (x 0).val < 16 := (x 0).isLt
      refine (pay6_apply i x2 x).trans ?_
      unfold extRows
      have e : ((Rect.unit (s := S640x2048) ![576, 0] ![16, 2048] inb_S640x2048_S16x2048_576_0).emb x 0).val = 576 + (x 0).val := by show 576 + 1 * (x 0).val = _; omega
      rw [dif_neg (by rw [e]; omega), dif_neg (by rw [e]; omega), dif_neg (by rw [e]; omega), dif_pos (by rw [e]; omega)]
      congr 2
      congr 1
      · apply Fin.ext; show (x 0).val = _ - 576; rw [e]; omega
      · apply Fin.ext; show (x 1).val = 0 + 1 * (x 1).val; omega
    · intro x
      have hx : (x 0).val < 512 := (x 0).isLt
      refine (pay5_apply x0 x).trans ?_
      unfold extRows
      have e : ((Rect.unit (s := S640x2048) ![64, 0] ![512, 2048] inb_S640x2048_S512x2048_64_0).emb x 0).val = 64 + (x 0).val := by show 64 + 1 * (x 0).val = _; omega
      rw [dif_neg (by rw [e]; omega), dif_neg (by rw [e]; omega), dif_pos (by rw [e]; omega)]
      congr 2
      · apply Fin.ext; show (x 0).val = _ - 64; rw [e]; omega
      · apply Fin.ext; show (x 1).val = 0 + 1 * (x 1).val; omega
    · intro x
      have hx : (x 0).val < 16 := (x 0).isLt
      refine (pay4_apply i x1 x).trans ?_
      unfold extRows
      have e : ((Rect.unit (s := S640x2048) ![48, 0] ![16, 2048] inb_S640x2048_S16x2048_48_0).emb x 0).val = 48 + (x 0).val := by show 48 + 1 * (x 0).val = _; omega
      rw [dif_neg (by rw [e]; omega), dif_pos (by rw [e]; omega)]
      congr 2
      congr 1
      · apply Fin.ext; show (x 0).val = _ - 48; rw [e]; omega
      · apply Fin.ext; show (x 1).val = 0 + 1 * (x 1).val; omega
    · intro x
      have hx : (x 0).val < 48 := (x 0).isLt
      refine (pay3_apply x).trans ?_
      unfold extRows
      have e : ((Rect.unit (s := S640x2048) ![0, 0] ![48, 2048] inb_S640x2048_S48x2048_0_0).emb x 0).val = (x 0).val := by show 0 + 1 * (x 0).val = _; omega
      rw [dif_pos (by rw [e]; omega)]
  · have key : ∀ (o n : ℕ) (inb : ∀ a, (![o, 0] : Fin 2 → ℕ) a + (![n, 2048] : Fin 2 → ℕ) a ≤ S640x2048.size a), o ≤ (y 0).val → (y 0).val < o + n →
        y ∈ (Rect.unit (s := S640x2048) ![o, 0] ![n, 2048] inb).set := by
      intro o n inb h1 h2
      rw [Rect.mem_set_unit]
      intro a
      match a with
      | ⟨0, _⟩ => exact ⟨h1, h2⟩
      | ⟨1, _⟩ => exact ⟨Nat.zero_le _, by show (y 1).val < 0 + 2048; omega⟩
    by_cases h0 : (y 0).val < 48
    · exact ⟨_, List.mem_cons_of_mem _ (List.mem_cons_of_mem _ (List.mem_cons_of_mem _ (List.mem_cons_of_mem _ List.mem_cons_self))), key 0 48 inb_S640x2048_S48x2048_0_0 (by omega) (by omega)⟩
    by_cases h1 : (y 0).val < 64
    · exact ⟨_, List.mem_cons_of_mem _ (List.mem_cons_of_mem _ (List.mem_cons_of_mem _ List.mem_cons_self)), key 48 16 inb_S640x2048_S16x2048_48_0 (by omega) (by omega)⟩
    by_cases h2 : (y 0).val < 576
    · exact ⟨_, List.mem_cons_of_mem _ (List.mem_cons_of_mem _ List.mem_cons_self), key 64 512 inb_S640x2048_S512x2048_64_0 (by omega) (by omega)⟩
    by_cases h3 : (y 0).val < 592
    · exact ⟨_, List.mem_cons_of_mem _ List.mem_cons_self, key 576 16 inb_S640x2048_S16x2048_576_0 (by omega) (by omega)⟩
    · exact ⟨_, List.mem_cons_self, key 592 48 inb_S640x2048_S48x2048_592_0 (by omega) (by omega)⟩

end Cert.KernelIdeal.Val
end
-- ==== Proof.PoolRun.lean ====
/- What the body of the pooling kernel leaves in its output block. -/
module

public import proofs.«01_k».proof.Proof.PoolExt

@[expose] public section
set_option maxRecDepth 16384
noncomputable section
namespace Cert.KernelIdeal.Val
open Idealize.ShloMosaic Idealize.ShloMosaic.TcCoe Idealize.ShloMosaic.Tactic
open Idealize.SL Idealize.SL.Sem
open Cert.KernelIdeal Cert.KernelIdeal.Gen Cert.Pool

/-- A block of the result: the mixed rows' projection onto the residual, normed. -/
def outBlk (i : ℕ) (x0 : Vec Ideal S1x512x2048 .bf16) (x1 : Vec Ideal S1x16x2048 .bf16) (x2 : Vec Ideal S1x16x2048 .bf16) (x3 : Vec Ideal S1x512x2048 .bf16) (x4 : Vec Ideal S1x512x2048 .f32) (x5 : Vec Ideal S1x1x2048 .f32) (x6 : Vec Ideal S1x2048 .f32) (x7 : Vec Ideal S1x2048 .f32) (x8 : Vec Ideal S8x2048 .f32) (x9 : Vec Ideal S8x2048 .f32) (x10 : Vec Ideal S1x2048 .f32) (x11 : Vec Ideal S4x128x256 .bf16) (x12 : Vec Ideal S4x512x512 .bf16) (x13 : Vec Ideal S2048x2048 .bf16) : S1x512x2048.Idx → EReal := fun y =>
  unitRow (resRow (mixRows i (extRows i x0 x1 x2) x0 x8 x9 x10 x11 x12) x3 x4 x5 x6 x13 (y 1)) (y 2) * x7 (ix2 0 (y 2))

section
variable (c : Dev nD) (i : grid2.Coords) (arg2 : Memref sig .tc .vmem S1x512x2048 .bf16) (harg2 : arg2.IsWhole) (arg3 : Memref sig .tc .vmem S1x16x2048 .bf16) (harg3 : arg3.IsWhole) (arg4 : Memref sig .tc .vmem S1x16x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S1x2048 .f32) (harg12 : arg12.IsWhole) (arg13 : Memref sig .tc .vmem S4x128x256 .bf16) (harg13 : arg13.IsWhole) (arg14 : Memref sig .tc .vmem S4x512x512 .bf16) (harg14 : arg14.IsWhole) (arg15 : Memref sig .tc .vmem S2048x2048 .bf16) (harg15 : arg15.IsWhole) (arg16 : Memref sig .tc .vmem S1x512x2048 .f32) (harg16 : arg16.IsWhole)
  (x0 : Vec Ideal S1x512x2048 .bf16) (x1 : Vec Ideal S1x16x2048 .bf16) (x2 : Vec Ideal S1x16x2048 .bf16) (x3 : Vec Ideal S1x512x2048 .bf16) (x4 : Vec Ideal S1x512x2048 .f32) (x5 : Vec Ideal S1x1x2048 .f32) (x6 : Vec Ideal S1x2048 .f32) (x7 : Vec Ideal S1x2048 .f32) (x8 : Vec Ideal S8x2048 .f32) (x9 : Vec Ideal S8x2048 .f32) (x10 : Vec Ideal S1x2048 .f32) (x11 : Vec Ideal S4x128x256 .bf16) (x12 : Vec Ideal S4x512x512 .bf16) (x13 : Vec Ideal S2048x2048 .bf16)

set_option maxHeartbeats 4000000 in
theorem out2_14 : out2_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 scM2_0 (Memref.isWhole_whole _) scM2_1 (Memref.isWhole_whole _) x0 x1 x2 x3 x4 x5 x6 x7 x8 x9 x10 x11 x12 x13
      = outBlk (i 1).val x0 x1 x2 x3 x4 x5 x6 x7 x8 x9 x10 x11 x12 x13 := by
  funext y
  unfold out2_A_14
  rw [View.read_writes_eq_canon _ _ _ (cover2_A_14 c _ _ _ _ _ _ _ _ _ _ _ _ _ _ _ _ _ _ _ _ _ _ _ _ _ _ _ _ _ _ _ _ _ _ _ _ _ _ _ _ _ _ _ _ _ _ _ _ _)]
  unfold kernelRun2_A
  dsimp only
  sl_unfold_words
  simp only [View.readAt_eq_ld, Memref.IsWhole.read_unread, grp0, grp1, grp2, grp3]
  rw [View.canon_unit_zero (S := S1x512x2048) (by decide)]
  have l1 := fun h X => View.ld_unit_zero (Val := Elt Ideal) (e := .f32) (S := S1x2048) (off := ![0, 0]) (by decide) h X
  have l2 := fun h X => View.ld_unit_zero (Val := Elt Ideal) (e := .bf16) (S := S1x512x2048) (off := ![0, 0, 0]) (by decide) h X
  have l3 := fun h X => View.ld_unit_zero (Val := Elt Ideal) (e := .f32) (S := S1x512x2048) (off := ![0, 0, 0]) (by decide) h X
  have l4 := fun h X => View.ld_unit_zero (Val := Elt Ideal) (e := .bf16) (S := S2048x2048) (off := ![0, 0]) (by decide) h X
  have l5 := fun h X => View.ld_unit_zero (Val := Elt Ideal) (e := .f32) (S := S1x1x2048) (off := ![0, 0, 0]) (by decide) h X
  have l6 := fun h X => View.ld_unit_zero (Val := Elt Ideal) (e := .bf16) (S := S1x16x2048) (off := ![0, 0, 0]) (by decide) h X
  simp only [l1, l2, l3, l4, l5, l6]
  have hE : ∀ (B : Rect S640x2048), (View.whole cc2_scratch0).readCov (Val := Elt Ideal) (extL i x0 x1 x2) B.toLoadRect = View.ld (Val := Elt Ideal) (e' := .bf16) (extRows (i 1).val x0 x1 x2) B := by
    intro B
    rw [View.readCov_eq_canon', extL_canon]
    rfl
  simp only [extL] at hE
  simp only [hE]
  refine (final_apply _ _ _ _ _ _ _ y).trans ?_
  unfold outBlk
  refine congrArg₂ (· * ·) (congrArg (fun M => unitRow (resRow M x3 x4 x5 x6 x13 (y 1)) (y 2)) ?_) rfl
  rw [View.readCov_eq_canon']
  funext z
  have hz : (Rect.unit (s := S512x2048) ![0, 0] ![512, 2048] inb_S512x2048_S512x2048_0_0).idx z = z := by
    funext a; apply Fin.ext
    match a with
    | ⟨0, _⟩ => show 0 + 1 * (z 0).val = (z 0).val; omega
    | ⟨1, _⟩ => show 0 + 1 * (z 1).val = (z 1).val; omega
  refine (congrArg _ hz).trans ?_
  have hz0 : (z 0).val < 512 := (z 0).isLt
  have hz1 : (z 1).val < 2048 := (z 1).isLt
  refine View.canon_apply_of_pieces (Val := Elt Ideal) (e := .f32) (mixRows (i 1).val (extRows (i 1).val x0 x1 x2) x0 x8 x9 x10 x11 x12) _ ?_ z ?_
  · intro p hp
    simp only [List.mem_cons, List.not_mem_nil, or_false] at hp
    rcases hp with rfl | rfl | rfl | rfl
    · intro x
      exact grp_piece (i 1) (extRows (i 1).val x0 x1 x2) x0 x8 x9 x10 x11 x12 3 1536 (by decide) (by decide) (by decide) (by decide) (by decide) (by decide) (by decide) (by decide) (by decide) (by decide) (by decide) (by decide) (by decide) (by decide) (by decide) (by decide) x
    · intro x
      exact grp_piece (i 1) (extRows (i 1).val x0 x1 x2) x0 x8 x9 x10 x11 x12 2 1024 (by decide) (by decide) (by decide) (by decide) (by decide) (by decide) (by decide) (by decide) (by decide) (by decide) (by decide) (by decide) (by decide) (by decide) (by decide) (by decide) x
    · intro x
      exact grp_piece (i 1) (extRows (i 1).val x0 x1 x2) x0 x8 x9 x10 x11 x12 1 512 (by decide) (by decide) (by decide) (by decide) (by decide) (by decide) (by decide) (by decide) (by decide) (by decide) (by decide) (by decide) (by decide) (by decide) (by decide) (by decide) x
    · intro x
      exact grp_piece (i 1) (extRows (i 1).val x0 x1 x2) x0 x8 x9 x10 x11 x12 0 0 (by decide) (by decide) (by decide) (by decide) (by decide) (by decide) (by decide) (by decide) (by decide) (by decide) (by decide) (by decide) (by decide) (by decide) (by decide) (by decide) x
  · have key : ∀ (o : ℕ) (inb : ∀ a, (![0, o] : Fin 2 → ℕ) a + (![512, 512] : Fin 2 → ℕ) a ≤ S512x2048.size a), o ≤ (z 1).val → (z 1).val < o + 512 →
        z ∈ (Rect.unit (s := S512x2048) ![0, o] ![512, 512] inb).set := by
      intro o inb h1 h2
      rw [Rect.mem_set_unit]
      intro a
      match a with
      | ⟨0, _⟩ => exact ⟨Nat.zero_le _, by show (z 0).val < 0 + 512; omega⟩
      | ⟨1, _⟩ => exact ⟨h1, h2⟩
    by_cases h0 : (z 1).val < 512
    · exact ⟨_, List.mem_cons_of_mem _ (List.mem_cons_of_mem _ (List.mem_cons_of_mem _ List.mem_cons_self)), key 0 (by decide) (by omega) (by omega)⟩
    by_cases h1 : (z 1).val < 1024
    · exact ⟨_, List.mem_cons_of_mem _ (List.mem_cons_of_mem _ List.mem_cons_self), key 512 (by decide) (by omega) (by omega)⟩
    by_cases h2 : (z 1).val < 1536
    · exact ⟨_, List.mem_cons_of_mem _ List.mem_cons_self, key 1024 (by decide) (by omega) (by omega)⟩
    · exact ⟨_, List.mem_cons_self, key 1536 (by decide) (by omega) (by omega)⟩
end

end Cert.KernelIdeal.Val
end
-- ==== Proof.PoolArr.lean ====
/- What the pooling kernel leaves in the result's array. -/
module

public import proofs.«01_k».proof.Proof.PoolRun

@[expose] public section
set_option maxRecDepth 16384
noncomputable section
namespace Cert.KernelIdeal.Val
open Idealize.ShloMosaic Idealize.ShloMosaic.TcCoe Idealize.ShloMosaic.Tactic
open Idealize.SL Idealize.SL.Sem
open Cert.KernelIdeal Cert.KernelIdeal.Gen Cert.Pool
open Idealize.ShloMosaic.Pipeline (Dat Cfg Window)

/-! ## The pooling token by token -/

/-- An extended row of a block: the token it stands for, or zero beyond the halos and the sequence. -/
def extTok (u : S2x16384x2048.Idx → EReal) (b : Fin 2) (n k : ℕ) (j : Fin 2048) : EReal :=
  if h : (48 ≤ k ∧ k < 592) ∧ 64 ≤ 512 * n + k ∧ 512 * n + k < 16448 then u (ix3 b ⟨512 * n + k - 64, by omega⟩ j) else 0

/-- One group's mixed value at a token. -/
def mixTok (u : S2x16384x2048.Idx → EReal) (fst lst : S8x2048.Idx → EReal) (mid : S1x2048.Idx → EReal) (bd : S4x128x256.Idx → EReal) (wg : S4x512x512.Idx → EReal)
    (b : Fin 2) (t : Fin 16384) (g : Fin 4) (e : Fin 512) : EReal :=
  ∑ d : Fin 512, ((∑ e' : Fin 256, bd (ix3 g ⟨t.val % 128, by omega⟩ e') * extTok u b (t.val / 512) (128 * (t.val % 512 / 128) + e'.val) (chan g d))
      * rowInv (t.val / 512) (fun a => fst (ix2 a (chan g d))) (fun a => lst (ix2 a (chan g d))) (mid (ix2 0 (chan g d))) ⟨t.val % 512, by omega⟩
    - u (ix3 b t (chan g d))) * wg (ix3 g d e)

/-- A token's row before the last norm. -/
def resTok (u z x : S2x16384x2048.Idx → EReal) (md : S8x1x6144.Idx → EReal) (ls : S1x2048.Idx → EReal) (fst lst : S8x2048.Idx → EReal) (mid : S1x2048.Idx → EReal)
    (bd : S4x128x256.Idx → EReal) (wg : S4x512x512.Idx → EReal) (wo : S2048x2048.Idx → EReal) (b : Fin 2) (t : Fin 16384) (k : Fin 2048) : EReal :=
  x (ix3 b t k) + md (ix3 ⟨b.val, by omega⟩ 0 ⟨4096 + k.val, by omega⟩) * Cert.Pool.inner
    (fun j : Fin 2048 => mixTok u fst lst mid bd wg b t ⟨j.val / 512, by omega⟩ ⟨j.val % 512, by omega⟩ * ls (ix2 0 j) * z (ix3 b t j)) (fun j => wo (ix2 j k))

/-- The result's array. -/
def poolArr (u z x : S2x16384x2048.Idx → EReal) (md : S8x1x6144.Idx → EReal) (ls fn : S1x2048.Idx → EReal) (fst lst : S8x2048.Idx → EReal) (mid : S1x2048.Idx → EReal)
    (bd : S4x128x256.Idx → EReal) (wg : S4x512x512.Idx → EReal) (wo : S2048x2048.Idx → EReal) : S2x16384x2048.Idx → EReal :=
  fun y => unitRow (resTok u z x md ls fst lst mid bd wg wo (y 0) (y 1)) (y 2) * fn (ix2 0 (y 2))

section
variable (V : (c : Dev nD) → (b : Ref sig .tc) → Buf (Elt Ideal) ((c : Thread nD τ).loc b)) (c : Dev nD)

theorem idx2 : ∀ t : Fin cfg2.N, (win2_0.index t (0 : Fin 3) = t.val / 32 ∧ win2_0.index t (1 : Fin 3) = t.val % 32 ∧ win2_0.index t (2 : Fin 3) = 0)
    ∧ (win2_1.index t (0 : Fin 3) = t.val / 32 ∧ win2_1.index t (1 : Fin 3) = 32 * (t.val % 32) - 1 ∧ win2_1.index t (2 : Fin 3) = 0)
    ∧ (win2_2.index t (0 : Fin 3) = t.val / 32 ∧ win2_2.index t (1 : Fin 3) = min (32 * (t.val % 32) + 32) 1023 ∧ win2_2.index t (2 : Fin 3) = 0)
    ∧ (win2_3.index t (0 : Fin 3) = t.val / 32 ∧ win2_3.index t (1 : Fin 3) = t.val % 32 ∧ win2_3.index t (2 : Fin 3) = 0)
    ∧ (win2_4.index t (0 : Fin 3) = t.val / 32 ∧ win2_4.index t (1 : Fin 3) = t.val % 32 ∧ win2_4.index t (2 : Fin 3) = 0)
    ∧ (win2_5.index t (0 : Fin 3) = t.val / 32 ∧ win2_5.index t (1 : Fin 3) = 0 ∧ win2_5.index t (2 : Fin 3) = 2)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 3) = 0 ∧ win2_11.index t (1 : Fin 3) = 0 ∧ win2_11.index t (2 : Fin 3) = 0)
    ∧ (win2_12.index t (0 : Fin 3) = 0 ∧ win2_12.index t (1 : Fin 3) = 0 ∧ win2_12.index t (2 : Fin 3) = 0)
    ∧ (win2_13.index t (0 : Fin 2) = 0 ∧ win2_13.index t (1 : Fin 2) = 0)
    ∧ (win2_14.index t (0 : Fin 3) = t.val / 32 ∧ win2_14.index t (1 : Fin 3) = t.val % 32 ∧ win2_14.index t (2 : Fin 3) = 0)
    ∧ (grid2.coords t (1 : Fin 2)).val = t.val % 32 :=
  (by decide +kernel : ∀ t : Fin grid2.N, _)

/-- The batch row of a point of the pooling's grid. -/
def bat2 (t : Fin cfg2.N) : Fin 2 := ⟨t.val / 32, by have := t.isLt; have h : cfg2.N = 64 := N_2; omega⟩
/-- The token a row of a point's block is. -/
def tok2 (t : Fin cfg2.N) (r : Fin 512) : Fin 16384 := ⟨512 * (t.val % 32) + r.val, by omega⟩

theorem blk2_0 (t : Fin cfg2.N) (y : S1x512x2048.Idx) : iblk2 V c 0 t y = (V c main_v7_0 : Vec Ideal S2x16384x2048 .bf16) (ix3 (bat2 t) (tok2 t (y 1)) (y 2)) := by
  obtain ⟨⟨e0, e1, e2⟩, -⟩ := idx2 t
  refine congrArg (V c main_v7_0) (funext fun a => Fin.ext ?_)
  match a with
  | ⟨0, _⟩ => show win2_0.index t (0 : Fin 3) * 1 + 1 * (y 0).val = t.val / 32; have h2 : (y 0).val < 1 := (y 0).isLt; omega
  | ⟨1, _⟩ => show win2_0.index t (1 : Fin 3) * 512 + 1 * (y 1).val = 512 * (t.val % 32) + (y 1).val; omega
  | ⟨2, _⟩ => show win2_0.index t (2 : Fin 3) * 2048 + 1 * (y 2).val = (y 2).val; omega
theorem blk2_1 (t : Fin cfg2.N) (ht : 0 < t.val % 32) (y : S1x16x2048.Idx) : iblk2 V c 1 t y
    = (V c main_v7_0 : Vec Ideal S2x16384x2048 .bf16) (ix3 (bat2 t) ⟨512 * (t.val % 32) - 16 + (y 1).val, by have h1 : (y 1).val < 16 := (y 1).isLt; omega⟩ (y 2)) := by
  obtain ⟨-, ⟨e0, e1, e2⟩, -⟩ := idx2 t
  refine congrArg (V c main_v7_0) (funext fun a => Fin.ext ?_)
  match a with
  | ⟨0, _⟩ => show win2_1.index t (0 : Fin 3) * 1 + 1 * (y 0).val = t.val / 32; have h2 : (y 0).val < 1 := (y 0).isLt; omega
  | ⟨1, _⟩ => show win2_1.index t (1 : Fin 3) * 16 + 1 * (y 1).val = 512 * (t.val % 32) - 16 + (y 1).val; omega
  | ⟨2, _⟩ => show win2_1.index t (2 : Fin 3) * 2048 + 1 * (y 2).val = (y 2).val; omega
theorem blk2_2 (t : Fin cfg2.N) (ht : t.val % 32 < 31) (y : S1x16x2048.Idx) : iblk2 V c 2 t y
    = (V c main_v7_0 : Vec Ideal S2x16384x2048 .bf16) (ix3 (bat2 t) ⟨512 * (t.val % 32) + 512 + (y 1).val, by have h1 : (y 1).val < 16 := (y 1).isLt; omega⟩ (y 2)) := by
  obtain ⟨-, -, ⟨e0, e1, e2⟩, -⟩ := idx2 t
  refine congrArg (V c main_v7_0) (funext fun a => Fin.ext ?_)
  match a with
  | ⟨0, _⟩ => show win2_2.index t (0 : Fin 3) * 1 + 1 * (y 0).val = t.val / 32; have h2 : (y 0).val < 1 := (y 0).isLt; omega
  | ⟨1, _⟩ => show win2_2.index t (1 : Fin 3) * 16 + 1 * (y 1).val = 512 * (t.val % 32) + 512 + (y 1).val; omega
  | ⟨2, _⟩ => show win2_2.index t (2 : Fin 3) * 2048 + 1 * (y 2).val = (y 2).val; omega
theorem blk2_3 (t : Fin cfg2.N) (y : S1x512x2048.Idx) : iblk2 V c 3 t y = (V c main_v7_1 : Vec Ideal S2x16384x2048 .bf16) (ix3 (bat2 t) (tok2 t (y 1)) (y 2)) := by
  obtain ⟨-, -, -, ⟨e0, e1, e2⟩, -⟩ := idx2 t
  refine congrArg (V c main_v7_1) (funext fun a => Fin.ext ?_)
  match a with
  | ⟨0, _⟩ => show win2_3.index t (0 : Fin 3) * 1 + 1 * (y 0).val = t.val / 32; have h2 : (y 0).val < 1 := (y 0).isLt; omega
  | ⟨1, _⟩ => show win2_3.index t (1 : Fin 3) * 512 + 1 * (y 1).val = 512 * (t.val % 32) + (y 1).val; omega
  | ⟨2, _⟩ => show win2_3.index t (2 : Fin 3) * 2048 + 1 * (y 2).val = (y 2).val; omega
theorem blk2_4 (t : Fin cfg2.N) (y : S1x512x2048.Idx) : iblk2 V c 4 t y = (V c main_arg0 : Vec Ideal S2x16384x2048 .f32) (ix3 (bat2 t) (tok2 t (y 1)) (y 2)) := by
  obtain ⟨-, -, -, -, ⟨e0, e1, e2⟩, -⟩ := idx2 t
  refine congrArg (V c main_arg0) (funext fun a => Fin.ext ?_)
  match a with
  | ⟨0, _⟩ => show win2_4.index t (0 : Fin 3) * 1 + 1 * (y 0).val = t.val / 32; have h2 : (y 0).val < 1 := (y 0).isLt; omega
  | ⟨1, _⟩ => show win2_4.index t (1 : Fin 3) * 512 + 1 * (y 1).val = 512 * (t.val % 32) + (y 1).val; omega
  | ⟨2, _⟩ => show win2_4.index t (2 : Fin 3) * 2048 + 1 * (y 2).val = (y 2).val; omega
theorem blk2_5 (t : Fin cfg2.N) (k : Fin 2048) : iblk2 V c 5 t (ix3 0 0 k)
    = (V c main_v4 : Vec Ideal S8x1x6144 .f32) (ix3 ⟨(bat2 t).val, by omega⟩ 0 ⟨4096 + k.val, by omega⟩) := by
  obtain ⟨-, -, -, -, -, ⟨e0, e1, e2⟩, -⟩ := idx2 t
  refine congrArg (V c main_v4) (funext fun a => Fin.ext ?_)
  match a with
  | ⟨0, _⟩ => show win2_5.index t (0 : Fin 3) * 1 + 1 * 0 = t.val / 32; omega
  | ⟨1, _⟩ => show win2_5.index t (1 : Fin 3) * 1 + 1 * 0 = 0; omega
  | ⟨2, _⟩ => show win2_5.index t (2 : Fin 3) * 2048 + 1 * k.val = 4096 + k.val; omega
theorem blk2_6 (t : Fin cfg2.N) : iblk2 V c 6 t = (V c main_v70 : Vec Ideal S1x2048 .f32) := by
  obtain ⟨-, -, -, -, -, -, ⟨e0, e1⟩, -⟩ := idx2 t
  funext y
  refine congrArg (V c main_v70) (funext fun a => Fin.ext ?_)
  match a with
  | ⟨0, _⟩ => show win2_6.index t (0 : Fin 2) * 1 + 1 * (y 0).val = (y 0).val; omega
  | ⟨1, _⟩ => show win2_6.index t (1 : Fin 2) * 2048 + 1 * (y 1).val = (y 1).val; omega
theorem blk2_7 (t : Fin cfg2.N) : iblk2 V c 7 t = (V c main_v71 : Vec Ideal S1x2048 .f32) := by
  obtain ⟨-, -, -, -, -, -, -, ⟨e0, e1⟩, -⟩ := idx2 t
  funext y
  refine congrArg (V c main_v71) (funext fun a => Fin.ext ?_)
  match a with
  | ⟨0, _⟩ => show win2_7.index t (0 : Fin 2) * 1 + 1 * (y 0).val = (y 0).val; omega
  | ⟨1, _⟩ => show win2_7.index t (1 : Fin 2) * 2048 + 1 * (y 1).val = (y 1).val; omega
theorem blk2_8 (t : Fin cfg2.N) : iblk2 V c 8 t = (V c main_v29 : Vec Ideal S8x2048 .f32) := by
  obtain ⟨-, -, -, -, -, -, -, -, ⟨e0, e1⟩, -⟩ := idx2 t
  funext y
  refine congrArg (V c main_v29) (funext fun a => Fin.ext ?_)
  match a with
  | ⟨0, _⟩ => show win2_8.index t (0 : Fin 2) * 8 + 1 * (y 0).val = (y 0).val; omega
  | ⟨1, _⟩ => show win2_8.index t (1 : Fin 2) * 2048 + 1 * (y 1).val = (y 1).val; omega
theorem blk2_9 (t : Fin cfg2.N) : iblk2 V c 9 t = (V c main_v49 : Vec Ideal S8x2048 .f32) := by
  obtain ⟨-, -, -, -, -, -, -, -, -, ⟨e0, e1⟩, -⟩ := idx2 t
  funext y
  refine congrArg (V c main_v49) (funext fun a => Fin.ext ?_)
  match a with
  | ⟨0, _⟩ => show win2_9.index t (0 : Fin 2) * 8 + 1 * (y 0).val = (y 0).val; omega
  | ⟨1, _⟩ => show win2_9.index t (1 : Fin 2) * 2048 + 1 * (y 1).val = (y 1).val; omega
theorem blk2_10 (t : Fin cfg2.N) : iblk2 V c 10 t = (V c main_v69 : Vec Ideal S1x2048 .f32) := by
  obtain ⟨-, -, -, -, -, -, -, -, -, -, ⟨e0, e1⟩, -⟩ := idx2 t
  funext y
  refine congrArg (V c main_v69) (funext fun a => Fin.ext ?_)
  match a with
  | ⟨0, _⟩ => show win2_10.index t (0 : Fin 2) * 1 + 1 * (y 0).val = (y 0).val; omega
  | ⟨1, _⟩ => show win2_10.index t (1 : Fin 2) * 2048 + 1 * (y 1).val = (y 1).val; omega
theorem blk2_11 (t : Fin cfg2.N) : iblk2 V c 11 t = (V c main_v91 : Vec Ideal S4x128x256 .bf16) := by
  obtain ⟨-, -, -, -, -, -, -, -, -, -, -, ⟨e0, e1, e2⟩, -⟩ := idx2 t
  funext y
  refine congrArg (V c main_v91) (funext fun a => Fin.ext ?_)
  match a with
  | ⟨0, _⟩ => show win2_11.index t (0 : Fin 3) * 4 + 1 * (y 0).val = (y 0).val; omega
  | ⟨1, _⟩ => show win2_11.index t (1 : Fin 3) * 128 + 1 * (y 1).val = (y 1).val; omega
  | ⟨2, _⟩ => show win2_11.index t (2 : Fin 3) * 256 + 1 * (y 2).val = (y 2).val; omega
theorem blk2_12 (t : Fin cfg2.N) : iblk2 V c 12 t = (V c main_v8 : Vec Ideal S4x512x512 .bf16) := by
  obtain ⟨-, -, -, -, -, -, -, -, -, -, -, -, ⟨e0, e1, e2⟩, -⟩ := idx2 t
  funext y
  refine congrArg (V c main_v8) (funext fun a => Fin.ext ?_)
  match a with
  | ⟨0, _⟩ => show win2_12.index t (0 : Fin 3) * 4 + 1 * (y 0).val = (y 0).val; omega
  | ⟨1, _⟩ => show win2_12.index t (1 : Fin 3) * 512 + 1 * (y 1).val = (y 1).val; omega
  | ⟨2, _⟩ => show win2_12.index t (2 : Fin 3) * 512 + 1 * (y 2).val = (y 2).val; omega
theorem blk2_13 (t : Fin cfg2.N) : iblk2 V c 13 t = (V c main_v9 : Vec Ideal S2048x2048 .bf16) := by
  obtain ⟨-, -, -, -, -, -, -, -, -, -, -, -, -, ⟨e0, e1⟩, -⟩ := idx2 t
  funext y
  refine congrArg (V c main_v9) (funext fun a => Fin.ext ?_)
  match a with
  | ⟨0, _⟩ => show win2_13.index t (0 : Fin 2) * 2048 + 1 * (y 0).val = (y 0).val; omega
  | ⟨1, _⟩ => show win2_13.index t (1 : Fin 2) * 2048 + 1 * (y 1).val = (y 1).val; omega

/-- A block's extended rows are the array's. -/
theorem ext_blk (t : Fin cfg2.N) (k : Fin 640) (j : Fin 2048) :
    extRows (t.val % 32) (iblk2 V c 0 t) (iblk2 V c 1 t) (iblk2 V c 2 t) (ix2 k j) = extTok (V c main_v7_0 : Vec Ideal S2x16384x2048 .bf16) (bat2 t) (t.val % 32) k.val j := by
  unfold extRows extTok
  have hk := k.isLt
  have e0 : ((ix2 k j : S640x2048.Idx) 0).val = k.val := rfl
  by_cases h0 : k.val < 48
  · rw [dif_pos (by rw [e0]; omega), dif_neg (by omega)]
  rw [dif_neg (by rw [e0]; omega)]
  by_cases h1 : k.val < 64
  · rw [dif_pos (by rw [e0]; omega)]
    by_cases hn : 0 < t.val % 32
    · rw [if_pos hn, dif_pos (by omega)]
      refine (blk2_1 V c t hn _).trans (congrArg (V c main_v7_0) (funext fun a => Fin.ext ?_))
      match a with
      | ⟨0, _⟩ => rfl
      | ⟨1, _⟩ => show 512 * (t.val % 32) - 16 + (k.val - 48) = 512 * (t.val % 32) + k.val - 64; omega
      | ⟨2, _⟩ => rfl
    · rw [if_neg hn, dif_neg (by omega)]
  rw [dif_neg (by rw [e0]; omega)]
  by_cases h2 : k.val < 576
  · rw [dif_pos (by rw [e0]; omega), dif_pos (by omega)]
    refine (blk2_0 V c t _).trans (congrArg (V c main_v7_0) (funext fun a => Fin.ext ?_))
    match a with
    | ⟨0, _⟩ => rfl
    | ⟨1, _⟩ => show 512 * (t.val % 32) + (k.val - 64) = 512 * (t.val % 32) + k.val - 64; omega
    | ⟨2, _⟩ => rfl
  rw [dif_neg (by rw [e0]; omega)]
  by_cases h3 : k.val < 592
  · rw [dif_pos (by rw [e0]; omega)]
    by_cases hn : t.val % 32 < 31
    · rw [if_pos hn, dif_pos (by omega)]
      refine (blk2_2 V c t hn _).trans (congrArg (V c main_v7_0) (funext fun a => Fin.ext ?_))
      match a with
      | ⟨0, _⟩ => rfl
      | ⟨1, _⟩ => show 512 * (t.val % 32) + 512 + (k.val - 576) = 512 * (t.val % 32) + k.val - 64; omega
      | ⟨2, _⟩ => rfl
    · rw [if_neg hn, dif_neg (by omega)]
  · rw [dif_neg (by rw [e0]; omega), dif_neg (by omega)]

/-- The array a point's block is cut from. -/
abbrev resArr : S2x16384x2048.Idx → EReal :=
  poolArr (V c main_v7_0) (V c main_v7_1) (V c main_arg0) (V c main_v4) (V c main_v70) (V c main_v71) (V c main_v29) (V c main_v49) (V c main_v69) (V c main_v91) (V c main_v8) (V c main_v9)

theorem mix_blk (t : Fin cfg2.N) (r : Fin 512) (j : Fin 2048) :
    mixRows (t.val % 32) (extRows (t.val % 32) (iblk2 V c 0 t) (iblk2 V c 1 t) (iblk2 V c 2 t)) (iblk2 V c 0 t) (iblk2 V c 8 t) (iblk2 V c 9 t) (iblk2 V c 10 t) (iblk2 V c 11 t) (iblk2 V c 12 t) (ix2 r j)
      = mixTok (V c main_v7_0) (V c main_v29) (V c main_v49) (V c main_v69) (V c main_v91) (V c main_v8) (bat2 t) (tok2 t r) ⟨j.val / 512, by omega⟩ ⟨j.val % 512, by omega⟩ := by
  have hr := r.isLt
  have en : (tok2 t r).val / 512 = t.val % 32 := by show (512 * (t.val % 32) + r.val) / 512 = _; omega
  have er : (⟨(tok2 t r).val % 512, by omega⟩ : Fin 512) = r := Fin.ext (by show (512 * (t.val % 32) + r.val) % 512 = r.val; omega)
  have e1 : (⟨(tok2 t r).val % 128, by omega⟩ : Fin 128) = ⟨r.val % 128, by omega⟩ := Fin.ext (by show (512 * (t.val % 32) + r.val) % 128 = r.val % 128; omega)
  have e5 : (tok2 t r).val % 512 = r.val := congrArg Fin.val er
  unfold mixRows mixAt bandSum mixTok
  simp only [en, er, e1, e5]
  refine Finset.sum_congr rfl fun d _ => ?_
  simp only [ext_blk]
  refine congrArg₂ (· * ·) (congrArg₂ (· - ·) (congrArg₂ (· * ·) ?_ ?_) ?_) ?_
  · exact Finset.sum_congr rfl fun e _ => congrArg (· * _) (congrFun (blk2_11 V c t) _)
  · rw [blk2_8, blk2_9, blk2_10]; rfl
  · exact blk2_0 V c t _
  · exact congrFun (blk2_12 V c t) _

theorem outBlk_eq (t : Fin cfg2.N) (y : S1x512x2048.Idx) :
    outBlk (t.val % 32) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) y
      = resArr V c (ix3 (bat2 t) (tok2 t (y 1)) (y 2)) := by
  unfold outBlk resArr poolArr
  refine congrArg₂ (· * ·) (congrArg (fun f => unitRow f (y 2)) (funext fun k => ?_)) (congrFun (blk2_7 V c t) _)
  unfold resRow resTok
  refine congrArg₂ (· + ·) (blk2_4 V c t _) (congrArg₂ (· * ·) (blk2_5 V c t k) (congrArg₂ Cert.Pool.inner (funext fun j => ?_) (funext fun j => congrFun (blk2_13 V c t) _)))
  exact congrArg₂ (· * ·) (congrArg₂ (· * ·) (mix_blk V c t (y 1) j) (congrFun (blk2_6 V c t) _)) (blk2_3 V c t _)

theorem outs2_14 (t : Fin cfg2.N) : outsAt2 V c t
    = outBlk (t.val % 32) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by
  unfold outsAt2
  rw [out2_14]
  obtain ⟨-, -, -, -, -, -, -, -, -, -, -, -, -, -, -, en⟩ := idx2 t
  rw [show (grid2.coords t 1).val = t.val % 32 from en]
theorem flushed2_14 (t : Fin cfg2.N) : (dat2 V c).flushed 14 t = ((cfg2.win 14).blk t).view.read (Elt Ideal) (resArr V c) := by
  rw [Pipeline.Dat.flushed, after2_14, outs2_14]
  obtain ⟨-, -, -, -, -, -, -, -, -, -, -, -, -, -, ⟨e0, e1, e2⟩, -⟩ := idx2 t
  funext y
  refine (outBlk_eq V c t y).trans (congrArg (resArr V c) (funext fun a => Fin.ext ?_))
  match a with
  | ⟨0, _⟩ => show t.val / 32 = win2_14.index t (0 : Fin 3) * 1 + 1 * (y 0).val; have h2 : (y 0).val < 1 := (y 0).isLt; omega
  | ⟨1, _⟩ => show 512 * (t.val % 32) + (y 1).val = win2_14.index t (1 : Fin 3) * 512 + 1 * (y 1).val; omega
  | ⟨2, _⟩ => show (y 2).val = win2_14.index t (2 : Fin 3) * 2048 + 1 * (y 2).val; omega

theorem arr2_14 : (dat2 V c).arrAt 14 cfg2.N = resArr V c := by
  refine (dat2 V c).arrAt_eq_of_cover 14 _ (fun t _ => flushed2_14 V c t) fun i => ?_
  have hi0 : (i (0 : Fin 3)).val < 2 := (i (0 : Fin 3)).isLt
  have hi1 : (i (1 : Fin 3)).val < 16384 := (i (1 : Fin 3)).isLt
  have hi2 : (i (2 : Fin 3)).val < 2048 := (i (2 : Fin 3)).isLt
  have hN : cfg2.N = 64 := N_2
  obtain ⟨t, ht⟩ : ∃ t : Fin cfg2.N, t.val = 32 * (i (0 : Fin 3)).val + (i (1 : Fin 3)).val / 512 := ⟨⟨_, by omega⟩, rfl⟩
  refine ⟨t, flush2_14 _, ?_⟩
  obtain ⟨-, -, -, -, -, -, -, -, -, -, -, -, -, -, ⟨e0, e1, e2⟩, -⟩ := idx2 t
  show i ∈ ((View.whole main_v92).slice (win2_14.rect t)).set
  rw [View.set_slice_whole, Rect.mem_set_unit]
  intro a
  match a with
  | ⟨0, _⟩ => show win2_14.index t (0 : Fin 3) * 1 ≤ (i (0 : Fin 3)).val ∧ (i (0 : Fin 3)).val < win2_14.index t (0 : Fin 3) * 1 + 1; rw [e0]; omega
  | ⟨1, _⟩ => show win2_14.index t (1 : Fin 3) * 512 ≤ (i (1 : Fin 3)).val ∧ (i (1 : Fin 3)).val < win2_14.index t (1 : Fin 3) * 512 + 512; rw [e1]; omega
  | ⟨2, _⟩ => show win2_14.index t (2 : Fin 3) * 2048 ≤ (i (2 : Fin 3)).val ∧ (i (2 : Fin 3)).val < win2_14.index t (2 : Fin 3) * 2048 + 2048; rw [e2]; omega

end
end Cert.KernelIdeal.Val
end
-- ==== Proof.Proj.lean ====
/- What one block of the input projection holds: every piece the body stores is a tile of one function of the block. -/
module

public import proofs.«01_k».proof.Proof.Gen.KernelIdeal.Frame
public import proofs.«01_k».proof.Proof.Spec

@[expose] public section
set_option maxRecDepth 16384
noncomputable section
namespace Cert.KernelIdeal.Val
open Idealize.ShloMosaic Idealize.ShloMosaic.TcCoe Idealize.ShloMosaic.Tactic
open Idealize.SL Idealize.SL.Sem
open Cert.KernelIdeal Cert.KernelIdeal.Gen Cert.Pool

/-- The normalised rows of a block. -/
def hRows (x0 : Vec Ideal S1x1024x2048 .f32) (x1 : Vec Ideal S1x2048 .f32) (x2 x3 : Vec Ideal S1x1x2048 .f32) : S1024x2048.Idx → EReal :=
  fun y => modRow (fun k => x0 (ix3 0 (y 0) k)) (fun k => x1 (ix2 0 k)) (fun k => x2 (ix3 0 0 k)) (fun k => x3 (ix3 0 0 k)) (y 1)

/-- A row of the block against a column of the weights. -/
def projAt (h : S1024x2048.Idx → EReal) (w : S2048x4096.Idx → EReal) (r : Fin 1024) (j : Fin 4096) : EReal :=
  Cert.Pool.inner (fun k : Fin 2048 => h (ix2 r k)) (fun k => w (ix2 k j))

/-- The value half of the block. -/
def uBlk (h : S1024x2048.Idx → EReal) (w : S2048x4096.Idx → EReal) : S1x1024x2048.Idx → EReal :=
  fun y => projAt h w (y 1) ⟨(y 2).val, lt_trans (y 2).isLt (by decide)⟩
/-- The gate half of the block. -/
def zBlk (h : S1024x2048.Idx → EReal) (w : S2048x4096.Idx → EReal) : S1x1024x2048.Idx → EReal :=
  fun y => tanhGate (projAt h w (y 1) ⟨2048 + (y 2).val, Nat.add_lt_add_left (y 2).isLt 2048⟩)

/-! ## The payloads in one vocabulary -/

def tileU (X : Vec Ideal S256x2048 .bf16) (Y : Vec Ideal S2048x512 .bf16) : FVec Ideal S1x256x512 .bf16 := k1_pay11 X Y
def tileZ (X : Vec Ideal S256x2048 .bf16) (Y : Vec Ideal S2048x512 .bf16) : FVec Ideal S1x256x512 .bf16 := k1_pay28 X Y

theorem tileU_apply (X : Vec Ideal S256x2048 .bf16) (Y : Vec Ideal S2048x512 .bf16) (y : S1x256x512.Idx) :
    tileU X Y y = Cert.Pool.inner (fun k : Fin 2048 => X (ix2 (y 1) k)) (fun k => Y (ix2 k (y 2))) := by
  unfold tileU Cert.Pool.inner; unfold_payloads
  pointwise [dot_S256x2048_S2048x512_S256x512_1_0_0_1_n_n]
theorem tileZ_apply (X : Vec Ideal S256x2048 .bf16) (Y : Vec Ideal S2048x512 .bf16) (y : S1x256x512.Idx) :
    tileZ X Y y = tanhGate (Cert.Pool.inner (fun k : Fin 2048 => X (ix2 (y 1) k)) (fun k => Y (ix2 k (y 2)))) := by
  unfold tileZ Cert.Pool.inner tanhGate half; unfold_payloads
  pointwise [dot_S256x2048_S2048x512_S256x512_1_0_0_1_n_n]
theorem rowsTile_apply (v0 : Vec Ideal S1x256x2048 .f32) (v2 : Vec Ideal S1x2048 .f32) (v4 v6 : Vec Ideal S1x1x2048 .f32) (y : S256x2048.Idx) :
    k1_pay2 (F := Ideal) v0 v2 v4 v6 y
      = modRow (fun k => v0 (ix3 0 (y 0) k)) (fun k => v2 (ix2 0 k)) (fun k => v4 (ix3 0 0 k)) (fun k => v6 (ix3 0 0 k)) (y 1) := by
  unfold modRow unitRow width tiny; unfold_payloads
  pointwise

theorem pay4 : @k1_pay4 Ideal _ = k1_pay2 := rfl
theorem pay6 : @k1_pay6 Ideal _ = k1_pay2 := rfl
theorem pay8 : @k1_pay8 Ideal _ = k1_pay2 := rfl
theorem pay5 (X Y) : k1_pay5 (F := Ideal) (k1_pay3 X Y) = tileU X Y := rfl
theorem pay7 : @k1_pay7 Ideal _ = tileU := rfl
theorem pay10 (X Y) : k1_pay10 (F := Ideal) (k1_pay9 X Y) = tileU X Y := rfl
theorem pay11 : @k1_pay11 Ideal _ = tileU := rfl
theorem pay12 : @k1_pay12 Ideal _ = tileU := rfl
theorem pay13 : @k1_pay13 Ideal _ = tileU := rfl
theorem pay14 : @k1_pay14 Ideal _ = tileU := rfl
theorem pay15 : @k1_pay15 Ideal _ = tileU := rfl
theorem pay16 : @k1_pay16 Ideal _ = tileU := rfl
theorem pay18 (X Y) : k1_pay18 (F := Ideal) (k1_pay17 X Y) = tileU X Y := rfl
theorem pay19 : @k1_pay19 Ideal _ = tileU := rfl
theorem pay20 : @k1_pay20 Ideal _ = tileU := rfl
theorem pay21 : @k1_pay21 Ideal _ = tileU := rfl
theorem pay22 : @k1_pay22 Ideal _ = tileU := rfl
theorem pay23 : @k1_pay23 Ideal _ = tileU := rfl
theorem pay24 : @k1_pay24 Ideal _ = tileU := rfl
theorem pay27 (X Y) : k1_pay27 (F := Ideal) (k1_pay25 X Y) (k1_pay26 X Y) = tileZ X Y := rfl
theorem pay28 : @k1_pay28 Ideal _ = tileZ := rfl
theorem pay29 : @k1_pay29 Ideal _ = tileZ := rfl
theorem pay30 : @k1_pay30 Ideal _ = tileZ := rfl
theorem pay31 : @k1_pay31 Ideal _ = tileZ := rfl
theorem pay33 (X Y) : k1_pay33 (F := Ideal) (k1_pay32 X Y) = tileZ X Y := rfl
theorem pay34 : @k1_pay34 Ideal _ = tileZ := rfl
theorem pay35 : @k1_pay35 Ideal _ = tileZ := rfl
theorem pay37 (X Y) : k1_pay37 (F := Ideal) (k1_pay36 X Y) (Scalar.ofBits .f32 0x3F000000#32) = tileZ X Y := rfl
theorem pay38 : @k1_pay38 Ideal _ = tileZ := rfl
theorem pay39 : @k1_pay39 Ideal _ = tileZ := rfl
theorem pay40 : @k1_pay40 Ideal _ = tileZ := rfl
theorem pay41 : @k1_pay41 Ideal _ = tileZ := rfl
theorem pay43 (X Y) : k1_pay43 (F := Ideal) (k1_pay42 X Y) = tileZ X Y := rfl
theorem pay44 : @k1_pay44 Ideal _ = tileZ := rfl
theorem pay1 (X Y) : k1_pay1 (F := Ideal) (k1_pay45 X Y) = tileZ X Y := rfl

/-! ## One row set, one tile -/

/-- A stored row set is the block's rows at its place. -/
theorem rows_piece (x0 : Vec Ideal S1x1024x2048 .f32) (x1 : Vec Ideal S1x2048 .f32) (x2 x3 : Vec Ideal S1x1x2048 .f32) (o : ℕ)
    (inb : ∀ a, (![0, o, 0] : Fin 3 → ℕ) a + S1x256x2048.size a ≤ S1x1024x2048.size a)
    (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S1024x2048.size a) (y : S256x2048.Idx) :
    k1_pay2 (F := Ideal) (View.ld (Val := Elt Ideal) (e' := .f32) x0 (Rect.unit ![0, o, 0] S1x256x2048.size inb))
        (View.ld (Val := Elt Ideal) (e' := .f32) x1 (Rect.unit ![0, 0] S1x2048.size inb1))
        (View.ld (Val := Elt Ideal) (e' := .f32) x2 (Rect.unit ![0, 0, 0] S1x1x2048.size inb2))
        (View.ld (Val := Elt Ideal) (e' := .f32) x3 (Rect.unit ![0, 0, 0] S1x1x2048.size inb3)) y
      = hRows x0 x1 x2 x3 ((Rect.unit (s := S1024x2048) ![o, 0] S256x2048.size inb').emb y) := by
  rw [rowsTile_apply]
  unfold hRows
  have e0 : ∀ k : Fin 2048, (Rect.unit (s := S1x1024x2048) ![0, o, 0] S1x256x2048.size inb).idx (ix3 0 (y 0) k)
      = ix3 0 (((Rect.unit (s := S1024x2048) ![o, 0] S256x2048.size inb').emb y) 0) k := by
    intro k; funext a; apply Fin.ext
    match a with
    | ⟨0, _⟩ => rfl
    | ⟨1, _⟩ => rfl
    | ⟨2, _⟩ => show 0 + 1 * k.val = k.val; omega
  have e1 : View.ld (Val := Elt Ideal) (e' := .f32) x1 (Rect.unit ![0, 0] S1x2048.size inb1) = x1 := View.ld_unit_zero (S := S1x2048) (by decide) _ _
  have e2 : View.ld (Val := Elt Ideal) (e' := .f32) x2 (Rect.unit ![0, 0, 0] S1x1x2048.size inb2) = x2 := View.ld_unit_zero (S := S1x1x2048) (by decide) _ _
  have e3 : View.ld (Val := Elt Ideal) (e' := .f32) x3 (Rect.unit ![0, 0, 0] S1x1x2048.size inb3) = x3 := View.ld_unit_zero (S := S1x1x2048) (by decide) _ _
  have ey : ((Rect.unit (s := S1024x2048) ![o, 0] S256x2048.size inb').emb y) 1 = y 1 := Fin.ext (by show 0 + 1 * (y 1).val = _; omega)
  rw [e1, e2, e3, ey]
  simp only [View.ld, e0]
  rfl

/-- The stored row sets all restrict one function, so a load of a stored row set reads it. -/
theorem rows_read (h : S1024x2048.Idx → EReal) (L : List (View.Piece (Elt Ideal) S1024x2048 .bf16)) (o : ℕ)
    (inb : ∀ a, (![o, 0] : Fin 2 → ℕ) a + S256x2048.size a ≤ S1024x2048.size a)
    (hL : ∀ p ∈ L, ∀ x : p.1.shape.Idx, p.2 x = h (p.1.emb x))
    (hm : ∃ p ∈ L, p.1 = Rect.unit (s := S1024x2048) ![o, 0] S256x2048.size inb) (r : Fin 256) (k : Fin 2048) :
    scM1_0.view.readCov L (Rect.unit (s := S1024x2048) ![o, 0] S256x2048.size inb).toLoadRect (ix2 r k)
      = h (ix2 ⟨o + r.val, by have := inb 0; have h2 : o + 256 ≤ 1024 := this; omega⟩ k) := by
  rw [View.readCov_eq_canon']
  have e : (Rect.unit (s := S1024x2048) ![o, 0] S256x2048.size inb).toLoadRect.idx (ix2 r k)
      = ix2 ⟨o + r.val, by have := inb 0; have h2 : o + 256 ≤ 1024 := this; omega⟩ k := by
    funext a; apply Fin.ext
    match a with
    | ⟨0, _⟩ => show o + 1 * r.val = _; rw [Nat.one_mul]; rfl
    | ⟨1, _⟩ => show 0 + 1 * k.val = k.val; omega
  rw [← e]
  obtain ⟨w, hw, e⟩ := hm
  exact View.canon_apply_of_pieces h L hL ((Rect.unit (s := S1024x2048) ![o, 0] S256x2048.size inb).idx (ix2 r k)) ⟨_, hw, by rw [e]; exact (Rect.unit (s := S1024x2048) ![o, 0] S256x2048.size inb).idx_mem _⟩

theorem tile_pieceU (h : S1024x2048.Idx → EReal) (x4 : Vec Ideal S2048x4096 .bf16) (X : Vec Ideal S256x2048 .bf16) (o q : ℕ)
    (inb : ∀ a, (![o, 0] : Fin 2 → ℕ) a + S256x2048.size a ≤ S1024x2048.size a)
    (hX : ∀ (r : Fin 256) (k : Fin 2048), X (ix2 r k) = h (ix2 ⟨o + r.val, by have := inb 0; have h2 : o + 256 ≤ 1024 := this; omega⟩ k))
    (inbw : ∀ a, (![0, q] : Fin 2 → ℕ) a + S2048x512.size a ≤ S2048x4096.size a)
    (inby : ∀ a, (![0, o, q] : Fin 3 → ℕ) a + S1x256x512.size a ≤ S1x1024x2048.size a) (y : S1x256x512.Idx) :
    tileU X (View.ld (Val := Elt Ideal) (e' := .bf16) x4 (Rect.unit ![0, q] S2048x512.size inbw)) y
      = uBlk h x4 ((Rect.unit (s := S1x1024x2048) ![0, o, q] S1x256x512.size inby).emb y) := by
  rw [tileU_apply]
  unfold uBlk projAt Cert.Pool.inner
  refine Finset.sum_congr rfl fun k _ => ?_
  congr 1
  · refine (hX (y 1) k).trans (congrArg h ?_)
    funext a; apply Fin.ext
    match a with
    | ⟨0, _⟩ => show o + (y 1).val = o + 1 * (y 1).val; omega
    | ⟨1, _⟩ => rfl
  · refine congrArg x4 ?_
    funext a; apply Fin.ext
    match a with
    | ⟨0, _⟩ => show 0 + 1 * k.val = k.val; omega
    | ⟨1, _⟩ => show q + 1 * (y 2).val = q + 1 * (y 2).val; rfl

theorem tile_pieceZ (h : S1024x2048.Idx → EReal) (x4 : Vec Ideal S2048x4096 .bf16) (X : Vec Ideal S256x2048 .bf16) (o q p : ℕ) (hp : p = 2048 + q)
    (inb : ∀ a, (![o, 0] : Fin 2 → ℕ) a + S256x2048.size a ≤ S1024x2048.size a)
    (hX : ∀ (r : Fin 256) (k : Fin 2048), X (ix2 r k) = h (ix2 ⟨o + r.val, by have := inb 0; have h2 : o + 256 ≤ 1024 := this; omega⟩ k))
    (inbw : ∀ a, (![0, p] : Fin 2 → ℕ) a + S2048x512.size a ≤ S2048x4096.size a)
    (inby : ∀ a, (![0, o, q] : Fin 3 → ℕ) a + S1x256x512.size a ≤ S1x1024x2048.size a) (y : S1x256x512.Idx) :
    tileZ X (View.ld (Val := Elt Ideal) (e' := .bf16) x4 (Rect.unit ![0, p] S2048x512.size inbw)) y
      = zBlk h x4 ((Rect.unit (s := S1x1024x2048) ![0, o, q] S1x256x512.size inby).emb y) := by
  rw [tileZ_apply]
  unfold zBlk projAt Cert.Pool.inner
  refine congrArg tanhGate (Finset.sum_congr rfl fun k _ => ?_)
  congr 1
  · refine (hX (y 1) k).trans (congrArg h ?_)
    funext a; apply Fin.ext
    match a with
    | ⟨0, _⟩ => show o + (y 1).val = o + 1 * (y 1).val; omega
    | ⟨1, _⟩ => rfl
  · refine congrArg x4 ?_
    funext a; apply Fin.ext
    match a with
    | ⟨0, _⟩ => show 0 + 1 * k.val = k.val; omega
    | ⟨1, _⟩ => show p + 1 * (y 2).val = 2048 + (q + 1 * (y 2).val); omega

end Cert.KernelIdeal.Val
end
-- ==== Proof.ProjRun.lean ====
/- What the body of the input projection leaves in its two output blocks. -/
module

public import proofs.«01_k».proof.Proof.Proj

@[expose] public section
set_option maxRecDepth 16384
noncomputable section
namespace Cert.KernelIdeal.Val
open Idealize.ShloMosaic Idealize.ShloMosaic.TcCoe Idealize.ShloMosaic.Tactic
open Idealize.SL Idealize.SL.Sem
open Cert.KernelIdeal Cert.KernelIdeal.Gen Cert.Pool

section
variable (c : Dev nD) (i : grid1.Coords) (arg2 : Memref sig .tc .vmem S1x1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x4096 .bf16) (harg6 : arg6.IsWhole) (arg7 : Memref sig .tc .vmem S1x1024x2048 .bf16) (harg7 : arg7.IsWhole)
  (arg8 : Memref sig .tc .vmem S1x1024x2048 .bf16) (harg8 : arg8.IsWhole)
  (x0 : Vec Ideal S1x1024x2048 .f32) (x1 : Vec Ideal S1x2048 .f32) (x2 x3 : Vec Ideal S1x1x2048 .f32) (x4 : Vec Ideal S2048x4096 .bf16)

set_option maxHeartbeats 2000000 in
theorem out1_5 : out1_A_5 c i arg2 harg2 arg3 harg3 arg4 harg4 arg5 harg5 arg6 harg6 arg7 harg7 arg8 harg8 scM1_0 (Memref.isWhole_whole _) x0 x1 x2 x3 x4
      = uBlk (hRows x0 x1 x2 x3) x4 := by
  funext y
  unfold out1_A_5
  rw [View.read_writes_eq_canon _ _ _ (cover1_A_5 c _ _ _ _ _ _ _ _ _ _ _ _ _ _ _ _ _ _ _ _ _ _)]
  refine View.canon_apply_of_pieces (Val := Elt Ideal) (e := .bf16) (uBlk (hRows x0 x1 x2 x3) x4) _ ?_ y (cover1_A_5 c _ _ _ _ _ _ _ _ _ _ _ _ _ _ _ _ _ _ _ _ _ _ y)
  unfold kernelRun1_A
  dsimp only
  sl_unfold_words
  simp only [View.readAt_eq_ld, Memref.IsWhole.read_unread, pay4, pay6, pay8, pay5, pay7, pay10, pay11, pay12, pay13, pay14, pay15, pay16, pay18, pay19, pay20, pay21, pay22, pay23, pay24]
  intro p hp
  simp only [List.mem_cons, List.not_mem_nil, or_false] at hp
  have H := fun (o : ℕ) (inb : ∀ a, (![0, o, 0] : Fin 3 → ℕ) a + S1x256x2048.size a ≤ S1x1024x2048.size a) (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S1024x2048.size a) => rows_piece x0 x1 x2 x3 o inb inb1 inb2 inb3 inb'
  rcases hp with rfl | rfl | rfl | rfl | rfl | rfl | rfl | rfl | rfl | rfl | rfl | rfl | rfl | rfl | rfl | rfl
  all_goals
    intro x
    refine tile_pieceU (hRows x0 x1 x2 x3) x4 _ _ _ (by decide) ?_ (by decide) (by decide) x
    intro r k
    refine rows_read (hRows x0 x1 x2 x3) _ _ _ ?_ ?_ r k
    · intro p hp x
      simp only [List.mem_cons, List.not_mem_nil, or_false] at hp
      first
        | (rcases hp with rfl | rfl | rfl | rfl <;> exact H _ (by decide) (by decide) (by decide) (by decide) (by decide) x)
        | (rcases hp with rfl | rfl | rfl <;> exact H _ (by decide) (by decide) (by decide) (by decide) (by decide) x)
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
        | exact ⟨_, List.mem_cons_of_mem _ (List.mem_cons_of_mem _ List.mem_cons_self), rfl⟩
        | exact ⟨_, List.mem_cons_of_mem _ (List.mem_cons_of_mem _ (List.mem_cons_of_mem _ List.mem_cons_self)), rfl⟩

set_option maxHeartbeats 2000000 in
theorem out1_6 : out1_A_6 c i arg2 harg2 arg3 harg3 arg4 harg4 arg5 harg5 arg6 harg6 arg7 harg7 arg8 harg8 scM1_0 (Memref.isWhole_whole _) x0 x1 x2 x3 x4
      = zBlk (hRows x0 x1 x2 x3) x4 := by
  funext y
  unfold out1_A_6
  rw [View.read_writes_eq_canon _ _ _ (cover1_A_6 c _ _ _ _ _ _ _ _ _ _ _ _ _ _ _ _ _ _ _ _ _ _)]
  refine View.canon_apply_of_pieces (Val := Elt Ideal) (e := .bf16) (zBlk (hRows x0 x1 x2 x3) x4) _ ?_ y (cover1_A_6 c _ _ _ _ _ _ _ _ _ _ _ _ _ _ _ _ _ _ _ _ _ _ y)
  unfold kernelRun1_A
  dsimp only
  sl_unfold_words
  simp only [View.readAt_eq_ld, Memref.IsWhole.read_unread, pay4, pay6, pay8, pay27, pay28, pay29, pay30, pay31, pay33, pay34, pay35, pay37, pay38, pay39, pay40, pay41, pay43, pay44, pay1]
  intro p hp
  simp only [List.mem_cons, List.not_mem_nil, or_false] at hp
  have H := fun (o : ℕ) (inb : ∀ a, (![0, o, 0] : Fin 3 → ℕ) a + S1x256x2048.size a ≤ S1x1024x2048.size a) (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S1024x2048.size a) => rows_piece x0 x1 x2 x3 o inb inb1 inb2 inb3 inb'
  rcases hp with rfl | rfl | rfl | rfl | rfl | rfl | rfl | rfl | rfl | rfl | rfl | rfl | rfl | rfl | rfl | rfl
  all_goals
    intro x
    refine tile_pieceZ (hRows x0 x1 x2 x3) x4 _ _ _ _ (by decide) (by decide) ?_ (by decide) (by decide) x
    intro r k
    refine rows_read (hRows x0 x1 x2 x3) _ _ _ ?_ ?_ r k
    · intro p hp x
      simp only [List.mem_cons, List.not_mem_nil, or_false] at hp
      first
        | (rcases hp with rfl | rfl | rfl | rfl <;> exact H _ (by decide) (by decide) (by decide) (by decide) (by decide) x)
        | (rcases hp with rfl | rfl | rfl <;> exact H _ (by decide) (by decide) (by decide) (by decide) (by decide) x)
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
        | exact ⟨_, List.mem_cons_of_mem _ (List.mem_cons_of_mem _ List.mem_cons_self), rfl⟩
        | exact ⟨_, List.mem_cons_of_mem _ (List.mem_cons_of_mem _ (List.mem_cons_of_mem _ List.mem_cons_self)), rfl⟩
end
end Cert.KernelIdeal.Val
end
-- ==== Proof.ProjArr.lean ====
/- What the modulation and the input projection leave in their arrays. -/
module

public import proofs.«01_k».proof.Proof.ProjRun

@[expose] public section
set_option maxRecDepth 16384
noncomputable section
namespace Cert.KernelIdeal.Val
open Idealize.ShloMosaic Idealize.ShloMosaic.TcCoe Idealize.ShloMosaic.Tactic
open Idealize.SL Idealize.SL.Sem
open Cert.KernelIdeal Cert.KernelIdeal.Gen Cert.Pool
open Idealize.ShloMosaic.Pipeline (Dat Cfg Window)

/-! ## The modulation -/

/-- The modulation rows: the gated condition against the weights, plus the bias. -/
def modArr (cond : S8x2048.Idx → EReal) (w : S2048x6144.Idx → EReal) (b : S1x6144.Idx → EReal) : S8x1x6144.Idx → EReal :=
  fun i => Cert.Pool.inner (fun j : Fin 2048 => tanhGate (cond (ix2 (i 0) j))) (fun j => w (ix2 j (i 2))) + b (ix2 0 (i 2))

theorem modTile_apply (v0 : Vec Ideal S8x2048 .f32) (v8 : Vec Ideal S2048x1536 .f32) (v11 : Vec Ideal S1x1536 .f32) (y : S8x1x1536.Idx) :
    k0_pay1 (F := Ideal) v0 v8 v11 y
      = Cert.Pool.inner (fun j : Fin 2048 => tanhGate (v0 (ix2 (y 0) j))) (fun j => v8 (ix2 j (y 2))) + v11 (ix2 0 (y 2)) := by
  unfold Cert.Pool.inner tanhGate half; unfold_payloads
  pointwise [dot_S8x2048_S2048x1536_S8x1536_1_0_0_1_n_n]

section
variable (V : (c : Dev nD) → (b : Ref sig .tc) → Buf (Elt Ideal) ((c : Thread nD τ).loc b)) (c : Dev nD)

theorem idx0 : ∀ t : Fin cfg0.N, (win0_0.index t (0 : Fin 2) = 0 ∧ win0_0.index t (1 : Fin 2) = 0) ∧ (win0_1.index t (0 : Fin 2) = 0 ∧ win0_1.index t (1 : Fin 2) = t.val)
    ∧ (win0_2.index t (0 : Fin 2) = 0 ∧ win0_2.index t (1 : Fin 2) = t.val) ∧ (win0_3.index t (0 : Fin 3) = 0 ∧ win0_3.index t (1 : Fin 3) = 0 ∧ win0_3.index t (2 : Fin 3) = t.val) :=
  (by decide +kernel : ∀ t : Fin grid0.N, _)

theorem blk0_0 (t : Fin cfg0.N) : iblk0 V c 0 t = (V c main_v2 : Vec Ideal S8x2048 .f32) := by
  obtain ⟨⟨e0, e1⟩, -⟩ := idx0 t
  funext y
  refine congrArg (V c main_v2) (funext fun a => Fin.ext ?_)
  match a with
  | ⟨0, _⟩ => show win0_0.index t (0 : Fin 2) * 8 + 1 * (y 0).val = (y 0).val; omega
  | ⟨1, _⟩ => show win0_0.index t (1 : Fin 2) * 2048 + 1 * (y 1).val = (y 1).val; omega

theorem blk0_1 (t : Fin cfg0.N) (y : S2048x1536.Idx) : iblk0 V c 1 t y
    = (V c main_arg4 : Vec Ideal S2048x6144 .f32) (ix2 (y 0) ⟨1536 * t.val + (y 1).val, by have := t.isLt; have h : cfg0.N = 4 := N_0; have h2 := (y 1).isLt; have h3 : S2048x1536.size 1 = 1536 := rfl; omega⟩) := by
  obtain ⟨-, ⟨e0, e1⟩, -⟩ := idx0 t
  refine congrArg (V c main_arg4) (funext fun a => Fin.ext ?_)
  match a with
  | ⟨0, _⟩ => show win0_1.index t (0 : Fin 2) * 2048 + 1 * (y 0).val = (y 0).val; omega
  | ⟨1, _⟩ => show win0_1.index t (1 : Fin 2) * 1536 + 1 * (y 1).val = 1536 * t.val + (y 1).val; omega

theorem blk0_2 (t : Fin cfg0.N) (y : S1x1536.Idx) : iblk0 V c 2 t y
    = (V c main_v3 : Vec Ideal S1x6144 .f32) (ix2 0 ⟨1536 * t.val + (y 1).val, by have := t.isLt; have h : cfg0.N = 4 := N_0; have h2 := (y 1).isLt; have h3 : S1x1536.size 1 = 1536 := rfl; omega⟩) := by
  obtain ⟨-, -, ⟨e0, e1⟩, -⟩ := idx0 t
  refine congrArg (V c main_v3) (funext fun a => Fin.ext ?_)
  match a with
  | ⟨0, _⟩ => show win0_2.index t (0 : Fin 2) * 1 + 1 * (y 0).val = 0; have h2 : (y 0).val < 1 := (y 0).isLt; omega
  | ⟨1, _⟩ => show win0_2.index t (1 : Fin 2) * 1536 + 1 * (y 1).val = 1536 * t.val + (y 1).val; omega

theorem flushed0 (t : Fin cfg0.N) : (dat0 V c).flushed 3 t
    = ((cfg0.win 3).blk t).view.read (Elt Ideal) (modArr (V c main_v2) (V c main_arg4) (V c main_v3)) := by
  rw [Pipeline.Dat.flushed, after0_3]
  obtain ⟨-, -, -, e0, e1, e2⟩ := idx0 t
  funext y
  show out0_3 (F := Ideal) _ _ _ y = modArr (V c main_v2) (V c main_arg4) (V c main_v3) (((cfg0.win 3).blk t).view.emb y)
  unfold out0_3
  rw [View.canon_unit_zero (S := S8x1x1536) (by decide), View.ld_unit_zero (S := S8x2048) (by decide), View.ld_unit_zero (S := S2048x1536) (by decide), View.ld_unit_zero (S := S1x1536) (by decide),
    modTile_apply]
  have ei : ((cfg0.win 3).blk t).view.emb y = ix3 (y 0) 0 ⟨1536 * t.val + (y 2).val, by have := t.isLt; have h : cfg0.N = 4 := N_0; have h2 : (y 2).val < 1536 := (y 2).isLt; omega⟩ := by
    funext a; apply Fin.ext
    match a with
    | ⟨0, _⟩ => show win0_3.index t (0 : Fin 3) * 8 + 1 * (y 0).val = (y 0).val; omega
    | ⟨1, _⟩ => show win0_3.index t (1 : Fin 3) * 1 + 1 * (y 1).val = 0; have h2 : (y 1).val < 1 := (y 1).isLt; omega
    | ⟨2, _⟩ => show win0_3.index t (2 : Fin 3) * 1536 + 1 * (y 2).val = 1536 * t.val + (y 2).val; omega
  rw [ei]
  unfold modArr
  rw [blk0_0]
  simp only [blk0_1, blk0_2]
  rfl

theorem arr0 : (dat0 V c).arrAt 3 cfg0.N = modArr (V c main_v2) (V c main_arg4) (V c main_v3) := by
  refine (dat0 V c).arrAt_eq_of_cover 3 _ (fun t _ => flushed0 V c t) fun i => ?_
  have hi : (i (2 : Fin 3)).val < 6144 := (i (2 : Fin 3)).isLt
  have hi0 : (i (0 : Fin 3)).val < 8 := (i (0 : Fin 3)).isLt
  have hi1 : (i (1 : Fin 3)).val < 1 := (i (1 : Fin 3)).isLt
  have hN : cfg0.N = 4 := N_0
  obtain ⟨t, ht⟩ : ∃ t : Fin cfg0.N, t.val = (i (2 : Fin 3)).val / 1536 := ⟨⟨_, by omega⟩, rfl⟩
  refine ⟨t, flush0_3 _, ?_⟩
  obtain ⟨-, -, -, e0, e1, e2⟩ := idx0 t
  show i ∈ ((View.whole main_v4).slice (win0_3.rect t)).set
  rw [View.set_slice_whole, Rect.mem_set_unit]
  intro a
  match a with
  | ⟨0, _⟩ => show win0_3.index t (0 : Fin 3) * 8 ≤ (i (0 : Fin 3)).val ∧ (i (0 : Fin 3)).val < win0_3.index t (0 : Fin 3) * 8 + 8; rw [e0]; omega
  | ⟨1, _⟩ => show win0_3.index t (1 : Fin 3) * 1 ≤ (i (1 : Fin 3)).val ∧ (i (1 : Fin 3)).val < win0_3.index t (1 : Fin 3) * 1 + 1; rw [e1]; omega
  | ⟨2, _⟩ => show win0_3.index t (2 : Fin 3) * 1536 ≤ (i (2 : Fin 3)).val ∧ (i (2 : Fin 3)).val < win0_3.index t (2 : Fin 3) * 1536 + 1536; rw [e2]; omega

/-! ## The input projection -/

/-- A normalised token of the first layer-one operand, from its arrays. -/
def hTok (x : S2x16384x2048.Idx → EReal) (g : S1x2048.Idx → EReal) (md : S8x1x6144.Idx → EReal) (b : Fin 2) (t : Fin 16384) (k : Fin 2048) : EReal :=
  modRow (fun k => x (ix3 b t k)) (fun k => g (ix2 0 k)) (fun k => md (ix3 ⟨b.val, by omega⟩ 0 ⟨2048 + k.val, by omega⟩)) (fun k => md (ix3 ⟨b.val, by omega⟩ 0 ⟨k.val, by omega⟩)) k

/-- The value half of the projection. -/
def uArr (x : S2x16384x2048.Idx → EReal) (g : S1x2048.Idx → EReal) (md : S8x1x6144.Idx → EReal) (w : S2048x4096.Idx → EReal) : S2x16384x2048.Idx → EReal :=
  fun i => Cert.Pool.inner (hTok x g md (i 0) (i 1)) (fun k => w (ix2 k ⟨(i 2).val, lt_trans (i 2).isLt (by decide)⟩))
/-- The gate half of the projection, gated. -/
def zArr (x : S2x16384x2048.Idx → EReal) (g : S1x2048.Idx → EReal) (md : S8x1x6144.Idx → EReal) (w : S2048x4096.Idx → EReal) : S2x16384x2048.Idx → EReal :=
  fun i => tanhGate (Cert.Pool.inner (hTok x g md (i 0) (i 1)) (fun k => w (ix2 k ⟨2048 + (i 2).val, Nat.add_lt_add_left (i 2).isLt 2048⟩)))

theorem idx1 : ∀ t : Fin cfg1.N, (win1_0.index t (0 : Fin 3) = t.val / 16 ∧ win1_0.index t (1 : Fin 3) = t.val % 16 ∧ win1_0.index t (2 : Fin 3) = 0)
    ∧ (win1_1.index t (0 : Fin 2) = 0 ∧ win1_1.index t (1 : Fin 2) = 0)
    ∧ (win1_2.index t (0 : Fin 3) = t.val / 16 ∧ win1_2.index t (1 : Fin 3) = 0 ∧ win1_2.index t (2 : Fin 3) = 1)
    ∧ (win1_3.index t (0 : Fin 3) = t.val / 16 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 3) = t.val / 16 ∧ win1_5.index t (1 : Fin 3) = t.val % 16 ∧ win1_5.index t (2 : Fin 3) = 0)
    ∧ (win1_6.index t (0 : Fin 3) = t.val / 16 ∧ win1_6.index t (1 : Fin 3) = t.val % 16 ∧ win1_6.index t (2 : Fin 3) = 0) :=
  (by decide +kernel : ∀ t : Fin grid1.N, _)

/-- The batch row of a point of the projection's grid. -/
def bat1 (t : Fin cfg1.N) : Fin 2 := ⟨t.val / 16, by have := t.isLt; have h : cfg1.N = 32 := N_1; omega⟩
/-- The token a row of a point's block is. -/
def tok1 (t : Fin cfg1.N) (r : Fin 1024) : Fin 16384 := ⟨1024 * (t.val % 16) + r.val, by omega⟩

theorem blk1_0 (t : Fin cfg1.N) (y : S1x1024x2048.Idx) : iblk1 V c 0 t y
    = (V c main_arg0 : Vec Ideal S2x16384x2048 .f32) (ix3 (bat1 t) (tok1 t (y 1)) (y 2)) := by
  obtain ⟨⟨e0, e1, e2⟩, -⟩ := idx1 t
  refine congrArg (V c main_arg0) (funext fun a => Fin.ext ?_)
  match a with
  | ⟨0, _⟩ => show win1_0.index t (0 : Fin 3) * 1 + 1 * (y 0).val = t.val / 16; have h2 : (y 0).val < 1 := (y 0).isLt; omega
  | ⟨1, _⟩ => show win1_0.index t (1 : Fin 3) * 1024 + 1 * (y 1).val = 1024 * (t.val % 16) + (y 1).val; omega
  | ⟨2, _⟩ => show win1_0.index t (2 : Fin 3) * 2048 + 1 * (y 2).val = (y 2).val; omega
theorem blk1_1 (t : Fin cfg1.N) : iblk1 V c 1 t = (V c main_v6 : Vec Ideal S1x2048 .f32) := by
  obtain ⟨-, ⟨e0, e1⟩, -⟩ := idx1 t
  funext y
  refine congrArg (V c main_v6) (funext fun a => Fin.ext ?_)
  match a with
  | ⟨0, _⟩ => show win1_1.index t (0 : Fin 2) * 1 + 1 * (y 0).val = (y 0).val; omega
  | ⟨1, _⟩ => show win1_1.index t (1 : Fin 2) * 2048 + 1 * (y 1).val = (y 1).val; omega
theorem blk1_2 (t : Fin cfg1.N) (y : S1x1x2048.Idx) : iblk1 V c 2 t y
    = (V c main_v4 : Vec Ideal S8x1x6144 .f32) (ix3 ⟨(bat1 t).val, by omega⟩ 0 ⟨2048 + (y 2).val, lt_trans (Nat.add_lt_add_left (y 2).isLt 2048) (by decide)⟩) := by
  obtain ⟨-, -, ⟨e0, e1, e2⟩, -⟩ := idx1 t
  refine congrArg (V c main_v4) (funext fun a => Fin.ext ?_)
  match a with
  | ⟨0, _⟩ => show win1_2.index t (0 : Fin 3) * 1 + 1 * (y 0).val = t.val / 16; have h2 : (y 0).val < 1 := (y 0).isLt; omega
  | ⟨1, _⟩ => show win1_2.index t (1 : Fin 3) * 1 + 1 * (y 1).val = 0; have h2 : (y 1).val < 1 := (y 1).isLt; omega
  | ⟨2, _⟩ => show win1_2.index t (2 : Fin 3) * 2048 + 1 * (y 2).val = 2048 + (y 2).val; omega
theorem blk1_3 (t : Fin cfg1.N) (y : S1x1x2048.Idx) : iblk1 V c 3 t y
    = (V c main_v4 : Vec Ideal S8x1x6144 .f32) (ix3 ⟨(bat1 t).val, by omega⟩ 0 ⟨(y 2).val, lt_trans (y 2).isLt (by decide)⟩) := by
  obtain ⟨-, -, -, ⟨e0, e1, e2⟩, -⟩ := idx1 t
  refine congrArg (V c main_v4) (funext fun a => Fin.ext ?_)
  match a with
  | ⟨0, _⟩ => show win1_3.index t (0 : Fin 3) * 1 + 1 * (y 0).val = t.val / 16; have h2 : (y 0).val < 1 := (y 0).isLt; omega
  | ⟨1, _⟩ => show win1_3.index t (1 : Fin 3) * 1 + 1 * (y 1).val = 0; have h2 : (y 1).val < 1 := (y 1).isLt; omega
  | ⟨2, _⟩ => show win1_3.index t (2 : Fin 3) * 2048 + 1 * (y 2).val = (y 2).val; omega
theorem blk1_4 (t : Fin cfg1.N) : iblk1 V c 4 t = (V c main_v5 : Vec Ideal S2048x4096 .bf16) := by
  obtain ⟨-, -, -, -, ⟨e0, e1⟩, -⟩ := idx1 t
  funext y
  refine congrArg (V c main_v5) (funext fun a => Fin.ext ?_)
  match a with
  | ⟨0, _⟩ => show win1_4.index t (0 : Fin 2) * 2048 + 1 * (y 0).val = (y 0).val; omega
  | ⟨1, _⟩ => show win1_4.index t (1 : Fin 2) * 4096 + 1 * (y 1).val = (y 1).val; omega

/-- The normalised rows of a point's block are the array's tokens. -/
theorem hRows_blk (t : Fin cfg1.N) (r : Fin 1024) (k : Fin 2048) :
    hRows (iblk1 V c 0 t) (iblk1 V c 1 t) (iblk1 V c 2 t) (iblk1 V c 3 t) (ix2 r k) = hTok (V c main_arg0) (V c main_v6) (V c main_v4) (bat1 t) (tok1 t r) k := by
  unfold hRows hTok
  rw [blk1_1]
  simp only [blk1_0, blk1_2, blk1_3]
  rfl

theorem outs1_5 (t : Fin cfg1.N) : (outsAt1 V c t).1 = uBlk (hRows (iblk1 V c 0 t) (iblk1 V c 1 t) (iblk1 V c 2 t) (iblk1 V c 3 t)) (iblk1 V c 4 t) := by
  unfold outsAt1
  dsimp only
  rw [out1_5]
theorem uBlk_eq (t : Fin cfg1.N) (y : S1x1024x2048.Idx) : uBlk (hRows (iblk1 V c 0 t) (iblk1 V c 1 t) (iblk1 V c 2 t) (iblk1 V c 3 t)) (iblk1 V c 4 t) y
    = uArr (V c main_arg0) (V c main_v6) (V c main_v4) (V c main_v5) (ix3 (bat1 t) (tok1 t (y 1)) (y 2)) := by
  unfold uBlk projAt uArr
  exact congrArg₂ Cert.Pool.inner (funext fun k => hRows_blk V c t (y 1) k) (funext fun k => congrFun (blk1_4 V c t) _)
theorem flushed1_5 (t : Fin cfg1.N) : (dat1 V c).flushed 5 t
    = ((cfg1.win 5).blk t).view.read (Elt Ideal) (uArr (V c main_arg0) (V c main_v6) (V c main_v4) (V c main_v5)) := by
  rw [Pipeline.Dat.flushed, after1_5, outs1_5]
  obtain ⟨-, -, -, -, -, ⟨e0, e1, e2⟩, -⟩ := idx1 t
  funext y
  refine (uBlk_eq V c t y).trans (congrArg (uArr (V c main_arg0) (V c main_v6) (V c main_v4) (V c main_v5)) (funext fun a => Fin.ext ?_))
  match a with
  | ⟨0, _⟩ => show t.val / 16 = win1_5.index t (0 : Fin 3) * 1 + 1 * (y 0).val; have h2 : (y 0).val < 1 := (y 0).isLt; omega
  | ⟨1, _⟩ => show 1024 * (t.val % 16) + (y 1).val = win1_5.index t (1 : Fin 3) * 1024 + 1 * (y 1).val; omega
  | ⟨2, _⟩ => show (y 2).val = win1_5.index t (2 : Fin 3) * 2048 + 1 * (y 2).val; omega

theorem outs1_6 (t : Fin cfg1.N) : (outsAt1 V c t).2 = zBlk (hRows (iblk1 V c 0 t) (iblk1 V c 1 t) (iblk1 V c 2 t) (iblk1 V c 3 t)) (iblk1 V c 4 t) := by
  unfold outsAt1
  dsimp only
  rw [out1_6]
theorem zBlk_eq (t : Fin cfg1.N) (y : S1x1024x2048.Idx) : zBlk (hRows (iblk1 V c 0 t) (iblk1 V c 1 t) (iblk1 V c 2 t) (iblk1 V c 3 t)) (iblk1 V c 4 t) y
    = zArr (V c main_arg0) (V c main_v6) (V c main_v4) (V c main_v5) (ix3 (bat1 t) (tok1 t (y 1)) (y 2)) := by
  unfold zBlk projAt zArr
  exact congrArg tanhGate (congrArg₂ Cert.Pool.inner (funext fun k => hRows_blk V c t (y 1) k) (funext fun k => congrFun (blk1_4 V c t) _))
theorem flushed1_6 (t : Fin cfg1.N) : (dat1 V c).flushed 6 t
    = ((cfg1.win 6).blk t).view.read (Elt Ideal) (zArr (V c main_arg0) (V c main_v6) (V c main_v4) (V c main_v5)) := by
  rw [Pipeline.Dat.flushed, after1_6, outs1_6]
  obtain ⟨-, -, -, -, -, -, ⟨e0, e1, e2⟩⟩ := idx1 t
  funext y
  refine (zBlk_eq V c t y).trans (congrArg (zArr (V c main_arg0) (V c main_v6) (V c main_v4) (V c main_v5)) (funext fun a => Fin.ext ?_))
  match a with
  | ⟨0, _⟩ => show t.val / 16 = win1_6.index t (0 : Fin 3) * 1 + 1 * (y 0).val; have h2 : (y 0).val < 1 := (y 0).isLt; omega
  | ⟨1, _⟩ => show 1024 * (t.val % 16) + (y 1).val = win1_6.index t (1 : Fin 3) * 1024 + 1 * (y 1).val; omega
  | ⟨2, _⟩ => show (y 2).val = win1_6.index t (2 : Fin 3) * 2048 + 1 * (y 2).val; omega

theorem arr1_5 : (dat1 V c).arrAt 5 cfg1.N = uArr (V c main_arg0) (V c main_v6) (V c main_v4) (V c main_v5) := by
  refine (dat1 V c).arrAt_eq_of_cover 5 _ (fun t _ => flushed1_5 V c t) fun i => ?_
  have hi0 : (i (0 : Fin 3)).val < 2 := (i (0 : Fin 3)).isLt
  have hi1 : (i (1 : Fin 3)).val < 16384 := (i (1 : Fin 3)).isLt
  have hi2 : (i (2 : Fin 3)).val < 2048 := (i (2 : Fin 3)).isLt
  have hN : cfg1.N = 32 := N_1
  obtain ⟨t, ht⟩ : ∃ t : Fin cfg1.N, t.val = 16 * (i (0 : Fin 3)).val + (i (1 : Fin 3)).val / 1024 := ⟨⟨_, by omega⟩, rfl⟩
  refine ⟨t, flush1_5 _, ?_⟩
  obtain ⟨-, -, -, -, -, ⟨e0, e1, e2⟩, -⟩ := idx1 t
  show i ∈ ((View.whole main_v7_0).slice (win1_5.rect t)).set
  rw [View.set_slice_whole, Rect.mem_set_unit]
  intro a
  match a with
  | ⟨0, _⟩ => show win1_5.index t (0 : Fin 3) * 1 ≤ (i (0 : Fin 3)).val ∧ (i (0 : Fin 3)).val < win1_5.index t (0 : Fin 3) * 1 + 1; rw [e0]; omega
  | ⟨1, _⟩ => show win1_5.index t (1 : Fin 3) * 1024 ≤ (i (1 : Fin 3)).val ∧ (i (1 : Fin 3)).val < win1_5.index t (1 : Fin 3) * 1024 + 1024; rw [e1]; omega
  | ⟨2, _⟩ => show win1_5.index t (2 : Fin 3) * 2048 ≤ (i (2 : Fin 3)).val ∧ (i (2 : Fin 3)).val < win1_5.index t (2 : Fin 3) * 2048 + 2048; rw [e2]; omega

theorem arr1_6 : (dat1 V c).arrAt 6 cfg1.N = zArr (V c main_arg0) (V c main_v6) (V c main_v4) (V c main_v5) := by
  refine (dat1 V c).arrAt_eq_of_cover 6 _ (fun t _ => flushed1_6 V c t) fun i => ?_
  have hi0 : (i (0 : Fin 3)).val < 2 := (i (0 : Fin 3)).isLt
  have hi1 : (i (1 : Fin 3)).val < 16384 := (i (1 : Fin 3)).isLt
  have hi2 : (i (2 : Fin 3)).val < 2048 := (i (2 : Fin 3)).isLt
  have hN : cfg1.N = 32 := N_1
  obtain ⟨t, ht⟩ : ∃ t : Fin cfg1.N, t.val = 16 * (i (0 : Fin 3)).val + (i (1 : Fin 3)).val / 1024 := ⟨⟨_, by omega⟩, rfl⟩
  refine ⟨t, flush1_6 _, ?_⟩
  obtain ⟨-, -, -, -, -, -, ⟨e0, e1, e2⟩⟩ := idx1 t
  show i ∈ ((View.whole main_v7_1).slice (win1_6.rect t)).set
  rw [View.set_slice_whole, Rect.mem_set_unit]
  intro a
  match a with
  | ⟨0, _⟩ => show win1_6.index t (0 : Fin 3) * 1 ≤ (i (0 : Fin 3)).val ∧ (i (0 : Fin 3)).val < win1_6.index t (0 : Fin 3) * 1 + 1; rw [e0]; omega
  | ⟨1, _⟩ => show win1_6.index t (1 : Fin 3) * 1024 ≤ (i (1 : Fin 3)).val ∧ (i (1 : Fin 3)).val < win1_6.index t (1 : Fin 3) * 1024 + 1024; rw [e1]; omega
  | ⟨2, _⟩ => show win1_6.index t (2 : Fin 3) * 2048 ≤ (i (2 : Fin 3)).val ∧ (i (2 : Fin 3)).val < win1_6.index t (2 : Fin 3) * 2048 + 2048; rw [e2]; omega

end
end Cert.KernelIdeal.Val
end
-- ==== Proof.Words.lean ====
/- The windows' bounds as words: what the tables and the masks count. -/
module

public import proofs.«01_k».proof.Proof.Spec

@[expose] public section
set_option maxRecDepth 16384
noncomputable section
namespace Cert.Pool
open Idealize.ShloMosaic

/-- The window's first position at token `t` in group `g`. -/
def loN (g : Fin 4) (t : ℕ) : ℕ := t - 2 ^ g.val
/-- One past the window's last position. -/
def hiN (g : Fin 4) (t : ℕ) : ℕ := min (t + 2 ^ g.val) 16384

/-- One over the window's length. -/
def invN (g : Fin 4) (t : ℕ) : EReal := Ideal.div 1 (((hiN g t - loN g t : ℕ) : ℝ) : EReal)

theorem width_word : ∀ g : Fin 4, IntOp.shli ArithUnit.host (2#32) (BitVec.ofNat 32 g.val) = BitVec.ofNat 32 (2 * 2 ^ g.val) := by decide
theorem half_word : ∀ g : Fin 4, IntOp.shrui ArithUnit.host (BitVec.ofNat 32 (2 * 2 ^ g.val)) 1#32 = BitVec.ofNat 32 (2 ^ g.val) := by decide
theorem half_word' : ∀ g : Fin 4, IntOp.shli ArithUnit.host (1#32) (BitVec.ofNat 32 g.val) = BitVec.ofNat 32 (2 ^ g.val) := by decide
theorem group_word : ∀ j : Fin 2048, IntOp.shrui ArithUnit.host (BitVec.ofNat 32 j.val) 9#32 = BitVec.ofNat 32 (j.val / 512) := by decide +kernel

theorem sub_toInt (a b : ℕ) (ha : a < 100000) (hb : b < 100000) : (IntOp.subi (BitVec.ofNat 32 a) (BitVec.ofNat 32 b)).toInt = (a : ℤ) - b := by
  unfold IntOp.subi
  rw [BitVec.toInt_eq_toNat_cond]
  simp only [BitVec.toNat_sub, BitVec.toNat_ofNat]
  split <;> omega
theorem sub_ofNat (a b : ℕ) (hb : b ≤ a) : IntOp.subi (BitVec.ofNat 32 a) (BitVec.ofNat 32 b) = BitVec.ofNat 32 (a - b) := by
  unfold IntOp.subi
  apply BitVec.eq_of_toNat_eq
  simp only [BitVec.toNat_sub, BitVec.toNat_ofNat]
  omega
theorem ofNat_toInt (a : ℕ) (ha : a < 100000) : (BitVec.ofNat 32 a).toInt = (a : ℤ) := by
  rw [BitVec.toInt_eq_toNat_cond]
  simp only [BitVec.toNat_ofNat]
  split <;> omega
theorem sub_add (a h : ℕ) : IntOp.addi (IntOp.subi (BitVec.ofNat 32 a) (BitVec.ofNat 32 h)) (BitVec.ofNat 32 (2 * h)) = BitVec.ofNat 32 (a + h) := by
  unfold IntOp.subi IntOp.addi
  apply BitVec.eq_of_toNat_eq
  simp only [BitVec.toNat_sub, BitVec.toNat_add, BitVec.toNat_ofNat]
  omega
theorem pow_le (g : Fin 4) : 1 ≤ 2 ^ g.val ∧ 2 ^ g.val ≤ 8 := by fin_cases g <;> simp

theorem lo_word (g : Fin 4) (t : ℕ) (ht : t < 16384) :
    IntOp.maxsi (IntOp.subi (BitVec.ofNat 32 t) (BitVec.ofNat 32 (2 ^ g.val))) 0#32 = BitVec.ofNat 32 (loN g t) := by
  obtain ⟨h1, h2⟩ := pow_le g
  unfold loN IntOp.maxsi BitVec.slt
  rw [sub_toInt _ _ (by omega) (by omega)]
  by_cases h : 2 ^ g.val < t
  · rw [decide_eq_true (by show (0 : ℤ) < _; omega), if_pos rfl, sub_ofNat _ _ (by omega)]
  · rw [decide_eq_false (by show ¬ (0 : ℤ) < _; omega), if_neg (by decide), show t - 2 ^ g.val = 0 by omega]

theorem hi_word (g : Fin 4) (t : ℕ) (ht : t < 16384) :
    IntOp.minsi (IntOp.addi (IntOp.subi (BitVec.ofNat 32 t) (BitVec.ofNat 32 (2 ^ g.val))) (BitVec.ofNat 32 (2 * 2 ^ g.val))) 16384#32 = BitVec.ofNat 32 (hiN g t) := by
  obtain ⟨h1, h2⟩ := pow_le g
  rw [sub_add]
  unfold hiN IntOp.minsi BitVec.slt
  rw [ofNat_toInt _ (by omega)]
  by_cases h : t + 2 ^ g.val < 16384
  · rw [decide_eq_true (by show _ < (16384 : ℤ); omega), if_pos rfl, min_eq_left (by omega)]
  · rw [decide_eq_false (by show ¬ _ < (16384 : ℤ); omega), if_neg (by decide), min_eq_right (by omega)]

theorem count_word (g : Fin 4) (t : ℕ) (ht : t < 16384) :
    (IntOp.subi (BitVec.ofNat 32 (hiN g t)) (BitVec.ofNat 32 (loN g t))).toInt = ((hiN g t - loN g t : ℕ) : ℤ) := by
  obtain ⟨h1, h2⟩ := pow_le g
  unfold hiN loN
  rw [sub_toInt _ _ (by omega) (by omega)]
  omega

theorem mask_word (g : Fin 4) (t s : ℕ) (ht : t < 16384) (hs : s < 16384) :
    IntOp.andi (IntOp.cmpi CmpIPredicate.sle (BitVec.ofNat 32 (loN g t)) (BitVec.ofNat 32 s)) (IntOp.cmpi CmpIPredicate.slt (BitVec.ofNat 32 s) (BitVec.ofNat 32 (hiN g t)))
      = BitVec.ofBool (decide (loN g t ≤ s ∧ s < hiN g t)) := by
  obtain ⟨h1, h2⟩ := pow_le g
  have hl : loN g t < 100000 := by unfold loN; omega
  have hh : hiN g t < 100000 := by unfold hiN; omega
  unfold IntOp.cmpi IntOp.andi
  simp only [BitVec.sle, BitVec.slt, ofNat_toInt _ hl, ofNat_toInt _ hh, ofNat_toInt s (by omega)]
  by_cases h1 : ((loN g t : ℤ) ≤ (s : ℤ)) <;> by_cases h2 : ((s : ℤ) < (hiN g t : ℤ))
  · rw [decide_eq_true h1, decide_eq_true h2, decide_eq_true (by omega)]; rfl
  · rw [decide_eq_true h1, decide_eq_false h2, decide_eq_false (by omega)]; rfl
  · rw [decide_eq_false h1, decide_eq_true h2, decide_eq_false (by omega)]; rfl
  · rw [decide_eq_false h1, decide_eq_false h2, decide_eq_false (by omega)]; rfl

theorem band_word (g : Fin 4) (p e : ℕ) (hp : p < 128) (he : e < 256) :
    IntOp.andi
        (IntOp.cmpi CmpIPredicate.sge (IntOp.subi (BitVec.ofNat 32 e) 64#32) (IntOp.subi (BitVec.ofNat 32 p) (BitVec.ofNat 32 (2 ^ g.val))))
        (IntOp.cmpi CmpIPredicate.sle (IntOp.subi (BitVec.ofNat 32 e) 64#32)
          (IntOp.subi (IntOp.addi (IntOp.subi (BitVec.ofNat 32 p) (BitVec.ofNat 32 (2 ^ g.val))) (BitVec.ofNat 32 (2 * 2 ^ g.val))) 1#32))
      = BitVec.ofBool (decide (p + 64 - 2 ^ g.val ≤ e ∧ e < p + 64 + 2 ^ g.val)) := by
  obtain ⟨hg1, hg⟩ := pow_le g
  have A : (IntOp.subi (BitVec.ofNat 32 e) 64#32).toInt = (e : ℤ) - 64 := sub_toInt e 64 (by omega) (by omega)
  have B := sub_toInt p (2 ^ g.val) (by omega) (by omega)
  have C := sub_toInt (p + 2 ^ g.val) 1 (by omega) (by omega)
  unfold IntOp.cmpi IntOp.andi
  rw [sub_add]
  simp only [BitVec.sle, A, B]
  rw [show (1#32 : BitVec 32) = BitVec.ofNat 32 1 from rfl, C]
  by_cases h1 : ((p : ℤ) - (2 ^ g.val : ℕ) ≤ (e : ℤ) - 64) <;> by_cases h2 : ((e : ℤ) - 64 ≤ ((p + 2 ^ g.val : ℕ) : ℤ) - (1 : ℕ))
  · rw [decide_eq_true h1, decide_eq_true h2, decide_eq_true (by omega)]; rfl
  · rw [decide_eq_true h1, decide_eq_false h2, decide_eq_false (by omega)]; rfl
  · rw [decide_eq_false h1, decide_eq_true h2, decide_eq_false (by omega)]; rfl
  · rw [decide_eq_false h1, decide_eq_false h2, decide_eq_false (by omega)]; rfl

/-- The words of a table's entry count the window. -/
theorem count_all (j : Fin 2048) (t : ℕ) (ht : t < 16384) :
    Ideal.div 1 (FloatOps.sitofp (F := Ideal) FTy.f32
        (IntOp.subi
          (IntOp.minsi
            (IntOp.addi
              (IntOp.subi (BitVec.ofNat 32 t)
                (IntOp.shrui ArithUnit.host
                  (IntOp.shli ArithUnit.host (2#32) (IntOp.shrui ArithUnit.host (BitVec.ofNat 32 j.val) 9#32)) 1#32))
              (IntOp.shli ArithUnit.host (2#32) (IntOp.shrui ArithUnit.host (BitVec.ofNat 32 j.val) 9#32)))
            16384#32)
          (IntOp.maxsi
            (IntOp.subi (BitVec.ofNat 32 t)
              (IntOp.shrui ArithUnit.host
                (IntOp.shli ArithUnit.host (2#32) (IntOp.shrui ArithUnit.host (BitVec.ofNat 32 j.val) 9#32)) 1#32))
            0#32))) = invN (grpOf j) t := by
  rw [group_word, show j.val / 512 = (grpOf j).val from rfl, width_word, half_word, hi_word _ _ ht, lo_word _ _ ht]
  show Ideal.div 1 ((_ : ℝ) : EReal) = _
  rw [count_word _ _ ht]
  rfl

end Cert.Pool
end
-- ==== Proof.Tables.lean ====
/- What the host lines between the regions hold: the cast weights, the tables of inverse counts, the band. -/
module

public import proofs.«01_k».proof.Proof.Gen.KernelIdeal.Frame
public import Idealize.ShloMosaic.Lib.StableHlo.ReadAt
public import proofs.«01_k».proof.Proof.Spec
public import proofs.«01_k».proof.Proof.Words

@[expose] public section
set_option maxRecDepth 16384
noncomputable section
namespace Cert.KernelIdeal.Val
open Idealize.ShloMosaic Idealize.ShloMosaic.TcCoe Idealize.ShloMosaic.Tactic
open Idealize.SL Idealize.SL.Sem
open Cert.KernelIdeal Cert.KernelIdeal.Gen Cert.Pool

theorem selWord (p : Prop) [Decidable p] (x y : EReal) : Scalar.select (BitVec.ofBool (decide p)) x y = if p then x else y := by
  by_cases h : p
  · rw [decide_eq_true h, if_pos h]; rfl
  · rw [decide_eq_false h, if_neg h]; rfl

section
variable (W : Valuation τ sig (Elt Ideal))

theorem tab_v29 (a : Fin 8) (j : Fin 2048) : (StableHlo.after hostOps2 W (Proc.devRef .tc main_v29) : Vec Ideal S8x2048 .f32) (ix2 a j) = invN (grpOf j) a.val := by
  after_reads_at
  rw [show IntOp.addi (BitVec.ofNat 32 a.val) 0#32 = BitVec.ofNat 32 a.val from BitVec.add_zero _]
  exact count_all j a.val (by omega)
theorem tab_v49 (a : Fin 8) (j : Fin 2048) : (StableHlo.after hostOps2 W (Proc.devRef .tc main_v49) : Vec Ideal S8x2048 .f32) (ix2 a j) = invN (grpOf j) (16376 + a.val) := by
  after_reads_at
  rw [show IntOp.addi (BitVec.ofNat 32 a.val) 16376#32 = BitVec.ofNat 32 (16376 + a.val) from (BitVec.add_comm _ _).trans (BitVec.ofNat_add 16376 a.val).symm]
  exact count_all j (16376 + a.val) (by omega)
theorem tab_v69 (j : Fin 2048) : (StableHlo.after hostOps2 W (Proc.devRef .tc main_v69) : Vec Ideal S1x2048 .f32) (ix2 0 j) = invN (grpOf j) 8 := by
  after_reads_at
  exact count_all j 8 (by omega)
theorem tab_v91 (g : Fin 4) (p : Fin 128) (e : Fin 256) : (StableHlo.after hostOps2 W (Proc.devRef .tc main_v91) : Vec Ideal S4x128x256 .bf16) (ix3 g p e)
    = if p.val + 64 - 2 ^ g.val ≤ e.val ∧ e.val < p.val + 64 + 2 ^ g.val then (1 : EReal) else 0 := by
  after_reads_at
  rw [width_word, half_word, band_word _ _ _ p.isLt e.isLt]
  exact selWord _ _ _
theorem tab_v8 (y : S4x512x512.Idx) : (StableHlo.after hostOps2 W (Proc.devRef .tc main_v8) : Vec Ideal S4x512x512 .bf16) y = (W (Proc.devRef .tc main_arg7) : Vec Ideal S4x512x512 .f32) y := by
  after_reads_at
theorem tab_v9 (y : S2048x2048.Idx) : (StableHlo.after hostOps2 W (Proc.devRef .tc main_v9) : Vec Ideal S2048x2048 .bf16) y = (W (Proc.devRef .tc main_arg9) : Vec Ideal S2048x2048 .f32) y := by
  after_reads_at
theorem tab_v70 (k : Fin 2048) : (StableHlo.after hostOps2 W (Proc.devRef .tc main_v70) : Vec Ideal S1x2048 .f32) (ix2 0 k) = (W (Proc.devRef .tc main_arg8) : Vec Ideal S2048 .f32) (ix1 k) := by
  after_reads_at
theorem tab_v71 (k : Fin 2048) : (StableHlo.after hostOps2 W (Proc.devRef .tc main_v71) : Vec Ideal S1x2048 .f32) (ix2 0 k) = (W (Proc.devRef .tc main_arg10) : Vec Ideal S2048 .f32) (ix1 k) := by
  after_reads_at
theorem tab_v5 (y : S2048x4096.Idx) : (StableHlo.after hostOps1 W (Proc.devRef .tc main_v5) : Vec Ideal S2048x4096 .bf16) y = (W (Proc.devRef .tc main_arg6) : Vec Ideal S2048x4096 .f32) y := by
  after_reads_at
theorem tab_v6 (k : Fin 2048) : (StableHlo.after hostOps1 W (Proc.devRef .tc main_v6) : Vec Ideal S1x2048 .f32) (ix2 0 k) = (W (Proc.devRef .tc main_arg3) : Vec Ideal S2048 .f32) (ix1 k) := by
  after_reads_at
theorem tab_v3 (k : Fin 6144) : (StableHlo.after hostOps0 W (Proc.devRef .tc main_v3) : Vec Ideal S1x6144 .f32) (ix2 0 k) = (W (Proc.devRef .tc main_arg5) : Vec Ideal S6144 .f32) (ix1 k) := by
  after_reads_at
theorem tab_v2 (b : Fin 2) (k : Fin 2048) : (StableHlo.after hostOps0 W (Proc.devRef .tc main_v2) : Vec Ideal S8x2048 .f32) (ix2 ⟨b.val, by omega⟩ k) = (W (Proc.devRef .tc main_arg1) : Vec Ideal S2x2048 .f32) (ix2 b k) := by
  after_reads_at
end
end Cert.KernelIdeal.Val
end
-- ==== Proof.Result.lean ====
/- The kernel's result, token by token, in terms of its arguments. -/
module

public import proofs.«01_k».proof.Proof.PoolArr
public import proofs.«01_k».proof.Proof.ProjArr
public import proofs.«01_k».proof.Proof.Tables

@[expose] public section
set_option maxRecDepth 16384
noncomputable section
namespace Cert.KernelIdeal.Val
open Idealize.ShloMosaic Idealize.ShloMosaic.TcCoe Idealize.ShloMosaic.Tactic Idealize.SL Idealize.SL.Sem Cert.KernelIdeal Cert.KernelIdeal.Gen Cert.Pool
open Idealize.ShloMosaic.Pipeline (Dat Cfg Window)

/-- A row of a tile with its neighbours: row `k` of tile `n`'s neighbourhood is token `512 n + k - 64`, zero outside the sequence. -/
def extAt (u : Fin 16384 → Fin 2048 → EReal) (n k : ℕ) (j : Fin 2048) : EReal :=
  if h : (48 ≤ k ∧ k < 592) ∧ 64 ≤ 512 * n + k ∧ 512 * n + k < 16448 then u ⟨512 * n + k - 64, by omega⟩ j else 0

/-- The mean as the kernel forms it: a band of ones over the neighbourhood, times a reciprocal count from its tables. -/
def bandMean (u : Fin 16384 → Fin 2048 → EReal) (t : Fin 16384) (j : Fin 2048) : EReal :=
  (∑ e : Fin 256, (if t.val % 128 + 64 - 2 ^ (grpOf j).val ≤ e.val ∧ e.val < t.val % 128 + 64 + 2 ^ (grpOf j).val then (1 : EReal) else 0)
      * extAt u (t.val / 512) (128 * (t.val % 512 / 128) + e.val) j)
    * rowInv (t.val / 512) (fun a => invN (grpOf j) a.val) (fun a => invN (grpOf j) (16376 + a.val)) (invN (grpOf j) 8) ⟨t.val % 512, by omega⟩

section
variable (m : (ℓ : Loc nD τ sig) → Buf (Elt Ideal) ℓ) (c : Dev nD)

/-- Argument 0 by its coordinates: the tokens. -/
def aX (b : Fin 2) (t : Fin 16384) (k : Fin 2048) : EReal := (m ((c : Thread nD τ).loc main_arg0) : Vec Ideal S2x16384x2048 .f32) (ix3 b t k)
/-- Argument 1: the conditioning. -/
def aC (b : Fin 2) (k : Fin 2048) : EReal := (m ((c : Thread nD τ).loc main_arg1) : Vec Ideal S2x2048 .f32) (ix2 b k)
/-- Argument 3: the norm's weights. -/
def aG (k : Fin 2048) : EReal := (m ((c : Thread nD τ).loc main_arg3) : Vec Ideal S2048 .f32) (ix1 k)
/-- Argument 4: the modulation's weights. -/
def aWm (j : Fin 2048) (k : Fin 6144) : EReal := (m ((c : Thread nD τ).loc main_arg4) : Vec Ideal S2048x6144 .f32) (ix2 j k)
/-- Argument 5: the modulation's bias. -/
def aBm (k : Fin 6144) : EReal := (m ((c : Thread nD τ).loc main_arg5) : Vec Ideal S6144 .f32) (ix1 k)
/-- Argument 6: the input projection. -/
def aWin (j : Fin 2048) (k : Fin 4096) : EReal := (m ((c : Thread nD τ).loc main_arg6) : Vec Ideal S2048x4096 .f32) (ix2 j k)
/-- Argument 7: the group mixers. -/
def aWg (q : Fin 4) (d e : Fin 512) : EReal := (m ((c : Thread nD τ).loc main_arg7) : Vec Ideal S4x512x512 .f32) (ix3 q d e)
/-- Argument 8: the layer scale. -/
def aLs (k : Fin 2048) : EReal := (m ((c : Thread nD τ).loc main_arg8) : Vec Ideal S2048 .f32) (ix1 k)
/-- Argument 9: the output projection. -/
def aWo (j k : Fin 2048) : EReal := (m ((c : Thread nD τ).loc main_arg9) : Vec Ideal S2048x2048 .f32) (ix2 j k)
/-- Argument 10: the last norm's weights. -/
def aFn (k : Fin 2048) : EReal := (m ((c : Thread nD τ).loc main_arg10) : Vec Ideal S2048 .f32) (ix1 k)

/-- The layer over a gate and a mean, at the memory's arguments. -/
def layerOf (gate : EReal → EReal) (mean : (Fin 16384 → Fin 2048 → EReal) → Fin 16384 → Fin 2048 → EReal) : S2x16384x2048.Idx → EReal :=
  fun y => layer gate mean (aX m c) (aC m c) (aG m c) (aWm m c) (aBm m c) (aWin m c) (aWg m c) (aLs m c) (aWo m c) (aFn m c) (y 0) (y 1) (y 2)

variable (ρ : Dev nD → PrngReg)

theorem v3_v4 : V3 m ρ c main_v4 = modArr (V1 m ρ c main_v2) (V1 m ρ c main_arg4) (V1 m ρ c main_v3) :=
  ((W3_of m ρ c main_v4 (by decide)).trans (W2_arr m ρ c 3)).trans (arr0 (V1 m ρ) c)
theorem v5_v4 : V5 m ρ c main_v4 = V3 m ρ c main_v4 :=
  (W5_of m ρ c main_v4 (by decide)).trans (W4_of m ρ c main_v4 (by decide))
theorem v5_u : V5 m ρ c main_v7_0 = uArr (V3 m ρ c main_arg0) (V3 m ρ c main_v6) (V3 m ρ c main_v4) (V3 m ρ c main_v5) :=
  ((W5_of m ρ c main_v7_0 (by decide)).trans (W4_arr m ρ c 5)).trans (arr1_5 (V3 m ρ) c)
theorem v5_z : V5 m ρ c main_v7_1 = zArr (V3 m ρ c main_arg0) (V3 m ρ c main_v6) (V3 m ρ c main_v4) (V3 m ρ c main_v5) :=
  ((W5_of m ρ c main_v7_1 (by decide)).trans (W4_arr m ρ c 6)).trans (arr1_6 (V3 m ρ) c)

theorem mod_tok (b : Fin 2) (k : Fin 6144) : V3 m ρ c main_v4 (ix3 ⟨b.val, by omega⟩ 0 k) = modAt tanhGate (aC m c) (aWm m c) (aBm m c) b k := by
  rw [v3_v4]
  have h4 : V1 m ρ c main_arg4 = m ((c : Thread nD τ).loc main_arg4) := W1_args m ρ c main_arg4 (by decide)
  have h2 : ∀ j : Fin 2048, V1 m ρ c main_v2 (ix2 ⟨b.val, by omega⟩ j) = aC m c b j := fun j => (tab_v2 (W0 m ρ c) b j).trans (congrFun (W0_args m ρ c main_arg1 (by decide)) _)
  have h3 : V1 m ρ c main_v3 (ix2 0 k) = aBm m c k := (tab_v3 (W0 m ρ c) k).trans (congrFun (W0_args m ρ c main_arg5 (by decide)) _)
  show Cert.Pool.inner (fun j : Fin 2048 => tanhGate (V1 m ρ c main_v2 (ix2 ⟨b.val, _⟩ j))) (fun j => V1 m ρ c main_arg4 (ix2 j k)) + V1 m ρ c main_v3 (ix2 0 k) = _
  simp only [h2]
  rw [h3, h4]
  rfl

theorem h_tok (b : Fin 2) (t : Fin 16384) : hTok (V3 m ρ c main_arg0) (V3 m ρ c main_v6) (V3 m ρ c main_v4) b t
    = hAt tanhGate (aX m c) (aC m c) (aG m c) (aWm m c) (aBm m c) b t := by
  have h0 : V3 m ρ c main_arg0 = m ((c : Thread nD τ).loc main_arg0) := W3_args m ρ c main_arg0 (by decide)
  have h6 : ∀ k : Fin 2048, V3 m ρ c main_v6 (ix2 0 k) = aG m c k := fun k => (tab_v6 (W2 m ρ c) k).trans (congrFun (W2_args m ρ c main_arg3 (by decide)) _)
  funext k
  unfold hTok hAt
  rw [h0]
  exact congrFun (congr (congr (congrArg (modRow (fun k => (m ((c : Thread nD τ).loc main_arg0) : Vec Ideal S2x16384x2048 .f32) (ix3 b t k))) (funext h6)) (funext fun k => mod_tok m c ρ b _)) (funext fun k => mod_tok m c ρ b _)) k

theorem win_tok (j : Fin 2048) (k : Fin 4096) : V3 m ρ c main_v5 (ix2 j k) = aWin m c j k :=
  (tab_v5 (W2 m ρ c) (ix2 j k)).trans (congrFun (W2_args m ρ c main_arg6 (by decide)) _)

theorem u_tok (b : Fin 2) (t : Fin 16384) (j : Fin 2048) : V5 m ρ c main_v7_0 (ix3 b t j)
    = uAt tanhGate (aX m c) (aC m c) (aG m c) (aWm m c) (aBm m c) (aWin m c) b t j := by
  rw [v5_u]
  exact congr (congrArg Cert.Pool.inner (h_tok m c ρ b t)) (funext fun k => win_tok m c ρ k _)
theorem z_tok (b : Fin 2) (t : Fin 16384) (j : Fin 2048) : V5 m ρ c main_v7_1 (ix3 b t j)
    = zAt tanhGate (aX m c) (aC m c) (aG m c) (aWm m c) (aBm m c) (aWin m c) b t j := by
  rw [v5_z]
  exact congrArg tanhGate (congr (congrArg Cert.Pool.inner (h_tok m c ρ b t)) (funext fun k => win_tok m c ρ k _))

theorem grpOf_chan (q : Fin 4) (d : Fin 512) : grpOf (chan q d) = q := Fin.ext (show (512 * q.val + d.val) / 512 = q.val by omega)

theorem ext_tok (b : Fin 2) (n k : ℕ) (j : Fin 2048) : extTok (V5 m ρ c main_v7_0) b n k j
    = extAt (uAt tanhGate (aX m c) (aC m c) (aG m c) (aWm m c) (aBm m c) (aWin m c) b) n k j := by
  unfold extTok extAt
  by_cases h : (48 ≤ k ∧ k < 592) ∧ 64 ≤ 512 * n + k ∧ 512 * n + k < 16448
  · rw [dif_pos h, dif_pos h]
    exact u_tok m c ρ b _ j
  · rw [dif_neg h, dif_neg h]

theorem mix_tok (b : Fin 2) (t : Fin 16384) (q : Fin 4) (e : Fin 512) :
    mixTok (V5 m ρ c main_v7_0) (V5 m ρ c main_v29) (V5 m ρ c main_v49) (V5 m ρ c main_v69) (V5 m ρ c main_v91) (V5 m ρ c main_v8) b t q e
      = mixOf bandMean (aWg m c) (uAt tanhGate (aX m c) (aC m c) (aG m c) (aWm m c) (aBm m c) (aWin m c) b) t q e := by
  have h29 : ∀ (a : Fin 8) (j : Fin 2048), V5 m ρ c main_v29 (ix2 a j) = invN (grpOf j) a.val := tab_v29 (W4 m ρ c)
  have h49 : ∀ (a : Fin 8) (j : Fin 2048), V5 m ρ c main_v49 (ix2 a j) = invN (grpOf j) (16376 + a.val) := tab_v49 (W4 m ρ c)
  have h69 : ∀ (j : Fin 2048), V5 m ρ c main_v69 (ix2 0 j) = invN (grpOf j) 8 := tab_v69 (W4 m ρ c)
  have h91 : ∀ (g : Fin 4) (p : Fin 128) (e : Fin 256), V5 m ρ c main_v91 (ix3 g p e)
    = if p.val + 64 - 2 ^ g.val ≤ e.val ∧ e.val < p.val + 64 + 2 ^ g.val then (1 : EReal) else 0 := tab_v91 (W4 m ρ c)
  have h8 : ∀ d, V5 m ρ c main_v8 (ix3 q d e) = aWg m c q d e := fun d => (tab_v8 (W4 m ρ c) _).trans (congrFun (W4_args m ρ c main_arg7 (by decide)) _)
  unfold mixTok mixOf bandMean
  have hu : ∀ d, V5 m ρ c main_v7_0 (ix3 b t (chan q d)) = uAt tanhGate (aX m c) (aC m c) (aG m c) (aWm m c) (aBm m c) (aWin m c) b t (chan q d) := fun d => u_tok m c ρ b t _
  have he : ∀ n k j, extTok (V5 m ρ c main_v7_0) b n k j = extAt (uAt tanhGate (aX m c) (aC m c) (aG m c) (aWm m c) (aBm m c) (aWin m c) b) n k j := ext_tok m c ρ b
  simp only [h29, h49, h69, h91, h8, he, hu, grpOf_chan]

theorem res_tok (b : Fin 2) (t : Fin 16384) (k : Fin 2048) :
    resTok (V5 m ρ c main_v7_0) (V5 m ρ c main_v7_1) (V5 m ρ c main_arg0) (V5 m ρ c main_v4) (V5 m ρ c main_v70) (V5 m ρ c main_v29) (V5 m ρ c main_v49) (V5 m ρ c main_v69)
      (V5 m ρ c main_v91) (V5 m ρ c main_v8) (V5 m ρ c main_v9) b t k
      = resOf tanhGate bandMean (aX m c) (aC m c) (aG m c) (aWm m c) (aBm m c) (aWin m c) (aWg m c) (aLs m c) (aWo m c) b t k := by
  have h0 : V5 m ρ c main_arg0 = m ((c : Thread nD τ).loc main_arg0) := W5_args m ρ c main_arg0 (by decide)
  have h70 : ∀ j : Fin 2048, V5 m ρ c main_v70 (ix2 0 j) = aLs m c j := fun j => (tab_v70 (W4 m ρ c) j).trans (congrFun (W4_args m ρ c main_arg8 (by decide)) _)
  have h9 : ∀ j : Fin 2048, V5 m ρ c main_v9 (ix2 j k) = aWo m c j k := fun j => (tab_v9 (W4 m ρ c) _).trans (congrFun (W4_args m ρ c main_arg9 (by decide)) _)
  have hm : ∀ q e, mixTok (V5 m ρ c main_v7_0) (V5 m ρ c main_v29) (V5 m ρ c main_v49) (V5 m ρ c main_v69) (V5 m ρ c main_v91) (V5 m ρ c main_v8) b t q e
      = mixOf bandMean (aWg m c) (uAt tanhGate (aX m c) (aC m c) (aG m c) (aWm m c) (aBm m c) (aWin m c) b) t q e := mix_tok m c ρ b t
  unfold resTok resOf
  refine congr (congrArg _ (congrFun h0 _)) (congr (congrArg _ ?_) (congr (congrArg _ (funext fun j => ?_)) (funext h9)))
  · exact (congrFun (v5_v4 m c ρ) _).trans (mod_tok m c ρ b _)
  · exact congr (congrArg _ (congr (congrArg _ (hm _ _)) (h70 j))) (z_tok m c ρ b t j)

/-- The last region's array is the layer. -/
theorem result : W6 m ρ c (Proc.devRef .tc main_v92) = layerOf m c tanhGate bandMean := by
  refine ((W6_arr m ρ c 14).trans (arr2_14 (V5 m ρ) c)).trans (funext fun y => ?_)
  have h71 : V5 m ρ c main_v71 (ix2 0 (y 2)) = aFn m c (y 2) := (tab_v71 (W4 m ρ c) (y 2)).trans (congrFun (W4_args m ρ c main_arg10 (by decide)) _)
  unfold resArr poolArr layerOf layer
  rw [h71]
  congr 2
  funext k
  exact res_tok m c ρ (y 0) (y 1) k
end
end Cert.KernelIdeal.Val
end
-- ==== Proof.Run.lean ====
/- The kernel's run: its result buffer ends at the layer, and its arguments end as launched. -/
module

public import proofs.«01_k».proof.Proof.Result

@[expose] public section
set_option maxRecDepth 16384
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen Cert.Pool

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run ends with the layer in the result buffer and the arguments unchanged. -/
theorem run : θ_run defs (onTc (τ := τ) (main (F := Ideal))) ⟨m, fun _ => 0, ρ⟩ (fun r => ∀ c : Dev nD,
      r.2.mem ((c.tc : Thread nD τ).loc main_v92) = layerOf m c tanhGate bandMean
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v92 (by decide))).trans (result m c ρ),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
end Cert.KernelIdeal.Val
end
-- ==== Proof.Ref.lean ====
/- The reference's value, token by token. -/
module

public import proofs.«01_k».proof.Proof.Words
public import proofs.«01_k».proof.Proof.Gen.ReferenceIdeal.Read
public import Idealize.ShloMosaic.Lib.Pointwise

@[expose] public section
set_option maxRecDepth 16384
noncomputable section
namespace Cert.Pool

/-- The gate as the reference writes it. -/
def siluGate (z : EReal) : EReal := z * Idealize.ShloMosaic.Ideal.div 1 (1 + Idealize.ShloMosaic.Ideal.exp (-z))

/-- The mean as the reference writes it: a masked sum over the sequence, over the window's length. -/
def maskMean (u : Fin 16384 → Fin 2048 → EReal) (t : Fin 16384) (j : Fin 2048) : EReal :=
  Idealize.ShloMosaic.Ideal.div (∑ s : Fin 16384, u s j * (if loN (grpOf j) t.val ≤ s.val ∧ s.val < hiN (grpOf j) t.val then (1 : EReal) else 0))
    (((hiN (grpOf j) t.val - loN (grpOf j) t.val : ℕ) : ℝ) : EReal)
end Cert.Pool

namespace Cert.ReferenceIdeal.Val
open Idealize.ShloMosaic Idealize.ShloMosaic.TcCoe Idealize.ShloMosaic.Tactic Idealize.SL Idealize.SL.Sem Cert.ReferenceIdeal Cert.ReferenceIdeal.Read Cert.Pool

variable (x0 : Vec Ideal S2x16384x2048 .f32) (x1 : Vec Ideal S2x2048 .f32) (x3 : Vec Ideal S2048 .f32) (x4 : Vec Ideal S2048x6144 .f32) (x5 : Vec Ideal S6144 .f32)
  (x6 : Vec Ideal S2048x4096 .f32) (x7 : Vec Ideal S4x512x512 .f32) (x8 : Vec Ideal S2048 .f32) (x9 : Vec Ideal S2048x2048 .f32) (x10 : Vec Ideal S2048 .f32)

theorem r0 (b : Fin 2) (k : Fin 2048) : val_main_v0 (F := Ideal) x1 (ix2 b k) = siluGate (x1 (ix2 b k)) := by
  unfold val_main_v0 val_main_call0_v5 val_main_call0_v4 val_main_call0_v3 val_main_call0_v2 val_main_call0_v1 val_main_call0_v0 val_main_call0_cst val_main_call0_cst_0
  pointwise
  rfl

theorem r4 (b : Fin 2) (k : Fin 6144) : val_main_v4 (F := Ideal) x1 x4 x5 (ix2 b k)
    = modAt siluGate (fun b k => x1 (ix2 b k)) (fun j k => x4 (ix2 j k)) (fun k => x5 (ix1 k)) b k := by
  have h := r0 x1 b
  unfold val_main_v4 val_main_v3 val_main_v2 val_main_v1
  generalize val_main_v0 (F := Ideal) x1 = M at h ⊢
  pointwise [dot_S2x2048_S2048x6144_S2x6144_1_0_0_1_n_n]
  simp only [h]
  rfl

theorem r20 (b : Fin 2) (t : Fin 16384) (k : Fin 2048) : val_main_v20 (F := Ideal) x0 x3 (ix3 b t k) = unitRow (fun k => x0 (ix3 b t k)) k * x3 (ix1 k) := by
  unfold val_main_v20 val_main_v19 val_main_v18 val_main_v17 val_main_v16 val_main_v15 val_main_v14 val_main_v13 val_main_v12 val_main_v11 val_main_v10 val_main_v9 val_main_v8 val_main_cst val_main_cst_0 val_main_cst_1
  pointwise
  rfl

theorem r28 (b : Fin 2) (t : Fin 16384) (k : Fin 2048) : val_main_v28 (F := Ideal) x0 x1 x3 x4 x5 (ix3 b t k)
    = hAt siluGate (fun b t k => x0 (ix3 b t k)) (fun b k => x1 (ix2 b k)) (fun k => x3 (ix1 k)) (fun j k => x4 (ix2 j k)) (fun k => x5 (ix1 k)) b t k := by
  have h := r4 x1 x4 x5 b
  have h' := r20 x0 x3 b t k
  unfold val_main_v28 val_main_v27 val_main_v26 val_main_v25 val_main_v24 val_main_v23 val_main_v22 val_main_v21 val_main_v6 val_main_v5 val_main_cst_2
  generalize val_main_v4 (F := Ideal) x1 x4 x5 = M at h ⊢
  generalize val_main_v20 (F := Ideal) x0 x3 = N at h' ⊢
  pointwise
  rw [h', h, h]
  rfl

theorem r31 (b : Fin 2) (t : Fin 16384) (j : Fin 2048) : val_main_v31 (F := Ideal) x0 x1 x3 x4 x5 x6 (ix3 b t j)
    = uAt siluGate (fun b t k => x0 (ix3 b t k)) (fun b k => x1 (ix2 b k)) (fun k => x3 (ix1 k)) (fun j k => x4 (ix2 j k)) (fun k => x5 (ix1 k)) (fun j k => x6 (ix2 j k)) b t j := by
  have h := r28 x0 x1 x3 x4 x5 b t
  unfold val_main_v31 val_main_v30
  generalize val_main_v28 (F := Ideal) x0 x1 x3 x4 x5 = M at h ⊢
  pointwise [dot_S2x16384x2048_S2048x4096_S2x16384x4096_2_0_01_1_n_n]
  simp only [h]
  rfl

theorem r32 (b : Fin 2) (t : Fin 16384) (j : Fin 2048) : val_main_v71 (F := Ideal) x0 x1 x3 x4 x5 x6 (ix3 b t j)
    = zAt siluGate (fun b t k => x0 (ix3 b t k)) (fun b k => x1 (ix2 b k)) (fun k => x3 (ix1 k)) (fun j k => x4 (ix2 j k)) (fun k => x5 (ix1 k)) (fun j k => x6 (ix2 j k)) b t j := by
  have h := r28 x0 x1 x3 x4 x5 b t
  unfold val_main_v71 val_main_call1_v5 val_main_call1_v4 val_main_call1_v3 val_main_call1_v2 val_main_call1_v1 val_main_call1_v0 val_main_call1_cst val_main_call1_cst_0 val_main_v32 val_main_v30
  generalize val_main_v28 (F := Ideal) x0 x1 x3 x4 x5 = M at h ⊢
  pointwise [dot_S2x16384x2048_S2048x4096_S2x16384x4096_2_0_01_1_n_n]
  simp only [h]
  rfl

theorem r33 (b : Fin 2) (t : Fin 16384) (q : Fin 4) (d : Fin 512) : val_main_v33 (F := Ideal) x0 x1 x3 x4 x5 x6 (ix4 b t q d)
    = uAt siluGate (fun b t k => x0 (ix3 b t k)) (fun b k => x1 (ix2 b k)) (fun k => x3 (ix1 k)) (fun j k => x4 (ix2 j k)) (fun k => x5 (ix1 k)) (fun j k => x6 (ix2 j k)) b t (chan q d) := by
  have h := r31 x0 x1 x3 x4 x5 x6 b t
  unfold val_main_v33
  generalize val_main_v31 (F := Ideal) x0 x1 x3 x4 x5 x6 = M at h ⊢
  pointwise
  rw [← h]
  exact congrArg M (congrArg (ix3 b t) (Fin.ext (show q.val * 512 + d.val = 512 * q.val + d.val by omega)))

theorem r55 (q : Fin 4) (t s : Fin 16384) : val_main_v55 (F := Ideal) (ix3 q t s)
    = if loN q t.val ≤ s.val ∧ s.val < hiN q t.val then (1 : EReal) else 0 := by
  unfold val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_c val_main_c_3 val_main_c_4 val_main_c_5
  pointwise
  rw [width_word, half_word', lo_word q t.val t.isLt, hi_word q t.val t.isLt, mask_word q t.val s.val t.isLt s.isLt]
  by_cases h : loN q t.val ≤ s.val ∧ s.val < hiN q t.val
  · rw [if_pos h, decide_eq_true h]
    show (((BitVec.ofBool true).toNat : ℝ) : EReal) = 1
    simp
  · rw [if_neg h, decide_eq_false h]
    show (((BitVec.ofBool false).toNat : ℝ) : EReal) = 0
    simp

theorem r62 (b : Fin 2) (t : Fin 16384) (q : Fin 4) (d : Fin 512) : val_main_v62 (F := Ideal) (ix4 b t q d)
    = (((hiN q t.val - loN q t.val : ℕ) : ℝ) : EReal) := by
  unfold val_main_v62 val_main_v61 val_main_v60 val_main_v59 val_main_v58 val_main_v46 val_main_v45 val_main_v44 val_main_v43 val_main_v42 val_main_v41 val_main_v40 val_main_v39 val_main_v38 val_main_v37 val_main_v36 val_main_v35 val_main_v34 val_main_c val_main_c_3 val_main_c_4 val_main_c_5
  pointwise
  rw [width_word, half_word', lo_word q t.val t.isLt, hi_word q t.val t.isLt]
  show (((IntOp.subi (BitVec.ofNat 32 (hiN q t.val)) (BitVec.ofNat 32 (loN q t.val))).toInt : ℝ) : EReal) = _
  rw [count_word q t.val t.isLt]
  simp

theorem r64 (b : Fin 2) (t : Fin 16384) (q : Fin 4) (d : Fin 512) : val_main_v64 (F := Ideal) x0 x1 x3 x4 x5 x6 (ix4 b t q d)
    = maskMean (uAt siluGate (fun b t k => x0 (ix3 b t k)) (fun b k => x1 (ix2 b k)) (fun k => x3 (ix1 k)) (fun j k => x4 (ix2 j k)) (fun k => x5 (ix1 k)) (fun j k => x6 (ix2 j k)) b) t (chan q d) - uAt siluGate (fun b t k => x0 (ix3 b t k)) (fun b k => x1 (ix2 b k)) (fun k => x3 (ix1 k)) (fun j k => x4 (ix2 j k)) (fun k => x5 (ix1 k)) (fun j k => x6 (ix2 j k)) b t (chan q d) := by
  have h := fun t q d => r33 x0 x1 x3 x4 x5 x6 b t q d
  have h1 := r55
  have h2 := r62 b t q d
  unfold val_main_v64 val_main_v63 val_main_v57 val_main_v56
  generalize val_main_v33 (F := Ideal) x0 x1 x3 x4 x5 x6 = M at h ⊢
  generalize val_main_v55 (F := Ideal) = N at h1 ⊢
  generalize val_main_v62 (F := Ideal) = K at h2 ⊢
  have hc : grpOf (chan q d) = q := Fin.ext (show (512 * q.val + d.val) / 512 = q.val by omega)
  pointwise [dot_S2x16384x4x512_S4x16384x16384_S4x2x512x16384_1_2_03_1_2_0]
  unfold maskMean
  rw [h2, hc]
  simp only [h, h1]

theorem r67 (b : Fin 2) (t : Fin 16384) (j : Fin 2048) : val_main_v67 (F := Ideal) x0 x1 x3 x4 x5 x6 x7 (ix3 b t j)
    = mixOf maskMean (fun q d e => x7 (ix3 q d e)) (uAt siluGate (fun b t k => x0 (ix3 b t k)) (fun b k => x1 (ix2 b k)) (fun k => x3 (ix1 k)) (fun j k => x4 (ix2 j k)) (fun k => x5 (ix1 k)) (fun j k => x6 (ix2 j k)) b) t (grpOf j) (remOf j) := by
  have h := r64 x0 x1 x3 x4 x5 x6 b t
  unfold val_main_v67 val_main_v66 val_main_v65
  generalize val_main_v64 (F := Ideal) x0 x1 x3 x4 x5 x6 = M at h ⊢
  pointwise [dot_S4x512x512_S2x16384x4x512_S4x512x2x16384_1_3_2_01_0_2]
  unfold mixOf
  refine Finset.sum_congr rfl fun d _ => ?_
  rw [mul_comm]
  exact congrArg (· * _) (h (grpOf j) d)

theorem r76 (b : Fin 2) (t : Fin 16384) (k : Fin 2048) : val_main_v76 (F := Ideal) x0 x1 x3 x4 x5 x6 x7 x8 x9 (ix3 b t k)
    = resOf siluGate maskMean (fun b t k => x0 (ix3 b t k)) (fun b k => x1 (ix2 b k)) (fun k => x3 (ix1 k)) (fun j k => x4 (ix2 j k)) (fun k => x5 (ix1 k)) (fun j k => x6 (ix2 j k)) (fun q d e => x7 (ix3 q d e)) (fun k => x8 (ix1 k)) (fun j k => x9 (ix2 j k)) b t k := by
  have h := r67 x0 x1 x3 x4 x5 x6 x7 b t
  have hz := r32 x0 x1 x3 x4 x5 x6 b t
  have hm := r4 x1 x4 x5 b
  unfold val_main_v76 val_main_v75 val_main_v74 val_main_v73 val_main_v72 val_main_v70 val_main_v69 val_main_v68 val_main_v29 val_main_v7
  generalize val_main_v67 (F := Ideal) x0 x1 x3 x4 x5 x6 x7 = M at h ⊢
  generalize val_main_v71 (F := Ideal) x0 x1 x3 x4 x5 x6 = N at hz ⊢
  generalize val_main_v4 (F := Ideal) x1 x4 x5 = K at hm ⊢
  pointwise [dot_S2x16384x2048_S2048x2048_S2x16384x2048_2_0_01_1_n_n]
  simp only [h, hz, hm]
  rfl

theorem r89 (b : Fin 2) (t : Fin 16384) (k : Fin 2048) : val_main_v89 (F := Ideal) x0 x1 x3 x4 x5 x6 x7 x8 x9 x10 (ix3 b t k)
    = layer siluGate maskMean (fun b t k => x0 (ix3 b t k)) (fun b k => x1 (ix2 b k)) (fun k => x3 (ix1 k)) (fun j k => x4 (ix2 j k)) (fun k => x5 (ix1 k)) (fun j k => x6 (ix2 j k)) (fun q d e => x7 (ix3 q d e)) (fun k => x8 (ix1 k)) (fun j k => x9 (ix2 j k)) (fun k => x10 (ix1 k)) b t k := by
  have h := r76 x0 x1 x3 x4 x5 x6 x7 x8 x9 b t
  unfold val_main_v89 val_main_v88 val_main_v87 val_main_v86 val_main_v85 val_main_v84 val_main_v83 val_main_v82 val_main_v81 val_main_v80 val_main_v79 val_main_v78 val_main_v77 val_main_cst_6 val_main_cst_7 val_main_cst_8
  generalize val_main_v76 (F := Ideal) x0 x1 x3 x4 x5 x6 x7 x8 x9 = M at h ⊢
  pointwise
  simp only [h]
  rfl
end Cert.ReferenceIdeal.Val
end
-- ==== Proof.Equation.lean ====
/- The two layers agree: the windowed mean by bands is the masked mean, and the two gates agree on reals. -/
module

public import proofs.«01_k».proof.Proof.Result
public import proofs.«01_k».proof.Proof.Ref
public import Idealize.ShloMosaic.Lib.FinSumWindow

@[expose] public section
set_option maxRecDepth 16384
noncomputable section
namespace Cert.Pool
open Idealize.ShloMosaic Idealize.ShloMosaic.FinSumWindow Cert.KernelIdeal.Val

/-! ## The windowed mean -/

/-- The sequence with a margin of zeros on both sides. -/
def padded (v : Fin 16384 → EReal) (k : ℕ) : EReal := if h : 64 ≤ k ∧ k < 16448 then v ⟨k - 64, by omega⟩ else 0

/-- A band over a padded sequence is a sum over the window. -/
theorem sum_band {N : ℕ} (v : Fin 16384 → EReal) (lo W off : ℕ) (hN : lo + W ≤ N) (f : Fin N → EReal)
    (hf : ∀ P : Fin N, f P = (if lo ≤ P.val ∧ P.val < lo + W then (1 : EReal) else 0) * padded v (off + P.val)) :
    ∑ P, f P = ∑ i : Fin W, padded v (off + lo + i.val) := by
  rw [sum_window lo hN f fun P h => by rw [hf, if_neg h, zero_mul]]
  refine Finset.sum_congr rfl fun i _ => ?_
  rw [hf, if_pos ⟨Nat.le_add_right _ _, Nat.add_lt_add_left i.isLt _⟩, one_mul]
  exact congrArg _ (Nat.add_assoc _ _ _).symm

/-- The masked sum over the sequence is the same window's sum. -/
theorem sum_mask (v : Fin 16384 → EReal) (g : Fin 4) (t : ℕ) (ht : t < 16384) :
    ∑ s : Fin 16384, v s * (if loN g t ≤ s.val ∧ s.val < hiN g t then (1 : EReal) else 0)
      = ∑ i : Fin (2 * 2 ^ g.val), padded v (t + 64 - 2 ^ g.val + i.val) := by
  obtain ⟨h1, h2⟩ := pow_le g
  obtain ⟨f, hf⟩ : ∃ f : Fin 16512 → EReal, ∀ P, f P = (if t + 64 - 2 ^ g.val ≤ P.val ∧ P.val < t + 64 - 2 ^ g.val + 2 * 2 ^ g.val then (1 : EReal) else 0) * padded v (0 + P.val) := ⟨_, fun _ => rfl⟩
  have hA := sum_band v (t + 64 - 2 ^ g.val) (2 * 2 ^ g.val) 0 (by omega) f hf
  have hB := sum_window (N := 16512) (W := 16384) 64 (by omega) f fun P h => by
    rw [hf, show padded v (0 + P.val) = 0 from dif_neg (by omega), mul_zero]
  rw [show (∑ i : Fin (2 * 2 ^ g.val), padded v (t + 64 - 2 ^ g.val + i.val)) = ∑ i : Fin (2 * 2 ^ g.val), padded v (0 + (t + 64 - 2 ^ g.val) + i.val) by simp only [Nat.zero_add], ← hA, hB]
  refine Finset.sum_congr rfl fun s _ => ?_
  rw [hf]
  have hs := s.isLt
  rw [show padded v (0 + (64 + s.val)) = v s from (dif_pos (by omega)).trans (congrArg v (Fin.ext (by show 0 + (64 + s.val) - 64 = s.val; omega))), mul_comm (v s)]
  refine congrArg (· * v s) (if_congr ?_ rfl rfl)
  unfold loN hiN
  show _ ↔ t + 64 - 2 ^ g.val ≤ 64 + s.val ∧ 64 + s.val < t + 64 - 2 ^ g.val + 2 * 2 ^ g.val
  omega

/-- The reciprocal the kernel's tables give a token is the token's own. -/
theorem row_inv (g : Fin 4) (t : ℕ) (ht : t < 16384) :
    rowInv (t / 512) (fun a => invN g a.val) (fun a => invN g (16376 + a.val)) (invN g 8) ⟨t % 512, by omega⟩ = invN g t := by
  obtain ⟨h1, h2⟩ := pow_le g
  have mid : 8 ≤ t → t ≤ 16376 → invN g 8 = invN g t := fun ha hb => by
    unfold invN
    rw [show hiN g 8 - loN g 8 = hiN g t - loN g t by unfold hiN loN; omega]
  unfold rowInv
  split
  · next h =>
    have h : t % 512 < 8 := h
    split
    · exact congrArg (invN g) (by show t % 512 = t; omega)
    · exact mid (by omega) (by omega)
  · next h =>
    have h : ¬ t % 512 < 8 := h
    split
    · next h3 =>
      have h3 : t % 512 < 504 := h3
      exact mid (by omega) (by omega)
    · next h3 =>
      have h3 : ¬ t % 512 < 504 := h3
      split
      · exact congrArg (invN g) (by show 16376 + (t % 512 - 504) = t; omega)
      · exact mid (by omega) (by omega)

theorem mul_inv_count (x : EReal) (n : ℕ) (hn : 0 < n) : x * Ideal.div 1 ((n : ℝ) : EReal) = Ideal.div x ((n : ℝ) : EReal) := by
  have h : ((n : ℝ)) ≠ 0 := Nat.cast_ne_zero.mpr (by omega)
  rw [Ideal.div_coe h, Ideal.div_coe h, one_mul]

theorem mean_eq (u : Fin 16384 → Fin 2048 → EReal) (t : Fin 16384) (j : Fin 2048) : bandMean u t j = maskMean u t j := by
  obtain ⟨h1, h2⟩ := pow_le (grpOf j)
  have ht := t.isLt
  unfold bandMean maskMean
  rw [row_inv _ _ ht, sum_mask (fun s => u s j) _ _ ht]
  unfold invN
  rw [mul_inv_count _ _ (by unfold hiN loN; omega)]
  congr 1
  rw [sum_band (fun s => u s j) (t.val % 128 + 64 - 2 ^ (grpOf j).val) (2 * 2 ^ (grpOf j).val) (t.val - t.val % 128) (by omega) _ fun e => ?_]
  · refine Finset.sum_congr rfl fun i _ => congrArg _ ?_
    omega
  · have he := e.isLt
    by_cases h : t.val % 128 + 64 - 2 ^ (grpOf j).val ≤ e.val ∧ e.val < t.val % 128 + 64 + 2 ^ (grpOf j).val
    · rw [if_pos h, if_pos (by omega)]
      congr 1
      unfold extAt padded
      by_cases hk : 64 ≤ t.val - t.val % 128 + e.val ∧ t.val - t.val % 128 + e.val < 16448
      · rw [dif_pos (by omega), dif_pos hk]
        exact congrArg (fun s => u s j) (Fin.ext (by show 512 * (t.val / 512) + (128 * (t.val % 512 / 128) + e.val) - 64 = t.val - t.val % 128 + e.val - 64; omega))
      · rw [dif_neg (by omega), dif_neg hk]
    · rw [if_neg h, if_neg (by omega), zero_mul, zero_mul]

/-! ## Reals -/

/-- A value that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.one : IsReal 1 := ⟨1, EReal.coe_one.symm⟩
theorem IsReal.zero : IsReal 0 := ⟨0, EReal.coe_zero.symm⟩
theorem IsReal.sum {n : ℕ} (f : Fin n → EReal) (h : ∀ i, IsReal (f i)) : IsReal (∑ i, f i) :=
  Finset.sum_induction f IsReal (fun _ _ => IsReal.add) IsReal.zero fun i _ => h i
theorem IsReal.inner {n : ℕ} {a b : Fin n → EReal} (ha : ∀ i, IsReal (a i)) (hb : ∀ i, IsReal (b i)) : IsReal (Cert.Pool.inner a b) :=
  IsReal.sum _ fun i => (ha i).mul (hb i)

theorem half_val : half = ((1 / 2 : ℝ) : EReal) := by
  unfold half; simp [Ideal.ofBits, Ideal.ieee, -EReal.coe_mul]; norm_num
theorem width_val : width = ((2048 : ℝ) : EReal) := by
  unfold width; simp [Ideal.ofBits, Ideal.ieee, -EReal.coe_mul]; norm_num
theorem tiny_pos : ∃ e : ℝ, 0 < e ∧ tiny = (e : EReal) := by
  refine ⟨_, ?_, by unfold tiny; simp [Ideal.ofBits, Ideal.ieee, -EReal.coe_mul]; rfl⟩
  positivity

/-- On a real number the two gates agree, and give a real number. -/
theorem gate_real (r : ℝ) : tanhGate (r : EReal) = siluGate (r : EReal) ∧ IsReal (siluGate (r : EReal)) := by
  have hp : (0 : ℝ) < 1 + Real.exp (-r) := by positivity
  have e1 : siluGate (r : EReal) = ((r * (1 / (1 + Real.exp (-r))) : ℝ) : EReal) := by
    unfold siluGate
    rw [← EReal.coe_neg, show Ideal.exp ((-r : ℝ) : EReal) = ((Real.exp (-r) : ℝ) : EReal) from rfl, ← EReal.coe_one, ← EReal.coe_add, Ideal.div_coe hp.ne',
      ← EReal.coe_mul, ← EReal.coe_mul, one_mul]
  refine ⟨?_, _, e1⟩
  rw [e1]
  unfold tanhGate
  rw [half_val, ← EReal.coe_mul, show Ideal.tanh ((1 / 2 * r : ℝ) : EReal) = ((Real.tanh (1 / 2 * r) : ℝ) : EReal) from rfl, ← EReal.coe_mul, ← EReal.coe_add]
  congr 1
  rw [Real.tanh_eq_sinh_div_cosh, Real.sinh_eq, Real.cosh_eq]
  have e2 : Real.exp (-r) = Real.exp (-(1 / 2 * r)) * Real.exp (-(1 / 2 * r)) := by rw [← Real.exp_add]; congr 1; ring
  have e3 : Real.exp (1 / 2 * r) * Real.exp (-(1 / 2 * r)) = 1 := by rw [← Real.exp_add]; simp
  rw [e2]
  have hq := Real.exp_pos (-(1 / 2 * r))
  have hr := Real.exp_pos (1 / 2 * r)
  generalize Real.exp (-(1 / 2 * r)) = q at *
  generalize Real.exp (1 / 2 * r) = s at *
  have : 1 + q * q ≠ 0 := by positivity
  have : s + q ≠ 0 := by positivity
  field_simp
  linear_combination (2 * r * q) * e3

theorem gate_eq {z : EReal} (h : IsReal z) : tanhGate z = siluGate z := by obtain ⟨r, rfl⟩ := h; exact (gate_real r).1
theorem silu_real {z : EReal} (h : IsReal z) : IsReal (siluGate z) := by obtain ⟨r, rfl⟩ := h; exact (gate_real r).2

theorem square_nonneg (x : EReal) : 0 ≤ x * x := by
  induction x using EReal.rec with
  | bot => simp
  | coe r => rw [← EReal.coe_mul]; exact_mod_cast mul_self_nonneg r
  | top => simp

/-- A row over the root of its mean square is real, whatever the row holds. -/
theorem unit_real (x : Fin 2048 → EReal) (k : Fin 2048) : IsReal (unitRow x k) := by
  unfold unitRow
  obtain ⟨e, he, et⟩ := tiny_pos
  by_cases h : ∀ j, IsReal (x j)
  · obtain ⟨S, hS⟩ := IsReal.sum (fun j => x j * x j) fun j => (h j).mul (h j)
    obtain ⟨y, hy⟩ := h k
    have h0 : 0 ≤ S := EReal.coe_nonneg.mp (hS ▸ Finset.sum_nonneg fun j _ => square_nonneg (x j))
    rw [hS, width_val, et, Ideal.div_coe (by norm_num), ← EReal.coe_mul, ← EReal.coe_add, hy]
    have hp : 0 < S * (1 / 2048) + e := by positivity
    refine ⟨y * (Real.sqrt (S * (1 / 2048) + e))⁻¹, ?_⟩
    rw [EReal.coe_mul]
    congr 1
    show (if _ then _ else if _ then _ else _) = _
    rw [if_neg (by linarith), if_neg hp.ne']
  · obtain ⟨j, hj⟩ := not_forall.mp h
    have hjj : x j * x j = ⊤ := by
      induction hx : x j using EReal.rec with
      | bot => simp
      | coe r => exact absurd ⟨r, hx⟩ hj
      | top => simp
    have hs : ∑ j, x j * x j = ⊤ := top_le_iff.mp (hjj ▸ Finset.single_le_sum (f := fun j => x j * x j) (fun i _ => square_nonneg _) (Finset.mem_univ j))
    rw [hs, width_val, et, Ideal.div_coe (by norm_num)]
    rw [show ((⊤ : EReal) * ((1 / 2048 : ℝ) : EReal)) = ⊤ from EReal.top_mul_coe_of_pos (by norm_num), EReal.top_add_coe]
    rw [show Ideal.rsqrt ⊤ = 0 from rfl, mul_zero]
    exact IsReal.zero

/-! ## The layers -/

section
variable (x : Fin 2 → Fin 16384 → Fin 2048 → EReal) (c : Fin 2 → Fin 2048 → EReal) (g : Fin 2048 → EReal) (wm : Fin 2048 → Fin 6144 → EReal) (bm : Fin 6144 → EReal)
  (win : Fin 2048 → Fin 4096 → EReal) (wg : Fin 4 → Fin 512 → Fin 512 → EReal) (ls : Fin 2048 → EReal) (wo : Fin 2048 → Fin 2048 → EReal) (fn : Fin 2048 → EReal)
  (hc : ∀ b k, IsReal (c b k)) (hg : ∀ k, IsReal (g k)) (hwm : ∀ j k, IsReal (wm j k)) (hbm : ∀ k, IsReal (bm k)) (hwin : ∀ j k, IsReal (win j k))

include hc in
theorem mod_eq : modAt tanhGate c wm bm = modAt siluGate c wm bm := by
  funext b k
  unfold modAt
  simp only [fun j => gate_eq (hc b j)]
include hc hwm hbm in
theorem mod_real (b : Fin 2) (k : Fin 6144) : IsReal (modAt siluGate c wm bm b k) :=
  (IsReal.inner (fun j => silu_real (hc b j)) fun j => hwm j k).add (hbm k)
include hc hg hwm hbm in
theorem h_real (b : Fin 2) (t : Fin 16384) (k : Fin 2048) : IsReal (hAt siluGate x c g wm bm b t k) :=
  (((unit_real _ k).mul (hg k)).mul (IsReal.one.add (mod_real c wm bm hc hwm hbm b _))).add (mod_real c wm bm hc hwm hbm b _)
include hc in
theorem h_eq : hAt tanhGate x c g wm bm = hAt siluGate x c g wm bm := by
  funext b t
  unfold hAt
  rw [mod_eq c wm bm hc]
include hc hg hwm hbm hwin in
theorem z_eq : zAt tanhGate x c g wm bm win = zAt siluGate x c g wm bm win := by
  funext b t j
  unfold zAt
  rw [h_eq x c g wm bm hc]
  exact gate_eq (IsReal.inner (h_real x c g wm bm hc hg hwm hbm b t) fun k => hwin k _)
include hc hg hwm hbm hwin in
/-- The kernel's layer is the reference's. -/
theorem layer_eq : layer tanhGate bandMean x c g wm bm win wg ls wo fn = layer siluGate maskMean x c g wm bm win wg ls wo fn := by
  have hm : bandMean = maskMean := funext fun u => funext fun t => funext fun j => mean_eq u t j
  have hu : uAt tanhGate x c g wm bm win = uAt siluGate x c g wm bm win := by
    funext b t j
    unfold uAt
    rw [h_eq x c g wm bm hc]
  have hr : resOf tanhGate maskMean x c g wm bm win wg ls wo = resOf siluGate maskMean x c g wm bm win wg ls wo := by
    funext b t k
    unfold resOf
    rw [mod_eq c wm bm hc, hu, z_eq x c g wm bm win hc hg hwm hbm hwin]
  funext b t k
  unfold layer
  rw [hm, hr]
end
end Cert.Pool
end
-- ==== Proof.Finite.lean ====
/- The precondition, read: the conditioning, the norm's weights, the modulation and the input projection are real numbers. -/
module

public import proofs.«01_k».proof.Proof.Equation
public import proofs.«01_k».proof.Defs
public import proofs.«01_k».proof.Proof.Gen.Pre_finite
public import Idealize.ShloMosaic.Lib.ReduceAll

@[expose] public section
set_option maxRecDepth 16384
noncomputable section
namespace Cert.Pool
open Idealize.ShloMosaic Idealize.ShloMosaic.TcCoe Idealize.SL.Sem Cert.KernelIdeal.Val

theorem inf_val : Ideal.ofBits .f32 0x7F800000#32 = (⊤ : EReal) := by
  simp [Ideal.ofBits, Ideal.ieee]

/-- A value whose absolute value lies under infinity is real. -/
theorem real_of_lt (x : EReal) (h : FloatOps.cmpf (F := Ideal) (φ := .f32) .olt (FloatOps.hostAbsf (F := Ideal) (φ := .f32) x) (Ideal.ofBits .f32 0x7F800000#32) = 1#1) : IsReal x := by
  rw [inf_val] at h
  have h : BitVec.ofBool (decide (max x (-x) < ⊤)) = 1#1 := h
  induction x using EReal.rec with
  | bot => exact absurd h (by simp)
  | coe r => exact ⟨r, rfl⟩
  | top => exact absurd h (by simp)

section
open Cert.Pre_finite
variable (a0 : Vec Ideal S2x16384x2048 .f32) (a1 : Vec Ideal S2x2048 .f32) (a2 a3 : Vec Ideal S2048 .f32) (a4 : Vec Ideal S2048x6144 .f32) (a5 : Vec Ideal S6144 .f32)
  (a6 : Vec Ideal S2048x4096 .f32) (a7 : Vec Ideal S4x512x512 .f32) (a8 : Vec Ideal S2048 .f32) (a9 : Vec Ideal S2048x2048 .f32) (a10 : Vec Ideal S2048 .f32)

/-- The precondition at its one index, taken apart. -/
theorem finite_parts (h : Cert.Pre_finite.fn (F := Ideal) a0 a1 a2 a3 a4 a5 a6 a7 a8 a9 a10 = fun _ => 1#1) :
    (∀ i, IsReal (a1 i)) ∧ (∀ i, IsReal (a3 i)) ∧ (∀ i, IsReal (a4 i)) ∧ (∀ i, IsReal (a5 i)) ∧ (∀ i, IsReal (a6 i)) := by
  have h0 := congrFun h (fun i => i.elim0)
  unfold Cert.Pre_finite.fn Cert.Pre_finite.fn_part1 at h0
  obtain ⟨h1, e6⟩ := IntOp.andi_eq_one.mp h0
  obtain ⟨h2, e5⟩ := IntOp.andi_eq_one.mp h1
  obtain ⟨h3, e4⟩ := IntOp.andi_eq_one.mp h2
  obtain ⟨e1, e3⟩ := IntOp.andi_eq_one.mp h3
  haveI : Subsingleton S_.Idx := ⟨fun a b => funext fun i => i.elim0⟩
  exact ⟨fun i => real_of_lt _ (Host.reduce_andi_all _ _ _ _ _ e1 i), fun i => real_of_lt _ (Host.reduce_andi_all _ _ _ _ _ e3 i), fun i => real_of_lt _ (Host.reduce_andi_all _ _ _ _ _ e4 i),
    fun i => real_of_lt _ (Host.reduce_andi_all _ _ _ _ _ e5 i), fun i => real_of_lt _ (Host.reduce_andi_all _ _ _ _ _ e6 i)⟩
end
end Cert.Pool
end
-- ==== Proof.Claims.lean ====
/- The value claim and the reference's frame. -/
module

public import proofs.«01_k».proof.Proof.Run
public import proofs.«01_k».proof.Proof.Finite
public import proofs.«01_k».proof.Proof.Gen.ReferenceIdeal.Run
public import Idealize.ShloMosaic.Adequacy
public import Idealize.ShloMosaic.Init

@[expose] public section
set_option maxRecDepth 16384
noncomputable section
namespace Cert.Pool
open Idealize.ShloMosaic Idealize.ShloMosaic.TcCoe Idealize.SL.Sem Cert.KernelIdeal.Val

/-- The reference ends with its arguments unchanged; it has no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's program and the reference, from equal arguments, end with equal results. -/
theorem algebraic : Cert.algebraic_KernelIdeal_ReferenceIdeal_pre_finite := by
  intro m ρ m' ρ' hpre hagree
  refine ⟨fun c => layerOf m c tanhGate bandMean, run m ρ, ?_⟩
  refine (θ_run Cert.ReferenceIdeal.defs _ _).mono (fun _ h c => ⟨(h c).1.trans ?_, (h c).2⟩) (Cert.ReferenceIdeal.Value.run (F := Ideal) m' ρ')
  obtain ⟨e0, e1, -, e3, e4, e5, e6, e7, e8, e9, e10⟩ := hagree c
  obtain ⟨f1, f3, f4, f5, f6⟩ := finite_parts _ _ _ _ _ _ _ _ _ _ _ (hpre c)
  refine (Cert.ReferenceIdeal.Read.val_main_v89_eq m' c).trans ?_
  rw [e0, e1, e3, e4, e5, e6, e7, e8, e9, e10]
  funext y
  refine (congrArg _ (eq_ix3 y)).trans ?_
  refine (Cert.ReferenceIdeal.Val.r89 _ _ _ _ _ _ _ _ _ _ (y 0) (y 1) (y 2)).trans ?_
  exact congrFun (congrFun (congrFun (layer_eq (aX m c) (aC m c) (aG m c) (aWm m c) (aBm m c) (aWin m c) (aWg m c) (aLs m c) (aWo m c) (aFn m c)
    (fun _ _ => f1 _) (fun _ => f3 _) (fun _ _ => f4 _) (fun _ => f5 _) (fun _ _ => f6 _)).symm (y 0)) (y 1)) (y 2)
end Cert.Pool
end
-- ==== Proof.In0.lean ====
/- What one block of layer 0's input projection holds: every piece the body stores is a tile of one function of the block. -/
module

public import proofs.«01_k».proof.Proof.Gen.Kernel2Ideal.Frame
public import proofs.«01_k».proof.Proof.Spec
public import Idealize.ShloMosaic.Lib.KernelVsHost

@[expose] public section
set_option maxRecDepth 16384
noncomputable section
namespace Cert.Pool
open Idealize.ShloMosaic

/-- The queries' scale, as the programs' own constant. -/
def qscale : EReal := Ideal.ofBits .f32 0x3E0293EE#32
/-- The lane a rotation pairs a lane with: lanes go in two groups of two halves. -/
def partner (l : Fin 128) : Fin 128 := if l.val % 64 < 32 then ⟨(l.val + 32) % 128, Nat.mod_lt _ (by decide)⟩ else ⟨(l.val + 96) % 128, Nat.mod_lt _ (by decide)⟩
/-- One head rotated: a lane by its cosine, its partner by the signed sine. -/
def rotAt (z c s : Fin 128 → EReal) (l : Fin 128) : EReal := z l * c l + z (partner l) * s l

end Cert.Pool

namespace Cert.Kernel2Ideal.Val
open Idealize.ShloMosaic Idealize.ShloMosaic.TcCoe Idealize.ShloMosaic.Tactic
open Idealize.SL Idealize.SL.Sem
open Cert.Kernel2Ideal Cert.Kernel2Ideal.Gen Cert.Pool

/-- The normalised rows of a block. -/
def hRows (x0 : Vec Ideal S1x512x2048 .f32) (x1 : Vec Ideal S1x2048 .f32) (x2 x3 : Vec Ideal S1x1x2048 .f32) : S512x2048.Idx → EReal :=
  fun y => modRow (fun k => x0 (ix3 0 (y 0) k)) (fun k => x1 (ix2 0 k)) (fun k => x2 (ix3 0 0 k)) (fun k => x3 (ix3 0 0 k)) (y 1)

/-- A row of the block against a column of the weights. -/
def projAt (h : S512x2048.Idx → EReal) (w : S2048x5120.Idx → EReal) (r : Fin 512) (j : Fin 5120) : EReal :=
  Cert.Pool.inner (fun k : Fin 2048 => h (ix2 r k)) (fun k => w (ix2 k j))

/-- The queries of the block, rotated by the scaled tables. -/
def qBlk (h : S512x2048.Idx → EReal) (w : S2048x5120.Idx → EReal) (cs sn : S512x128.Idx → EReal) : S1x512x1536.Idx → EReal :=
  fun y => rotAt (fun l => projAt h w (y 1) ⟨128 * ((y 2).val / 128) + l.val, by have h2 : (y 2).val < 1536 := (y 2).isLt; omega⟩)
    (fun l => cs (ix2 (y 1) l) * qscale) (fun l => sn (ix2 (y 1) l) * qscale) ⟨(y 2).val % 128, Nat.mod_lt _ (by decide)⟩
/-- The keys of the block, rotated. -/
def kBlk (h : S512x2048.Idx → EReal) (w : S2048x5120.Idx → EReal) (cs sn : S512x128.Idx → EReal) : S1x512x512.Idx → EReal :=
  fun y => rotAt (fun l => projAt h w (y 1) ⟨1536 + (128 * ((y 2).val / 128) + l.val), by have h2 : (y 2).val < 512 := (y 2).isLt; omega⟩)
    (fun l => cs (ix2 (y 1) l)) (fun l => sn (ix2 (y 1) l)) ⟨(y 2).val % 128, Nat.mod_lt _ (by decide)⟩
/-- The values of the block. -/
def vBlk (h : S512x2048.Idx → EReal) (w : S2048x5120.Idx → EReal) : S1x512x512.Idx → EReal :=
  fun y => projAt h w (y 1) ⟨2048 + (y 2).val, by have h2 : (y 2).val < 512 := (y 2).isLt; omega⟩
/-- The mixer's channels of the block. -/
def fBlk (h : S512x2048.Idx → EReal) (w : S2048x5120.Idx → EReal) : S1x512x512.Idx → EReal :=
  fun y => projAt h w (y 1) ⟨2560 + (y 2).val, by have h2 : (y 2).val < 512 := (y 2).isLt; omega⟩
/-- The gate of the block. -/
def zBlk (h : S512x2048.Idx → EReal) (w : S2048x5120.Idx → EReal) : S1x512x2048.Idx → EReal :=
  fun y => tanhGate (projAt h w (y 1) ⟨3072 + (y 2).val, by have h2 : (y 2).val < 2048 := (y 2).isLt; omega⟩)

/-! ## The payloads in one vocabulary -/

def tileU (X : Vec Ideal S256x2048 .bf16) (Y : Vec Ideal S2048x512 .bf16) : FVec Ideal S1x256x512 .bf16 := k1_pay106 X Y
def tileF (X : Vec Ideal S256x2048 .bf16) (Y : Vec Ideal S2048x512 .bf16) : FVec Ideal S1x256x512 .f32 := k1_pay108 X Y
def tileZ (X : Vec Ideal S256x2048 .bf16) (Y : Vec Ideal S2048x512 .bf16) : FVec Ideal S1x256x512 .bf16 := k1_pay13 X Y
def mat (X : Vec Ideal S256x2048 .bf16) (Y : Vec Ideal S2048x512 .bf16) : FVec Ideal S256x512 .f32 := k1_pay98 X Y
def rowsT (v0 : Vec Ideal S1x256x2048 .f32) (v2 : Vec Ideal S1x2048 .f32) (v4 v6 : Vec Ideal S1x1x2048 .f32) : FVec Ideal S256x2048 .bf16 :=
  k1_pay6 (k1_pay2 v2) (k1_pay3 v4) (k1_pay4 v6) (k1_pay5 v0)

/-- A head of a tile. -/
def head (o : ℕ) (hs : S256x512.Slices ![0, o] S256x128) (M : FVec Ideal S256x512 .f32) : FVec Ideal S256x128 .f32 := extractStridedSlice S256x128 ![0, o] M hs
/-- A head rotated. -/
def ropeV (Z C S : FVec Ideal S256x128 .f32) : FVec Ideal S256x128 .f32 :=
  addf (mulf Z C) (mulf (select k1_pay1 (dynamicRotate 1 96#32 none Z rotates_S256x128_d1) (dynamicRotate 1 32#32 none Z rotates_S256x128_d1)) S)
/-- A head put in its place. -/
def cast3 (V : FVec Ideal S256x128 .f32) : FVec Ideal S1x256x128 .bf16 := shapeCast S1x256x128 (truncf .bf16 V bitsLt_bf16_f32) shapeCasts_S256x128_S1x256x128
/-- A table times the queries' scale. -/
def scaled (C : Vec Ideal S256x128 .f32) : FVec Ideal S256x128 .f32 := k1_pay41 C
/-- A table as it is. -/
def plain (C : Vec Ideal S256x128 .f32) : FVec Ideal S256x128 .f32 := k1_pay99 C
def ropeQ (o : ℕ) (hs : S256x512.Slices ![0, o] S256x128) (X : Vec Ideal S256x2048 .bf16) (Y : Vec Ideal S2048x512 .bf16) (C S : Vec Ideal S256x128 .f32) : FVec Ideal S1x256x128 .bf16 :=
  cast3 (ropeV (head o hs (mat X Y)) (scaled C) (scaled S))
def ropeK (o : ℕ) (hs : S256x512.Slices ![0, o] S256x128) (X : Vec Ideal S256x2048 .bf16) (Y : Vec Ideal S2048x512 .bf16) (C S : Vec Ideal S256x128 .f32) : FVec Ideal S1x256x128 .bf16 :=
  cast3 (ropeV (head o hs (mat X Y)) (plain C) (plain S))

theorem tileU_apply (X : Vec Ideal S256x2048 .bf16) (Y : Vec Ideal S2048x512 .bf16) (y : S1x256x512.Idx) :
    tileU X Y y = Cert.Pool.inner (fun k : Fin 2048 => X (ix2 (y 1) k)) (fun k => Y (ix2 k (y 2))) := by
  unfold tileU Cert.Pool.inner; unfold_payloads
  pointwise [dot_S256x2048_S2048x512_S256x512_1_0_0_1_n_n]
theorem tileF_apply (X : Vec Ideal S256x2048 .bf16) (Y : Vec Ideal S2048x512 .bf16) (y : S1x256x512.Idx) :
    tileF X Y y = Cert.Pool.inner (fun k : Fin 2048 => X (ix2 (y 1) k)) (fun k => Y (ix2 k (y 2))) := by
  unfold tileF Cert.Pool.inner; unfold_payloads
  pointwise [dot_S256x2048_S2048x512_S256x512_1_0_0_1_n_n]
theorem tileZ_apply (X : Vec Ideal S256x2048 .bf16) (Y : Vec Ideal S2048x512 .bf16) (y : S1x256x512.Idx) :
    tileZ X Y y = tanhGate (Cert.Pool.inner (fun k : Fin 2048 => X (ix2 (y 1) k)) (fun k => Y (ix2 k (y 2)))) := by
  unfold tileZ Cert.Pool.inner tanhGate half; unfold_payloads
  pointwise [dot_S256x2048_S2048x512_S256x512_1_0_0_1_n_n]
theorem mat_apply (X : Vec Ideal S256x2048 .bf16) (Y : Vec Ideal S2048x512 .bf16) (y : S256x512.Idx) :
    mat X Y y = Cert.Pool.inner (fun k : Fin 2048 => X (ix2 (y 0) k)) (fun k => Y (ix2 k (y 1))) := by
  unfold mat Cert.Pool.inner; unfold_payloads
  pointwise [dot_S256x2048_S2048x512_S256x512_1_0_0_1_n_n]
theorem rowsT_apply (v0 : Vec Ideal S1x256x2048 .f32) (v2 : Vec Ideal S1x2048 .f32) (v4 v6 : Vec Ideal S1x1x2048 .f32) (y : S256x2048.Idx) :
    rowsT v0 v2 v4 v6 y
      = modRow (fun k => v0 (ix3 0 (y 0) k)) (fun k => v2 (ix2 0 k)) (fun k => v4 (ix3 0 0 k)) (fun k => v6 (ix3 0 0 k)) (y 1) := by
  unfold rowsT modRow unitRow width tiny; unfold_payloads
  pointwise
theorem cast3_apply (V : FVec Ideal S256x128 .f32) (y : S1x256x128.Idx) : cast3 V y = V (ix2 (y 1) (y 2)) := by
  unfold cast3
  pointwise
theorem scaled_apply (C : Vec Ideal S256x128 .f32) (y : S256x128.Idx) : scaled C y = C y * qscale := by
  unfold scaled qscale; unfold_payloads
  pointwise
theorem plain_apply (C : Vec Ideal S256x128 .f32) (y : S256x128.Idx) : plain C y = C y := by
  unfold plain; unfold_payloads
  pointwise

/-- The lanes whose partner lies to the right. -/
theorem mask_apply (r : Fin 256) (l : Fin 128) : k1_pay1 (ix2 r l) = if l.val % 64 < 32 then 1#1 else 0#1 := by
  have e : k1_pay1 (ix2 r l) = k1_pay1 (ix2 0 l) := rfl
  rw [e]
  exact (by decide +kernel : ∀ l : Fin 128, k1_pay1 (ix2 0 l) = if l.val % 64 < 32 then 1#1 else 0#1) l

theorem ropeV_apply (Z C S : FVec Ideal S256x128 .f32) (r : Fin 256) (l : Fin 128) :
    ropeV Z C S (ix2 r l) = rotAt (fun l => Z (ix2 r l)) (fun l => C (ix2 r l)) (fun l => S (ix2 r l)) l := by
  have hl := l.isLt
  have e1 : dynamicRotate 1 96#32 none Z rotates_S256x128_d1 (ix2 r l) = Z (ix2 r ⟨(l.val + 32) % 128, Nat.mod_lt _ (by decide)⟩) := by
    refine dynamicRotate_apply 1 96#32 Z _ _ _ fun b => ?_
    match b with
    | ⟨0, _⟩ => rfl
    | ⟨1, _⟩ => show (l.val + 32) % 128 = (l.val + 128 - 96 % 128) % 128; omega
  have e2 : dynamicRotate 1 32#32 none Z rotates_S256x128_d1 (ix2 r l) = Z (ix2 r ⟨(l.val + 96) % 128, Nat.mod_lt _ (by decide)⟩) := by
    refine dynamicRotate_apply 1 32#32 Z _ _ _ fun b => ?_
    match b with
    | ⟨0, _⟩ => rfl
    | ⟨1, _⟩ => show (l.val + 96) % 128 = (l.val + 128 - 32 % 128) % 128; omega
  show Z (ix2 r l) * C (ix2 r l) + Scalar.select (k1_pay1 (ix2 r l)) (dynamicRotate 1 96#32 none Z rotates_S256x128_d1 (ix2 r l)) (dynamicRotate 1 32#32 none Z rotates_S256x128_d1 (ix2 r l)) * S (ix2 r l) = _
  rw [e1, e2, mask_apply]
  unfold rotAt partner Scalar.select
  by_cases h : l.val % 64 < 32
  · simp only [if_pos h]
    exact congrArg (fun w => Z (ix2 r l) * C (ix2 r l) + w * S (ix2 r l)) (if_pos rfl)
  · simp only [if_neg h, if_neg (by decide : ¬ (0#1 = (1 : BitVec 1)))]

theorem head_apply (o : ℕ) (hs : S256x512.Slices ![0, o] S256x128) (ho : o + 128 ≤ 512) (M : FVec Ideal S256x512 .f32) (r : Fin 256) (l : Fin 128) :
    head o hs M (ix2 r l) = M (ix2 r ⟨o + l.val, by omega⟩) := by
  refine congrArg M (funext fun a => Fin.ext ?_)
  match a with
  | ⟨0, _⟩ => show 0 + r.val = r.val; omega
  | ⟨1, _⟩ => rfl

theorem ropeQ_apply (o : ℕ) (hs : S256x512.Slices ![0, o] S256x128) (ho : o + 128 ≤ 512) (X : Vec Ideal S256x2048 .bf16) (Y : Vec Ideal S2048x512 .bf16) (C S : Vec Ideal S256x128 .f32)
    (y : S1x256x128.Idx) : ropeQ o hs X Y C S y
      = rotAt (fun l => Cert.Pool.inner (fun k : Fin 2048 => X (ix2 (y 1) k)) (fun k => Y (ix2 k ⟨o + l.val, by omega⟩))) (fun l => C (ix2 (y 1) l) * qscale) (fun l => S (ix2 (y 1) l) * qscale) (y 2) := by
  unfold ropeQ
  rw [cast3_apply]
  refine (ropeV_apply _ _ _ (y 1) (y 2)).trans ?_
  exact congrFun (congr (congr (congrArg rotAt (funext fun l => (head_apply o hs ho _ (y 1) l).trans (mat_apply X Y _))) (funext fun l => scaled_apply C _)) (funext fun l => scaled_apply S _)) _
theorem ropeK_apply (o : ℕ) (hs : S256x512.Slices ![0, o] S256x128) (ho : o + 128 ≤ 512) (X : Vec Ideal S256x2048 .bf16) (Y : Vec Ideal S2048x512 .bf16) (C S : Vec Ideal S256x128 .f32)
    (y : S1x256x128.Idx) : ropeK o hs X Y C S y
      = rotAt (fun l => Cert.Pool.inner (fun k : Fin 2048 => X (ix2 (y 1) k)) (fun k => Y (ix2 k ⟨o + l.val, by omega⟩))) (fun l => C (ix2 (y 1) l)) (fun l => S (ix2 (y 1) l)) (y 2) := by
  unfold ropeK
  rw [cast3_apply]
  refine (ropeV_apply _ _ _ (y 1) (y 2)).trans ?_
  exact congrFun (congr (congr (congrArg rotAt (funext fun l => (head_apply o hs ho _ (y 1) l).trans (mat_apply X Y _))) (funext fun l => plain_apply C _)) (funext fun l => plain_apply S _)) _

theorem pay6 (v0 v2 v4 v6) : k1_pay6 (F := Ideal) (k1_pay2 v2) (k1_pay3 v4) (k1_pay4 v6) (k1_pay5 v0) = rowsT v0 v2 v4 v6 := rfl
theorem pay11 (v0 v2 v4 v6) : k1_pay11 (F := Ideal) (k1_pay8 v4) (k1_pay9 v6) (k1_pay10 v0 v2) (Scalar.ofBits .f32 0x3F800000#32) = rowsT v0 v2 v4 v6 := rfl
theorem pay12 (X Y) : k1_pay12 (F := Ideal) (k1_pay7 X Y) = tileZ X Y := rfl
theorem pay13 : @k1_pay13 Ideal _ = tileZ := rfl
theorem pay19 (X Y) : k1_pay19 (F := Ideal) (k1_pay14 X Y) = tileZ X Y := rfl
theorem pay22 (X Y) : k1_pay22 (F := Ideal) (k1_pay20 X Y) (k1_pay21 X Y) = tileZ X Y := rfl
theorem pay23 : @k1_pay23 Ideal _ = tileZ := rfl
theorem pay24 : @k1_pay24 Ideal _ = tileZ := rfl
theorem pay25 : @k1_pay25 Ideal _ = tileZ := rfl
theorem pay26 : @k1_pay26 Ideal _ = tileZ := rfl
theorem pay106 : @k1_pay106 Ideal _ = tileU := rfl
theorem pay107 : @k1_pay107 Ideal _ = tileU := rfl
theorem pay108 : @k1_pay108 Ideal _ = tileF := rfl
theorem pay109 : @k1_pay109 Ideal _ = tileF := rfl
theorem pay33 (X Y C S) : k1_pay33 (F := Ideal) k1_pay1 (k1_pay27 X Y) (k1_pay28 C) (k1_pay29 S) k1_pay30 = ropeQ 0 slices_S256x512_o0_0_S256x128 X Y C S := rfl
theorem pay34 (X Y C S) : k1_pay34 (F := Ideal) k1_pay1 (k1_pay27 X Y) (k1_pay28 C) (k1_pay29 S) k1_pay30 = ropeQ 128 slices_S256x512_o0_128_S256x128 X Y C S := rfl
theorem pay35 (X Y C S) : k1_pay35 (F := Ideal) k1_pay1 (k1_pay27 X Y) (k1_pay28 C) (k1_pay29 S) k1_pay30 = ropeQ 256 slices_S256x512_o0_256_S256x128 X Y C S := rfl
theorem pay39 (X Y C S) : k1_pay39 (F := Ideal) k1_pay1 (k1_pay31 (k1_pay28 C) k1_pay30) (k1_pay32 (k1_pay29 S)) (k1_pay36 (k1_pay27 X Y)) (k1_pay37 (k1_pay27 X Y)) (k1_pay38 (k1_pay27 X Y)) = ropeQ 384 slices_S256x512_o0_384_S256x128 X Y C S := rfl
theorem pay43 (X Y C S) : k1_pay43 (F := Ideal) k1_pay1 X Y C S = ropeQ 0 slices_S256x512_o0_0_S256x128 X Y C S := rfl
theorem pay47 (X Y C S) : k1_pay47 (F := Ideal) (k1_pay45 X Y C) (k1_pay46 k1_pay1 X Y S) = ropeQ 128 slices_S256x512_o0_128_S256x128 X Y C S := rfl
theorem pay48 (X Y C S) : k1_pay48 (F := Ideal) k1_pay1 (k1_pay40 X Y) (k1_pay41 C) (k1_pay42 S) = ropeQ 256 slices_S256x512_o0_256_S256x128 X Y C S := rfl
theorem pay49 (X Y C S) : k1_pay49 (F := Ideal) k1_pay1 (k1_pay40 X Y) (k1_pay41 C) (k1_pay42 S) = ropeQ 384 slices_S256x512_o0_384_S256x128 X Y C S := rfl
theorem pay55 (X Y C S) : k1_pay55 (F := Ideal) k1_pay1 (k1_pay50 X Y) (k1_pay51 C) (k1_pay52 S) = ropeQ 0 slices_S256x512_o0_0_S256x128 X Y C S := rfl
theorem pay56 (X Y C S) : k1_pay56 (F := Ideal) k1_pay1 (k1_pay50 X Y) (k1_pay51 C) (k1_pay52 S) = ropeQ 128 slices_S256x512_o0_128_S256x128 X Y C S := rfl
theorem pay57 (X Y C S) : k1_pay57 (F := Ideal) k1_pay1 (k1_pay50 X Y) (k1_pay51 C) (k1_pay52 S) = ropeQ 256 slices_S256x512_o0_256_S256x128 X Y C S := rfl
theorem pay60 (X Y C S) : k1_pay60 (F := Ideal) k1_pay1 (k1_pay53 (k1_pay51 C)) (k1_pay54 (k1_pay52 S)) (k1_pay58 (k1_pay50 X Y)) (k1_pay59 (k1_pay50 X Y)) = ropeQ 384 slices_S256x512_o0_384_S256x128 X Y C S := rfl
theorem pay64 (X Y C S) : k1_pay64 (F := Ideal) k1_pay1 X Y C S = ropeQ 0 slices_S256x512_o0_0_S256x128 X Y C S := rfl
theorem pay67 (X Y C S) : k1_pay67 (F := Ideal) (k1_pay62 C) (k1_pay63 S) (k1_pay65 X Y) (k1_pay66 k1_pay1 X Y) = ropeQ 128 slices_S256x512_o0_128_S256x128 X Y C S := rfl
theorem pay68 (X Y C S) : k1_pay68 (F := Ideal) k1_pay1 (k1_pay61 X Y) (k1_pay62 C) (k1_pay63 S) = ropeQ 256 slices_S256x512_o0_256_S256x128 X Y C S := rfl
theorem pay69 (X Y C S) : k1_pay69 (F := Ideal) k1_pay1 (k1_pay61 X Y) (k1_pay62 C) (k1_pay63 S) = ropeQ 384 slices_S256x512_o0_384_S256x128 X Y C S := rfl
theorem pay74 (X Y C S) : k1_pay74 (F := Ideal) k1_pay1 (k1_pay70 X Y) (k1_pay71 C) S = ropeQ 0 slices_S256x512_o0_0_S256x128 X Y C S := rfl
theorem pay75 (X Y C S) : k1_pay75 (F := Ideal) k1_pay1 (k1_pay70 X Y) (k1_pay71 C) S = ropeQ 128 slices_S256x512_o0_128_S256x128 X Y C S := rfl
theorem pay76 (X Y C S) : k1_pay76 (F := Ideal) k1_pay1 (k1_pay70 X Y) (k1_pay71 C) S = ropeQ 256 slices_S256x512_o0_256_S256x128 X Y C S := rfl
theorem pay78 (X Y C S) : k1_pay78 (F := Ideal) k1_pay1 (k1_pay72 (k1_pay71 C)) (k1_pay73 S) (k1_pay77 (k1_pay70 X Y)) = ropeQ 384 slices_S256x512_o0_384_S256x128 X Y C S := rfl
theorem pay82 (X Y C S) : k1_pay82 (F := Ideal) k1_pay1 X Y C S = ropeQ 0 slices_S256x512_o0_0_S256x128 X Y C S := rfl
theorem pay85 (X Y C S) : k1_pay85 (F := Ideal) k1_pay1 (k1_pay80 C) (k1_pay81 S) (k1_pay83 X Y) (k1_pay84 X Y) 32#32 = ropeQ 128 slices_S256x512_o0_128_S256x128 X Y C S := rfl
theorem pay86 (X Y C S) : k1_pay86 (F := Ideal) k1_pay1 (k1_pay79 X Y) (k1_pay80 C) (k1_pay81 S) = ropeQ 256 slices_S256x512_o0_256_S256x128 X Y C S := rfl
theorem pay87 (X Y C S) : k1_pay87 (F := Ideal) k1_pay1 (k1_pay79 X Y) (k1_pay80 C) (k1_pay81 S) = ropeQ 384 slices_S256x512_o0_384_S256x128 X Y C S := rfl
theorem pay91 (X Y C S) : k1_pay91 (F := Ideal) k1_pay1 (k1_pay88 X Y) (k1_pay89 C) S = ropeK 0 slices_S256x512_o0_0_S256x128 X Y C S := rfl
theorem pay92 (X Y C S) : k1_pay92 (F := Ideal) k1_pay1 (k1_pay88 X Y) (k1_pay89 C) S = ropeK 128 slices_S256x512_o0_128_S256x128 X Y C S := rfl
theorem pay93 (X Y C S) : k1_pay93 (F := Ideal) k1_pay1 (k1_pay88 X Y) (k1_pay89 C) S = ropeK 256 slices_S256x512_o0_256_S256x128 X Y C S := rfl
theorem pay97 (X Y C S) : k1_pay97 (F := Ideal) k1_pay1 (k1_pay89 C) (k1_pay90 S) (k1_pay94 (k1_pay88 X Y)) (k1_pay95 (k1_pay88 X Y)) (k1_pay96 (k1_pay88 X Y)) = ropeK 384 slices_S256x512_o0_384_S256x128 X Y C S := rfl
theorem pay101 (X Y C S) : k1_pay101 (F := Ideal) k1_pay1 X Y C S = ropeK 0 slices_S256x512_o0_0_S256x128 X Y C S := rfl
theorem pay103 (X Y C S) : k1_pay103 (F := Ideal) (k1_pay102 k1_pay1 X Y C S) = ropeK 128 slices_S256x512_o0_128_S256x128 X Y C S := rfl
theorem pay104 (X Y C S) : k1_pay104 (F := Ideal) k1_pay1 (k1_pay98 X Y) (k1_pay99 C) (k1_pay100 S) = ropeK 256 slices_S256x512_o0_256_S256x128 X Y C S := rfl
theorem pay105 (X Y C S) : k1_pay105 (F := Ideal) k1_pay1 (k1_pay98 X Y) (k1_pay99 C) (k1_pay100 S) = ropeK 384 slices_S256x512_o0_384_S256x128 X Y C S := rfl

/-! ## One row set, one tile -/

/-- A stored row set is the block's rows at its place. -/
theorem rows_piece (x0 : Vec Ideal S1x512x2048 .f32) (x1 : Vec Ideal S1x2048 .f32) (x2 x3 : Vec Ideal S1x1x2048 .f32) (o : ℕ)
    (inb : ∀ a, (![0, o, 0] : Fin 3 → ℕ) a + S1x256x2048.size a ≤ S1x512x2048.size a)
    (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S512x2048.size a) (y : S256x2048.Idx) :
    rowsT (View.ld (Val := Elt Ideal) (e' := .f32) x0 (Rect.unit ![0, o, 0] S1x256x2048.size inb))
        (View.ld (Val := Elt Ideal) (e' := .f32) x1 (Rect.unit ![0, 0] S1x2048.size inb1))
        (View.ld (Val := Elt Ideal) (e' := .f32) x2 (Rect.unit ![0, 0, 0] S1x1x2048.size inb2))
        (View.ld (Val := Elt Ideal) (e' := .f32) x3 (Rect.unit ![0, 0, 0] S1x1x2048.size inb3)) y
      = hRows x0 x1 x2 x3 ((Rect.unit (s := S512x2048) ![o, 0] S256x2048.size inb').emb y) := by
  rw [rowsT_apply]
  unfold hRows
  have e0 : ∀ k : Fin 2048, (Rect.unit (s := S1x512x2048) ![0, o, 0] S1x256x2048.size inb).idx (ix3 0 (y 0) k)
      = ix3 0 (((Rect.unit (s := S512x2048) ![o, 0] S256x2048.size inb').emb y) 0) k := by
    intro k; funext a; apply Fin.ext
    match a with
    | ⟨0, _⟩ => rfl
    | ⟨1, _⟩ => rfl
    | ⟨2, _⟩ => show 0 + 1 * k.val = k.val; omega
  have e1 : View.ld (Val := Elt Ideal) (e' := .f32) x1 (Rect.unit ![0, 0] S1x2048.size inb1) = x1 := View.ld_unit_zero (S := S1x2048) (by decide) _ _
  have e2 : View.ld (Val := Elt Ideal) (e' := .f32) x2 (Rect.unit ![0, 0, 0] S1x1x2048.size inb2) = x2 := View.ld_unit_zero (S := S1x1x2048) (by decide) _ _
  have e3 : View.ld (Val := Elt Ideal) (e' := .f32) x3 (Rect.unit ![0, 0, 0] S1x1x2048.size inb3) = x3 := View.ld_unit_zero (S := S1x1x2048) (by decide) _ _
  have ey : ((Rect.unit (s := S512x2048) ![o, 0] S256x2048.size inb').emb y) 1 = y 1 := Fin.ext (by show 0 + 1 * (y 1).val = _; omega)
  rw [e1, e2, e3, ey]
  simp only [View.ld, e0]
  rfl

/-- The stored row sets all restrict one function, so a load of a stored row set reads it. -/
theorem rows_read (h : S512x2048.Idx → EReal) (L : List (View.Piece (Elt Ideal) S512x2048 .bf16)) (o : ℕ)
    (inb : ∀ a, (![o, 0] : Fin 2 → ℕ) a + S256x2048.size a ≤ S512x2048.size a)
    (hL : ∀ p ∈ L, ∀ x : p.1.shape.Idx, p.2 x = h (p.1.emb x))
    (hm : ∃ p ∈ L, p.1 = Rect.unit (s := S512x2048) ![o, 0] S256x2048.size inb) (r : Fin 256) (k : Fin 2048) :
    scM1_0.view.readCov L (Rect.unit (s := S512x2048) ![o, 0] S256x2048.size inb).toLoadRect (ix2 r k)
      = h (ix2 ⟨o + r.val, by have := inb 0; have h2 : o + 256 ≤ 512 := this; omega⟩ k) := by
  rw [View.readCov_eq_canon']
  have e : (Rect.unit (s := S512x2048) ![o, 0] S256x2048.size inb).toLoadRect.idx (ix2 r k)
      = ix2 ⟨o + r.val, by have := inb 0; have h2 : o + 256 ≤ 512 := this; omega⟩ k := by
    funext a; apply Fin.ext
    match a with
    | ⟨0, _⟩ => show o + 1 * r.val = _; rw [Nat.one_mul]; rfl
    | ⟨1, _⟩ => show 0 + 1 * k.val = k.val; omega
  rw [← e]
  obtain ⟨w, hw, e⟩ := hm
  exact View.canon_apply_of_pieces h L hL ((Rect.unit (s := S512x2048) ![o, 0] S256x2048.size inb).idx (ix2 r k)) ⟨_, hw, by rw [e]; exact (Rect.unit (s := S512x2048) ![o, 0] S256x2048.size inb).idx_mem _⟩

section
variable (h : S512x2048.Idx → EReal) (x4 : Vec Ideal S2048x5120 .bf16) (X : Vec Ideal S256x2048 .bf16) (o : ℕ)
    (inb : ∀ a, (![o, 0] : Fin 2 → ℕ) a + S256x2048.size a ≤ S512x2048.size a)
    (hX : ∀ (r : Fin 256) (k : Fin 2048), X (ix2 r k) = h (ix2 ⟨o + r.val, by have := inb 0; have h2 : o + 256 ≤ 512 := this; omega⟩ k))
include hX

/-- A tile's row against a loaded column is the block's row against the weights' column. -/
theorem inner_eq (p : ℕ) (inbw : ∀ a, (![0, p] : Fin 2 → ℕ) a + S2048x512.size a ≤ S2048x5120.size a) (r : Fin 256) (l : Fin 512) (r' : Fin 512) (j : Fin 5120)
    (hr : r'.val = o + r.val) (hj : j.val = p + l.val) :
    Cert.Pool.inner (fun k : Fin 2048 => X (ix2 r k)) (fun k => View.ld (Val := Elt Ideal) (e' := .bf16) x4 (Rect.unit ![0, p] S2048x512.size inbw) (ix2 k l)) = projAt h x4 r' j := by
  unfold projAt Cert.Pool.inner
  refine Finset.sum_congr rfl fun k _ => ?_
  congr 1
  · refine (hX r k).trans (congrArg h ?_)
    funext a; apply Fin.ext
    match a with
    | ⟨0, _⟩ => exact hr.symm
    | ⟨1, _⟩ => rfl
  · refine congrArg x4 ?_
    funext a; apply Fin.ext
    match a with
    | ⟨0, _⟩ => show 0 + 1 * k.val = k.val; omega
    | ⟨1, _⟩ => show p + 1 * l.val = j.val; omega

theorem tile_pieceV (p : ℕ) (hp : p = 2048) (inbw : ∀ a, (![0, p] : Fin 2 → ℕ) a + S2048x512.size a ≤ S2048x5120.size a)
    (inby : ∀ a, (![0, o, 0] : Fin 3 → ℕ) a + S1x256x512.size a ≤ S1x512x512.size a) (y : S1x256x512.Idx) :
    tileU X (View.ld (Val := Elt Ideal) (e' := .bf16) x4 (Rect.unit ![0, p] S2048x512.size inbw)) y
      = vBlk h x4 ((Rect.unit (s := S1x512x512) ![0, o, 0] S1x256x512.size inby).emb y) := by
  rw [tileU_apply]
  refine inner_eq h x4 X o inb hX p inbw (y 1) (y 2) _ _ ?_ ?_
  · show o + 1 * (y 1).val = _; omega
  · show 2048 + (0 + 1 * (y 2).val) = _; omega
theorem tile_pieceF (p : ℕ) (hp : p = 2560) (inbw : ∀ a, (![0, p] : Fin 2 → ℕ) a + S2048x512.size a ≤ S2048x5120.size a)
    (inby : ∀ a, (![0, o, 0] : Fin 3 → ℕ) a + S1x256x512.size a ≤ S1x512x512.size a) (y : S1x256x512.Idx) :
    tileF X (View.ld (Val := Elt Ideal) (e' := .bf16) x4 (Rect.unit ![0, p] S2048x512.size inbw)) y
      = fBlk h x4 ((Rect.unit (s := S1x512x512) ![0, o, 0] S1x256x512.size inby).emb y) := by
  rw [tileF_apply]
  refine inner_eq h x4 X o inb hX p inbw (y 1) (y 2) _ _ ?_ ?_
  · show o + 1 * (y 1).val = _; omega
  · show 2560 + (0 + 1 * (y 2).val) = _; omega
theorem tile_pieceZ (q p : ℕ) (hp : p = 3072 + q) (inbw : ∀ a, (![0, p] : Fin 2 → ℕ) a + S2048x512.size a ≤ S2048x5120.size a)
    (inby : ∀ a, (![0, o, q] : Fin 3 → ℕ) a + S1x256x512.size a ≤ S1x512x2048.size a) (y : S1x256x512.Idx) :
    tileZ X (View.ld (Val := Elt Ideal) (e' := .bf16) x4 (Rect.unit ![0, p] S2048x512.size inbw)) y
      = zBlk h x4 ((Rect.unit (s := S1x512x2048) ![0, o, q] S1x256x512.size inby).emb y) := by
  rw [tileZ_apply]
  refine congrArg tanhGate (inner_eq h x4 X o inb hX p inbw (y 1) (y 2) _ _ ?_ ?_)
  · show o + 1 * (y 1).val = _; omega
  · show 3072 + (q + 1 * (y 2).val) = _; omega

omit hX in
/-- A loaded row of a table is the block's row of it. -/
theorem tab_eq (x5 : Vec Ideal S512x128 .f32) (inbt : ∀ a, (![o, 0] : Fin 2 → ℕ) a + S256x128.size a ≤ S512x128.size a) (r : Fin 256) (l : Fin 128) (r' : Fin 512) (hr : r'.val = o + r.val) :
    View.ld (Val := Elt Ideal) (e' := .f32) x5 (Rect.unit ![o, 0] S256x128.size inbt) (ix2 r l) = x5 (ix2 r' l) := by
  refine congrArg x5 ?_
  funext a; apply Fin.ext
  match a with
  | ⟨0, _⟩ => show o + 1 * r.val = r'.val; omega
  | ⟨1, _⟩ => show 0 + 1 * l.val = l.val; omega

theorem tile_pieceQ (x5 x6 : Vec Ideal S512x128 .f32) (d : ℕ) (hs : S256x512.Slices ![0, d] S256x128) (p q n : ℕ) (hd : d + 128 ≤ 512) (hq : q = p + d) (hn : q = 128 * n)
    (inbw : ∀ a, (![0, p] : Fin 2 → ℕ) a + S2048x512.size a ≤ S2048x5120.size a) (inbt inbt' : ∀ a, (![o, 0] : Fin 2 → ℕ) a + S256x128.size a ≤ S512x128.size a)
    (inby : ∀ a, (![0, o, q] : Fin 3 → ℕ) a + S1x256x128.size a ≤ S1x512x1536.size a) (y : S1x256x128.Idx) :
    ropeQ d hs X (View.ld (Val := Elt Ideal) (e' := .bf16) x4 (Rect.unit ![0, p] S2048x512.size inbw))
        (View.ld (Val := Elt Ideal) (e' := .f32) x5 (Rect.unit ![o, 0] S256x128.size inbt)) (View.ld (Val := Elt Ideal) (e' := .f32) x6 (Rect.unit ![o, 0] S256x128.size inbt')) y
      = qBlk h x4 x5 x6 ((Rect.unit (s := S1x512x1536) ![0, o, q] S1x256x128.size inby).emb y) := by
  rw [ropeQ_apply d hs hd]
  have hy2 : (y 2).val < 128 := (y 2).isLt
  have h1 : (((Rect.unit (s := S1x512x1536) ![0, o, q] S1x256x128.size inby).emb y) 1).val = o + (y 1).val := by show o + 1 * (y 1).val = _; omega
  have h2 : (((Rect.unit (s := S1x512x1536) ![0, o, q] S1x256x128.size inby).emb y) 2).val = q + (y 2).val := by show q + 1 * (y 2).val = _; omega
  unfold qBlk
  refine congr (congr (congr (congrArg rotAt (funext fun l => ?_)) (funext fun l => ?_)) (funext fun l => ?_)) (Fin.ext ?_)
  · refine inner_eq h x4 X o inb hX p inbw (y 1) _ _ _ h1 ?_
    show 128 * ((((Rect.unit (s := S1x512x1536) ![0, o, q] S1x256x128.size inby).emb y) 2).val / 128) + l.val = p + (d + l.val)
    rw [h2]; omega
  · rw [tab_eq o x5 inbt (y 1) l _ h1]
  · rw [tab_eq o x6 inbt' (y 1) l _ h1]
  · show (y 2).val = (((Rect.unit (s := S1x512x1536) ![0, o, q] S1x256x128.size inby).emb y) 2).val % 128
    rw [h2]; omega
theorem tile_pieceK (x5 x6 : Vec Ideal S512x128 .f32) (d : ℕ) (hs : S256x512.Slices ![0, d] S256x128) (p q n : ℕ) (hd : d + 128 ≤ 512) (hq : 1536 + q = p + d) (hn : q = 128 * n)
    (inbw : ∀ a, (![0, p] : Fin 2 → ℕ) a + S2048x512.size a ≤ S2048x5120.size a) (inbt inbt' : ∀ a, (![o, 0] : Fin 2 → ℕ) a + S256x128.size a ≤ S512x128.size a)
    (inby : ∀ a, (![0, o, q] : Fin 3 → ℕ) a + S1x256x128.size a ≤ S1x512x512.size a) (y : S1x256x128.Idx) :
    ropeK d hs X (View.ld (Val := Elt Ideal) (e' := .bf16) x4 (Rect.unit ![0, p] S2048x512.size inbw))
        (View.ld (Val := Elt Ideal) (e' := .f32) x5 (Rect.unit ![o, 0] S256x128.size inbt)) (View.ld (Val := Elt Ideal) (e' := .f32) x6 (Rect.unit ![o, 0] S256x128.size inbt')) y
      = kBlk h x4 x5 x6 ((Rect.unit (s := S1x512x512) ![0, o, q] S1x256x128.size inby).emb y) := by
  rw [ropeK_apply d hs hd]
  have hy2 : (y 2).val < 128 := (y 2).isLt
  have h1 : (((Rect.unit (s := S1x512x512) ![0, o, q] S1x256x128.size inby).emb y) 1).val = o + (y 1).val := by show o + 1 * (y 1).val = _; omega
  have h2 : (((Rect.unit (s := S1x512x512) ![0, o, q] S1x256x128.size inby).emb y) 2).val = q + (y 2).val := by show q + 1 * (y 2).val = _; omega
  unfold kBlk
  refine congr (congr (congr (congrArg rotAt (funext fun l => ?_)) (funext fun l => ?_)) (funext fun l => ?_)) (Fin.ext ?_)
  · refine inner_eq h x4 X o inb hX p inbw (y 1) _ _ _ h1 ?_
    show 1536 + (128 * ((((Rect.unit (s := S1x512x512) ![0, o, q] S1x256x128.size inby).emb y) 2).val / 128) + l.val) = p + (d + l.val)
    rw [h2]; omega
  · exact tab_eq o x5 inbt (y 1) l _ h1
  · exact tab_eq o x6 inbt' (y 1) l _ h1
  · show (y 2).val = (((Rect.unit (s := S1x512x512) ![0, o, q] S1x256x128.size inby).emb y) 2).val % 128
    rw [h2]; omega
end

end Cert.Kernel2Ideal.Val
end
-- ==== Proof.In0Run.lean ====
/- What the body of layer 0's input projection leaves in its key, value, mixer and gate blocks. -/
module

public import proofs.«01_k».proof.Proof.In0

@[expose] public section
set_option maxRecDepth 16384
noncomputable section
namespace Cert.Kernel2Ideal.Val
open Idealize.ShloMosaic Idealize.ShloMosaic.TcCoe Idealize.ShloMosaic.Tactic
open Idealize.SL Idealize.SL.Sem
open Cert.Kernel2Ideal Cert.Kernel2Ideal.Gen Cert.Pool

section
variable (c : Dev nD) (i : grid1.Coords)
  (arg2 : Memref sig .tc .vmem S1x512x2048 .f32) (harg2 : arg2.IsWhole)
  (arg3 : Memref sig .tc .vmem S1x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S2048x5120 .bf16) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S32x2048 .f32) (harg9 : arg9.IsWhole)
  (arg10 : Memref sig .tc .vmem S32x4096 .f32) (harg10 : arg10.IsWhole)
  (arg11 : Memref sig .tc .vmem S32x512 .f32) (harg11 : arg11.IsWhole)
  (arg12 : Memref sig .tc .vmem S32x2048 .f32) (harg12 : arg12.IsWhole)
  (arg13 : Memref sig .tc .vmem S1x512x1536 .bf16) (harg13 : arg13.IsWhole)
  (arg14 : Memref sig .tc .vmem S1x512x512 .bf16) (harg14 : arg14.IsWhole)
  (arg15 : Memref sig .tc .vmem S1x512x512 .bf16) (harg15 : arg15.IsWhole)
  (arg16 : Memref sig .tc .vmem S1x512x512 .f32) (harg16 : arg16.IsWhole)
  (arg17 : Memref sig .tc .vmem S1x512x2048 .bf16) (harg17 : arg17.IsWhole)
  (arg18 : Memref sig .tc .vmem S32x2048 .bf16) (harg18 : arg18.IsWhole)
  (arg19 : Memref sig .tc .vmem S32x4096 .bf16) (harg19 : arg19.IsWhole)
  (arg20 : Memref sig .tc .vmem S32x512 .bf16) (harg20 : arg20.IsWhole)
  (arg21 : Memref sig .tc .vmem S32x2048 .bf16) (harg21 : arg21.IsWhole)
  (x0 : Vec Ideal S1x512x2048 .f32)
  (x1 : Vec Ideal S1x2048 .f32)
  (x2 : Vec Ideal S1x1x2048 .f32)
  (x3 : Vec Ideal S1x1x2048 .f32)
  (x4 : Vec Ideal S2048x5120 .bf16)
  (x5 : Vec Ideal S512x128 .f32)
  (x6 : Vec Ideal S512x128 .f32)
  (x7 : Vec Ideal S32x2048 .f32)
  (x8 : Vec Ideal S32x4096 .f32)
  (x9 : Vec Ideal S32x512 .f32)
  (x10 : Vec Ideal S32x2048 .f32)

set_option maxHeartbeats 2000000 in
theorem out1_12 : out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = kBlk (hRows x0 x1 x2 x3) x4 x5 x6 := by
  funext y
  unfold out1_A_12
  rw [View.read_writes_eq_canon _ _ _ (cover1_A_12 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) (kBlk (hRows x0 x1 x2 x3) x4 x5 x6) _ ?_ y (cover1_A_12 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread, pay6, pay11, pay91, pay92, pay93, pay97, pay101, pay103, pay104, pay105]
  intro p hp
  simp only [List.mem_cons, List.not_mem_nil, or_false] at hp
  have H := fun (o : ℕ) (inb : ∀ a, (![0, o, 0] : Fin 3 → ℕ) a + S1x256x2048.size a ≤ S1x512x2048.size a) (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S512x2048.size a) => rows_piece x0 x1 x2 x3 o inb inb1 inb2 inb3 inb'
  rcases hp with rfl | rfl | rfl | rfl | rfl | rfl | rfl | rfl
  · intro x
    refine tile_pieceK (hRows x0 x1 x2 x3) x4 _ _ (by decide) ?_ x5 x6 _ _ _ _ 3 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceK (hRows x0 x1 x2 x3) x4 _ _ (by decide) ?_ x5 x6 _ _ _ _ 2 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceK (hRows x0 x1 x2 x3) x4 _ _ (by decide) ?_ x5 x6 _ _ _ _ 1 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceK (hRows x0 x1 x2 x3) x4 _ _ (by decide) ?_ x5 x6 _ _ _ _ 0 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceK (hRows x0 x1 x2 x3) x4 _ _ (by decide) ?_ x5 x6 _ _ _ _ 3 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceK (hRows x0 x1 x2 x3) x4 _ _ (by decide) ?_ x5 x6 _ _ _ _ 2 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceK (hRows x0 x1 x2 x3) x4 _ _ (by decide) ?_ x5 x6 _ _ _ _ 1 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceK (hRows x0 x1 x2 x3) x4 _ _ (by decide) ?_ x5 x6 _ _ _ _ 0 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩

set_option maxHeartbeats 2000000 in
theorem out1_13 : out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = vBlk (hRows x0 x1 x2 x3) x4 := by
  funext y
  unfold out1_A_13
  rw [View.read_writes_eq_canon _ _ _ (cover1_A_13 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) (vBlk (hRows x0 x1 x2 x3) x4) _ ?_ y (cover1_A_13 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread, pay6, pay11, pay106, pay107]
  intro p hp
  simp only [List.mem_cons, List.not_mem_nil, or_false] at hp
  have H := fun (o : ℕ) (inb : ∀ a, (![0, o, 0] : Fin 3 → ℕ) a + S1x256x2048.size a ≤ S1x512x2048.size a) (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S512x2048.size a) => rows_piece x0 x1 x2 x3 o inb inb1 inb2 inb3 inb'
  rcases hp with rfl | rfl
  all_goals
    intro x
    refine tile_pieceV (hRows x0 x1 x2 x3) x4 _ _ (by decide) ?_ _ (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩

set_option maxHeartbeats 2000000 in
theorem out1_14 : out1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = fBlk (hRows x0 x1 x2 x3) x4 := by
  funext y
  unfold out1_A_14
  rw [View.read_writes_eq_canon _ _ _ (cover1_A_14 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .f32) (fBlk (hRows x0 x1 x2 x3) x4) _ ?_ y (cover1_A_14 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread, pay6, pay11, pay108, pay109]
  intro p hp
  simp only [List.mem_cons, List.not_mem_nil, or_false] at hp
  have H := fun (o : ℕ) (inb : ∀ a, (![0, o, 0] : Fin 3 → ℕ) a + S1x256x2048.size a ≤ S1x512x2048.size a) (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S512x2048.size a) => rows_piece x0 x1 x2 x3 o inb inb1 inb2 inb3 inb'
  rcases hp with rfl | rfl
  all_goals
    intro x
    refine tile_pieceF (hRows x0 x1 x2 x3) x4 _ _ (by decide) ?_ _ (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩

set_option maxHeartbeats 2000000 in
theorem out1_15 : out1_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = zBlk (hRows x0 x1 x2 x3) x4 := by
  funext y
  unfold out1_A_15
  rw [View.read_writes_eq_canon _ _ _ (cover1_A_15 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) (zBlk (hRows x0 x1 x2 x3) x4) _ ?_ y (cover1_A_15 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread, pay6, pay11, pay12, pay13, pay19, pay22, pay23, pay24, pay25, pay26]
  intro p hp
  simp only [List.mem_cons, List.not_mem_nil, or_false] at hp
  have H := fun (o : ℕ) (inb : ∀ a, (![0, o, 0] : Fin 3 → ℕ) a + S1x256x2048.size a ≤ S1x512x2048.size a) (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S512x2048.size a) => rows_piece x0 x1 x2 x3 o inb inb1 inb2 inb3 inb'
  rcases hp with rfl | rfl | rfl | rfl | rfl | rfl | rfl | rfl
  all_goals
    intro x
    refine tile_pieceZ (hRows x0 x1 x2 x3) x4 _ _ (by decide) ?_ _ _ (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩

end
end Cert.Kernel2Ideal.Val
end
-- ==== Proof.In0Query.lean ====
/- What the body of layer 0's input projection leaves in its query block. -/
module

public import proofs.«01_k».proof.Proof.In0

@[expose] public section
set_option maxRecDepth 16384
noncomputable section
namespace Cert.Kernel2Ideal.Val
open Idealize.ShloMosaic Idealize.ShloMosaic.TcCoe Idealize.ShloMosaic.Tactic
open Idealize.SL Idealize.SL.Sem
open Cert.Kernel2Ideal Cert.Kernel2Ideal.Gen Cert.Pool

section
variable (c : Dev nD) (i : grid1.Coords)
  (arg2 : Memref sig .tc .vmem S1x512x2048 .f32) (harg2 : arg2.IsWhole)
  (arg3 : Memref sig .tc .vmem S1x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S2048x5120 .bf16) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S32x2048 .f32) (harg9 : arg9.IsWhole)
  (arg10 : Memref sig .tc .vmem S32x4096 .f32) (harg10 : arg10.IsWhole)
  (arg11 : Memref sig .tc .vmem S32x512 .f32) (harg11 : arg11.IsWhole)
  (arg12 : Memref sig .tc .vmem S32x2048 .f32) (harg12 : arg12.IsWhole)
  (arg13 : Memref sig .tc .vmem S1x512x1536 .bf16) (harg13 : arg13.IsWhole)
  (arg14 : Memref sig .tc .vmem S1x512x512 .bf16) (harg14 : arg14.IsWhole)
  (arg15 : Memref sig .tc .vmem S1x512x512 .bf16) (harg15 : arg15.IsWhole)
  (arg16 : Memref sig .tc .vmem S1x512x512 .f32) (harg16 : arg16.IsWhole)
  (arg17 : Memref sig .tc .vmem S1x512x2048 .bf16) (harg17 : arg17.IsWhole)
  (arg18 : Memref sig .tc .vmem S32x2048 .bf16) (harg18 : arg18.IsWhole)
  (arg19 : Memref sig .tc .vmem S32x4096 .bf16) (harg19 : arg19.IsWhole)
  (arg20 : Memref sig .tc .vmem S32x512 .bf16) (harg20 : arg20.IsWhole)
  (arg21 : Memref sig .tc .vmem S32x2048 .bf16) (harg21 : arg21.IsWhole)
  (x0 : Vec Ideal S1x512x2048 .f32)
  (x1 : Vec Ideal S1x2048 .f32)
  (x2 : Vec Ideal S1x1x2048 .f32)
  (x3 : Vec Ideal S1x1x2048 .f32)
  (x4 : Vec Ideal S2048x5120 .bf16)
  (x5 : Vec Ideal S512x128 .f32)
  (x6 : Vec Ideal S512x128 .f32)
  (x7 : Vec Ideal S32x2048 .f32)
  (x8 : Vec Ideal S32x4096 .f32)
  (x9 : Vec Ideal S32x512 .f32)
  (x10 : Vec Ideal S32x2048 .f32)

set_option maxHeartbeats 2000000 in
theorem out1_11 : out1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = qBlk (hRows x0 x1 x2 x3) x4 x5 x6 := by
  funext y
  unfold out1_A_11
  rw [View.read_writes_eq_canon _ _ _ (cover1_A_11 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) (qBlk (hRows x0 x1 x2 x3) x4 x5 x6) _ ?_ y (cover1_A_11 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread, pay6, pay11, pay33, pay34, pay35, pay39, pay43, pay47, pay48, pay49, pay55, pay56, pay57, pay60, pay64, pay67, pay68, pay69, pay74, pay75, pay76, pay78, pay82, pay85, pay86, pay87]
  intro p hp
  simp only [List.mem_cons, List.not_mem_nil, or_false] at hp
  have H := fun (o : ℕ) (inb : ∀ a, (![0, o, 0] : Fin 3 → ℕ) a + S1x256x2048.size a ≤ S1x512x2048.size a) (inb1 : ∀ a, (![0, 0] : Fin 2 → ℕ) a + S1x2048.size a ≤ S1x2048.size a)
    (inb2 inb3 : ∀ a, (![0, 0, 0] : Fin 3 → ℕ) a + S1x1x2048.size a ≤ S1x1x2048.size a)
    (inb' : ∀ a, (![o, 0] : Fin 2 → ℕ) a + S256x2048.size a ≤ S512x2048.size a) => rows_piece x0 x1 x2 x3 o inb inb1 inb2 inb3 inb'
  rcases hp with rfl | rfl | rfl | rfl | rfl | rfl | rfl | rfl | rfl | rfl | rfl | rfl | rfl | rfl | rfl | rfl | rfl | rfl | rfl | rfl | rfl | rfl | rfl | rfl
  · intro x
    refine tile_pieceQ (hRows x0 x1 x2 x3) x4 _ _ (by decide) ?_ x5 x6 _ _ _ _ 11 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 10 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 9 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 8 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 11 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 10 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 9 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 8 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 7 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 6 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 5 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 4 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 7 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 6 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 5 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 4 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 3 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 2 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 1 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 0 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 3 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 2 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 1 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩
  · intro x
    refine tile_pieceQ (hRows x0 x1 x2 x3) x4 _ _ (by decide) ?_ x5 x6 _ _ _ _ 0 (by decide) (by decide) (by decide) (by decide) (by decide) (by decide) (by decide) x
    intro r k
    refine rows_read (hRows x0 x1 x2 x3) _ _ _ ?_ ?_ r k
    · intro p hp x
      simp only [List.mem_cons, List.not_mem_nil, or_false] at hp
      first
        | (rcases hp with rfl | rfl <;> exact H _ (by decide) (by decide) (by decide) (by decide) (by decide) x)
        | (rcases hp with rfl; exact H _ (by decide) (by decide) (by decide) (by decide) (by decide) x)
    · first
        | exact ⟨_, List.mem_cons_self, rfl⟩
        | exact ⟨_, List.mem_cons_of_mem _ List.mem_cons_self, rfl⟩

end
end Cert.Kernel2Ideal.Val
end
-- ==== Proof.In0Side.lean ====
/- What the body of layer 0's input projection leaves in the four weight blocks it copies. -/
module

public import proofs.«01_k».proof.Proof.In0

@[expose] public section
set_option maxRecDepth 16384
noncomputable section
namespace Cert.Kernel2Ideal.Val
open Idealize.ShloMosaic Idealize.ShloMosaic.TcCoe Idealize.ShloMosaic.Tactic
open Idealize.SL Idealize.SL.Sem
open Cert.Kernel2Ideal Cert.Kernel2Ideal.Gen Cert.Pool

theorem copy15 (v) (y : S32x2048.Idx) : k1_pay15 (F := Ideal) v y = v y := by
  unfold_payloads
  pointwise

theorem copy16 (v) (y : S32x4096.Idx) : k1_pay16 (F := Ideal) v y = v y := by
  unfold_payloads
  pointwise

theorem copy17 (v) (y : S32x512.Idx) : k1_pay17 (F := Ideal) v y = v y := by
  unfold_payloads
  pointwise

theorem copy18 (v) (y : S32x2048.Idx) : k1_pay18 (F := Ideal) v y = v y := by
  unfold_payloads
  pointwise

section
variable (c : Dev nD) (i : grid1.Coords)
  (arg2 : Memref sig .tc .vmem S1x512x2048 .f32) (harg2 : arg2.IsWhole)
  (arg3 : Memref sig .tc .vmem S1x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S2048x5120 .bf16) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S32x2048 .f32) (harg9 : arg9.IsWhole)
  (arg10 : Memref sig .tc .vmem S32x4096 .f32) (harg10 : arg10.IsWhole)
  (arg11 : Memref sig .tc .vmem S32x512 .f32) (harg11 : arg11.IsWhole)
  (arg12 : Memref sig .tc .vmem S32x2048 .f32) (harg12 : arg12.IsWhole)
  (arg13 : Memref sig .tc .vmem S1x512x1536 .bf16) (harg13 : arg13.IsWhole)
  (arg14 : Memref sig .tc .vmem S1x512x512 .bf16) (harg14 : arg14.IsWhole)
  (arg15 : Memref sig .tc .vmem S1x512x512 .bf16) (harg15 : arg15.IsWhole)
  (arg16 : Memref sig .tc .vmem S1x512x512 .f32) (harg16 : arg16.IsWhole)
  (arg17 : Memref sig .tc .vmem S1x512x2048 .bf16) (harg17 : arg17.IsWhole)
  (arg18 : Memref sig .tc .vmem S32x2048 .bf16) (harg18 : arg18.IsWhole)
  (arg19 : Memref sig .tc .vmem S32x4096 .bf16) (harg19 : arg19.IsWhole)
  (arg20 : Memref sig .tc .vmem S32x512 .bf16) (harg20 : arg20.IsWhole)
  (arg21 : Memref sig .tc .vmem S32x2048 .bf16) (harg21 : arg21.IsWhole)
  (x0 : Vec Ideal S1x512x2048 .f32)
  (x1 : Vec Ideal S1x2048 .f32)
  (x2 : Vec Ideal S1x1x2048 .f32)
  (x3 : Vec Ideal S1x1x2048 .f32)
  (x4 : Vec Ideal S2048x5120 .bf16)
  (x5 : Vec Ideal S512x128 .f32)
  (x6 : Vec Ideal S512x128 .f32)
  (x7 : Vec Ideal S32x2048 .f32)
  (x8 : Vec Ideal S32x4096 .f32)
  (x9 : Vec Ideal S32x512 .f32)
  (x10 : Vec Ideal S32x2048 .f32)

set_option maxHeartbeats 2000000 in
theorem out1_16 : out1_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = (x7 : S32x2048.Idx → EReal) := by
  funext y
  unfold out1_A_16
  rw [View.read_writes_eq_canon _ _ _ (cover1_A_16 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) x7 _ ?_ y (cover1_A_16 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread]
  intro p hp
  simp only [List.mem_cons, List.not_mem_nil, or_false] at hp
  rcases hp with rfl
  intro x
  exact copy15 _ x

set_option maxHeartbeats 2000000 in
theorem out1_17 : out1_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = (x8 : S32x4096.Idx → EReal) := by
  funext y
  unfold out1_A_17
  rw [View.read_writes_eq_canon _ _ _ (cover1_A_17 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) x8 _ ?_ y (cover1_A_17 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread]
  intro p hp
  simp only [List.mem_cons, List.not_mem_nil, or_false] at hp
  rcases hp with rfl
  intro x
  exact copy16 _ x

set_option maxHeartbeats 2000000 in
theorem out1_18 : out1_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = (x9 : S32x512.Idx → EReal) := by
  funext y
  unfold out1_A_18
  rw [View.read_writes_eq_canon _ _ _ (cover1_A_18 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) x9 _ ?_ y (cover1_A_18 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread]
  intro p hp
  simp only [List.mem_cons, List.not_mem_nil, or_false] at hp
  rcases hp with rfl
  intro x
  exact copy17 _ x

set_option maxHeartbeats 2000000 in
theorem out1_19 : out1_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 scM1_0 (Memref.isWhole_whole _) x0 x1 x2 x3 x4 x5 x6 x7 x8 x9 x10
      = (x10 : S32x2048.Idx → EReal) := by
  funext y
  unfold out1_A_19
  rw [View.read_writes_eq_canon _ _ _ (cover1_A_19 c _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (e := .bf16) x10 _ ?_ y (cover1_A_19 c _ _ _ _ _ _ _ _ _ _ _ _ _ _ _ _ _ _ _ _ _ _ _ _ _ _ _ _ _ _ _ _ _ _ _ _ _ _ _ _ _ _ _ _ _ _ _ _ _ _ _ _ _ _ y)
  unfold kernelRun1_A
  dsimp only
  sl_unfold_words
  simp only [View.readAt_eq_ld, Memref.IsWhole.read_unread]
  intro p hp
  simp only [List.mem_cons, List.not_mem_nil, or_false] at hp
  rcases hp with rfl
  intro x
  exact copy18 _ x

end
end Cert.Kernel2Ideal.Val
end
-- ==== Proof.In0Arr.lean ====
/- What the modulation and layer 0's input projection leave in their arrays. -/
module

public import proofs.«01_k».proof.Proof.In0Run
public import proofs.«01_k».proof.Proof.In0Query
public import proofs.«01_k».proof.Proof.In0Side

@[expose] public section
set_option maxRecDepth 16384
noncomputable section
namespace Cert.Kernel2Ideal.Val
open Idealize.ShloMosaic Idealize.ShloMosaic.TcCoe Idealize.ShloMosaic.Tactic
open Idealize.SL Idealize.SL.Sem
open Cert.Kernel2Ideal Cert.Kernel2Ideal.Gen Cert.Pool
open Idealize.ShloMosaic.Pipeline (Dat Cfg Window)

/-! ## The modulation -/

/-- The modulation rows: the gated condition against the weights, plus the bias. -/
def modArr (cond : S8x2048.Idx → EReal) (w : S2048x6144.Idx → EReal) (b : S1x6144.Idx → EReal) : S8x1x6144.Idx → EReal :=
  fun i => Cert.Pool.inner (fun j : Fin 2048 => tanhGate (cond (ix2 (i 0) j))) (fun j => w (ix2 j (i 2))) + b (ix2 0 (i 2))

theorem modTile_apply (v0 : Vec Ideal S8x2048 .f32) (v8 : Vec Ideal S2048x1536 .f32) (v11 : Vec Ideal S1x1536 .f32) (y : S8x1x1536.Idx) :
    k0_pay1 (F := Ideal) v0 v8 v11 y
      = Cert.Pool.inner (fun j : Fin 2048 => tanhGate (v0 (ix2 (y 0) j))) (fun j => v8 (ix2 j (y 2))) + v11 (ix2 0 (y 2)) := by
  unfold Cert.Pool.inner tanhGate half; unfold_payloads
  pointwise [dot_S8x2048_S2048x1536_S8x1536_1_0_0_1_n_n]

section
variable (V : (c : Dev nD) → (b : Ref sig .tc) → Buf (Elt Ideal) ((c : Thread nD τ).loc b)) (c : Dev nD)

theorem idx0 : ∀ t : Fin cfg0.N, (win0_0.index t (0 : Fin 2) = 0 ∧ win0_0.index t (1 : Fin 2) = 0) ∧ (win0_1.index t (0 : Fin 2) = 0 ∧ win0_1.index t (1 : Fin 2) = t.val)
    ∧ (win0_2.index t (0 : Fin 2) = 0 ∧ win0_2.index t (1 : Fin 2) = t.val) ∧ (win0_3.index t (0 : Fin 3) = 0 ∧ win0_3.index t (1 : Fin 3) = 0 ∧ win0_3.index t (2 : Fin 3) = t.val) :=
  (by decide +kernel : ∀ t : Fin grid0.N, _)

theorem blk0_0 (t : Fin cfg0.N) : iblk0 V c 0 t = (V c main_v2 : Vec Ideal S8x2048 .f32) := by
  obtain ⟨⟨e0, e1⟩, -⟩ := idx0 t
  funext y
  refine congrArg (V c main_v2) (funext fun a => Fin.ext ?_)
  match a with
  | ⟨0, _⟩ => show win0_0.index t (0 : Fin 2) * 8 + 1 * (y 0).val = (y 0).val; omega
  | ⟨1, _⟩ => show win0_0.index t (1 : Fin 2) * 2048 + 1 * (y 1).val = (y 1).val; omega

theorem blk0_1 (t : Fin cfg0.N) (y : S2048x1536.Idx) : iblk0 V c 1 t y
    = (V c main_arg6 : Vec Ideal S2048x6144 .f32) (ix2 (y 0) ⟨1536 * t.val + (y 1).val, by have := t.isLt; have h : cfg0.N = 4 := N_0; have h2 := (y 1).isLt; have h3 : S2048x1536.size 1 = 1536 := rfl; omega⟩) := by
  obtain ⟨-, ⟨e0, e1⟩, -⟩ := idx0 t
  refine congrArg (V c main_arg6) (funext fun a => Fin.ext ?_)
  match a with
  | ⟨0, _⟩ => show win0_1.index t (0 : Fin 2) * 2048 + 1 * (y 0).val = (y 0).val; omega
  | ⟨1, _⟩ => show win0_1.index t (1 : Fin 2) * 1536 + 1 * (y 1).val = 1536 * t.val + (y 1).val; omega

theorem blk0_2 (t : Fin cfg0.N) (y : S1x1536.Idx) : iblk0 V c 2 t y
    = (V c main_v3 : Vec Ideal S1x6144 .f32) (ix2 0 ⟨1536 * t.val + (y 1).val, by have := t.isLt; have h : cfg0.N = 4 := N_0; have h2 := (y 1).isLt; have h3 : S1x1536.size 1 = 1536 := rfl; omega⟩) := by
  obtain ⟨-, -, ⟨e0, e1⟩, -⟩ := idx0 t
  refine congrArg (V c main_v3) (funext fun a => Fin.ext ?_)
  match a with
  | ⟨0, _⟩ => show win0_2.index t (0 : Fin 2) * 1 + 1 * (y 0).val = 0; have h2 : (y 0).val < 1 := (y 0).isLt; omega
  | ⟨1, _⟩ => show win0_2.index t (1 : Fin 2) * 1536 + 1 * (y 1).val = 1536 * t.val + (y 1).val; omega

theorem flushed0 (t : Fin cfg0.N) : (dat0 V c).flushed 3 t
    = ((cfg0.win 3).blk t).view.read (Elt Ideal) (modArr (V c main_v2) (V c main_arg6) (V c main_v3)) := by
  rw [Pipeline.Dat.flushed, after0_3]
  obtain ⟨-, -, -, e0, e1, e2⟩ := idx0 t
  funext y
  show out0_3 (F := Ideal) _ _ _ y = modArr (V c main_v2) (V c main_arg6) (V c main_v3) (((cfg0.win 3).blk t).view.emb y)
  unfold out0_3
  rw [View.canon_unit_zero (S := S8x1x1536) (by decide), View.ld_unit_zero (S := S8x2048) (by decide), View.ld_unit_zero (S := S2048x1536) (by decide), View.ld_unit_zero (S := S1x1536) (by decide),
    modTile_apply]
  have ei : ((cfg0.win 3).blk t).view.emb y = ix3 (y 0) 0 ⟨1536 * t.val + (y 2).val, by have := t.isLt; have h : cfg0.N = 4 := N_0; have h2 : (y 2).val < 1536 := (y 2).isLt; omega⟩ := by
    funext a; apply Fin.ext
    match a with
    | ⟨0, _⟩ => show win0_3.index t (0 : Fin 3) * 8 + 1 * (y 0).val = (y 0).val; omega
    | ⟨1, _⟩ => show win0_3.index t (1 : Fin 3) * 1 + 1 * (y 1).val = 0; have h2 : (y 1).val < 1 := (y 1).isLt; omega
    | ⟨2, _⟩ => show win0_3.index t (2 : Fin 3) * 1536 + 1 * (y 2).val = 1536 * t.val + (y 2).val; omega
  rw [ei]
  unfold modArr
  rw [blk0_0]
  simp only [blk0_1, blk0_2]
  rfl

theorem arr0 : (dat0 V c).arrAt 3 cfg0.N = modArr (V c main_v2) (V c main_arg6) (V c main_v3) := by
  refine (dat0 V c).arrAt_eq_of_cover 3 _ (fun t _ => flushed0 V c t) fun i => ?_
  have hi : (i (2 : Fin 3)).val < 6144 := (i (2 : Fin 3)).isLt
  have hi0 : (i (0 : Fin 3)).val < 8 := (i (0 : Fin 3)).isLt
  have hi1 : (i (1 : Fin 3)).val < 1 := (i (1 : Fin 3)).isLt
  have hN : cfg0.N = 4 := N_0
  obtain ⟨t, ht⟩ : ∃ t : Fin cfg0.N, t.val = (i (2 : Fin 3)).val / 1536 := ⟨⟨_, by omega⟩, rfl⟩
  refine ⟨t, flush0_3 _, ?_⟩
  obtain ⟨-, -, -, e0, e1, e2⟩ := idx0 t
  show i ∈ ((View.whole main_v4).slice (win0_3.rect t)).set
  rw [View.set_slice_whole, Rect.mem_set_unit]
  intro a
  match a with
  | ⟨0, _⟩ => show win0_3.index t (0 : Fin 3) * 8 ≤ (i (0 : Fin 3)).val ∧ (i (0 : Fin 3)).val < win0_3.index t (0 : Fin 3) * 8 + 8; rw [e0]; omega
  | ⟨1, _⟩ => show win0_3.index t (1 : Fin 3) * 1 ≤ (i (1 : Fin 3)).val ∧ (i (1 : Fin 3)).val < win0_3.index t (1 : Fin 3) * 1 + 1; rw [e1]; omega
  | ⟨2, _⟩ => show win0_3.index t (2 : Fin 3) * 1536 ≤ (i (2 : Fin 3)).val ∧ (i (2 : Fin 3)).val < win0_3.index t (2 : Fin 3) * 1536 + 1536; rw [e2]; omega

theorem idx1_0 : ∀ t : Fin cfg1.N, (win1_0.index t (0 : Fin 3) = t.val / 32 ∧ win1_0.index t (1 : Fin 3) = t.val % 32 ∧ win1_0.index t (2 : Fin 3) = 0) :=
  (by decide +kernel : ∀ t : Fin grid1.N, _)
theorem idx1_1 : ∀ t : Fin cfg1.N, (win1_1.index t (0 : Fin 2) = 0 ∧ win1_1.index t (1 : Fin 2) = 0) :=
  (by decide +kernel : ∀ t : Fin grid1.N, _)
theorem idx1_2 : ∀ t : Fin cfg1.N, (win1_2.index t (0 : Fin 3) = t.val / 32 ∧ win1_2.index t (1 : Fin 3) = 0 ∧ win1_2.index t (2 : Fin 3) = 1) :=
  (by decide +kernel : ∀ t : Fin grid1.N, _)
theorem idx1_3 : ∀ t : Fin cfg1.N, (win1_3.index t (0 : Fin 3) = t.val / 32 ∧ win1_3.index t (1 : Fin 3) = 0 ∧ win1_3.index t (2 : Fin 3) = 0) :=
  (by decide +kernel : ∀ t : Fin grid1.N, _)
theorem idx1_4 : ∀ t : Fin cfg1.N, (win1_4.index t (0 : Fin 2) = 0 ∧ win1_4.index t (1 : Fin 2) = 0) :=
  (by decide +kernel : ∀ t : Fin grid1.N, _)
theorem idx1_5 : ∀ t : Fin cfg1.N, (win1_5.index t (0 : Fin 2) = t.val % 32 ∧ win1_5.index t (1 : Fin 2) = 0) :=
  (by decide +kernel : ∀ t : Fin grid1.N, _)
theorem idx1_6 : ∀ t : Fin cfg1.N, (win1_6.index t (0 : Fin 2) = t.val % 32 ∧ win1_6.index t (1 : Fin 2) = 0) :=
  (by decide +kernel : ∀ t : Fin grid1.N, _)
theorem idx1_7 : ∀ t : Fin cfg1.N, (win1_7.index t (0 : Fin 2) = t.val ∧ win1_7.index t (1 : Fin 2) = 0) :=
  (by decide +kernel : ∀ t : Fin grid1.N, _)
theorem idx1_8 : ∀ t : Fin cfg1.N, (win1_8.index t (0 : Fin 2) = t.val ∧ win1_8.index t (1 : Fin 2) = 0) :=
  (by decide +kernel : ∀ t : Fin grid1.N, _)
theorem idx1_9 : ∀ t : Fin cfg1.N, (win1_9.index t (0 : Fin 2) = t.val ∧ win1_9.index t (1 : Fin 2) = 0) :=
  (by decide +kernel : ∀ t : Fin grid1.N, _)
theorem idx1_10 : ∀ t : Fin cfg1.N, (win1_10.index t (0 : Fin 2) = t.val ∧ win1_10.index t (1 : Fin 2) = 0) :=
  (by decide +kernel : ∀ t : Fin grid1.N, _)
theorem idx1_11 : ∀ t : Fin cfg1.N, (win1_11.index t (0 : Fin 3) = t.val / 32 ∧ win1_11.index t (1 : Fin 3) = t.val % 32 ∧ win1_11.index t (2 : Fin 3) = 0) :=
  (by decide +kernel : ∀ t : Fin grid1.N, _)
theorem idx1_12 : ∀ t : Fin cfg1.N, (win1_12.index t (0 : Fin 3) = t.val / 32 ∧ win1_12.index t (1 : Fin 3) = t.val % 32 ∧ win1_12.index t (2 : Fin 3) = 0) :=
  (by decide +kernel : ∀ t : Fin grid1.N, _)
theorem idx1_13 : ∀ t : Fin cfg1.N, (win1_13.index t (0 : Fin 3) = t.val / 32 ∧ win1_13.index t (1 : Fin 3) = t.val % 32 ∧ win1_13.index t (2 : Fin 3) = 0) :=
  (by decide +kernel : ∀ t : Fin grid1.N, _)
theorem idx1_14 : ∀ t : Fin cfg1.N, (win1_14.index t (0 : Fin 3) = t.val / 32 ∧ win1_14.index t (1 : Fin 3) = t.val % 32 ∧ win1_14.index t (2 : Fin 3) = 0) :=
  (by decide +kernel : ∀ t : Fin grid1.N, _)
theorem idx1_15 : ∀ t : Fin cfg1.N, (win1_15.index t (0 : Fin 3) = t.val / 32 ∧ win1_15.index t (1 : Fin 3) = t.val % 32 ∧ win1_15.index t (2 : Fin 3) = 0) :=
  (by decide +kernel : ∀ t : Fin grid1.N, _)
theorem idx1_16 : ∀ t : Fin cfg1.N, (win1_16.index t (0 : Fin 2) = t.val ∧ win1_16.index t (1 : Fin 2) = 0) :=
  (by decide +kernel : ∀ t : Fin grid1.N, _)
theorem idx1_17 : ∀ t : Fin cfg1.N, (win1_17.index t (0 : Fin 2) = t.val ∧ win1_17.index t (1 : Fin 2) = 0) :=
  (by decide +kernel : ∀ t : Fin grid1.N, _)
theorem idx1_18 : ∀ t : Fin cfg1.N, (win1_18.index t (0 : Fin 2) = t.val ∧ win1_18.index t (1 : Fin 2) = 0) :=
  (by decide +kernel : ∀ t : Fin grid1.N, _)
theorem idx1_19 : ∀ t : Fin cfg1.N, (win1_19.index t (0 : Fin 2) = t.val ∧ win1_19.index t (1 : Fin 2) = 0) :=
  (by decide +kernel : ∀ t : Fin grid1.N, _)

/-! ## The input projection -/

/-- A normalised token, from its arrays. -/
def hTok (x : S2x16384x2048.Idx → EReal) (g : S1x2048.Idx → EReal) (md : S8x1x6144.Idx → EReal) (b : Fin 2) (t : Fin 16384) (k : Fin 2048) : EReal :=
  modRow (fun k => x (ix3 b t k)) (fun k => g (ix2 0 k)) (fun k => md (ix3 ⟨b.val, by omega⟩ 0 ⟨2048 + k.val, by omega⟩)) (fun k => md (ix3 ⟨b.val, by omega⟩ 0 ⟨k.val, by omega⟩)) k
/-- A normalised token against a column of the weights. -/
def pTok (x : S2x16384x2048.Idx → EReal) (g : S1x2048.Idx → EReal) (md : S8x1x6144.Idx → EReal) (w : S2048x5120.Idx → EReal) (b : Fin 2) (t : Fin 16384) (j : Fin 5120) : EReal :=
  Cert.Pool.inner (hTok x g md b t) (fun k => w (ix2 k j))

section
variable (x : S2x16384x2048.Idx → EReal) (g : S1x2048.Idx → EReal) (md : S8x1x6144.Idx → EReal) (w : S2048x5120.Idx → EReal) (cs sn : S16384x128.Idx → EReal)
/-- The queries. -/
def qArr : S2x16384x1536.Idx → EReal :=
  fun i => rotAt (fun l => pTok x g md w (i 0) (i 1) ⟨128 * ((i 2).val / 128) + l.val, by have h2 : (i 2).val < 1536 := (i 2).isLt; omega⟩)
    (fun l => cs (ix2 (i 1) l) * qscale) (fun l => sn (ix2 (i 1) l) * qscale) ⟨(i 2).val % 128, Nat.mod_lt _ (by decide)⟩
/-- The keys. -/
def kArr : S2x16384x512.Idx → EReal :=
  fun i => rotAt (fun l => pTok x g md w (i 0) (i 1) ⟨1536 + (128 * ((i 2).val / 128) + l.val), by have h2 : (i 2).val < 512 := (i 2).isLt; omega⟩)
    (fun l => cs (ix2 (i 1) l)) (fun l => sn (ix2 (i 1) l)) ⟨(i 2).val % 128, Nat.mod_lt _ (by decide)⟩
/-- The values. -/
def vArr : S2x16384x512.Idx → EReal := fun i => pTok x g md w (i 0) (i 1) ⟨2048 + (i 2).val, by have h2 : (i 2).val < 512 := (i 2).isLt; omega⟩
/-- The mixer's channels. -/
def fArr : S2x16384x512.Idx → EReal := fun i => pTok x g md w (i 0) (i 1) ⟨2560 + (i 2).val, by have h2 : (i 2).val < 512 := (i 2).isLt; omega⟩
/-- The gate. -/
def zArr : S2x16384x2048.Idx → EReal := fun i => tanhGate (pTok x g md w (i 0) (i 1) ⟨3072 + (i 2).val, by have h2 : (i 2).val < 2048 := (i 2).isLt; omega⟩)
end

/-- The batch row of a point of the projection's grid. -/
def bat1 (t : Fin cfg1.N) : Fin 2 := ⟨t.val / 32, by have := t.isLt; have h : cfg1.N = 64 := N_1; omega⟩
/-- The token a row of a point's block is. -/
def tok1 (t : Fin cfg1.N) (r : Fin 512) : Fin 16384 := ⟨512 * (t.val % 32) + r.val, by omega⟩

theorem blk1_0 (t : Fin cfg1.N) (y : S1x512x2048.Idx) : iblk1 V c 0 t y
    = (V c main_arg0 : Vec Ideal S2x16384x2048 .f32) (ix3 (bat1 t) (tok1 t (y 1)) (y 2)) := by
  obtain ⟨e0, e1, e2⟩ := idx1_0 t
  refine congrArg (V c main_arg0) (funext fun a => Fin.ext ?_)
  match a with
  | ⟨0, _⟩ => show win1_0.index t (0 : Fin 3) * 1 + 1 * (y 0).val = t.val / 32; have h2 : (y 0).val < 1 := (y 0).isLt; omega
  | ⟨1, _⟩ => show win1_0.index t (1 : Fin 3) * 512 + 1 * (y 1).val = 512 * (t.val % 32) + (y 1).val; omega
  | ⟨2, _⟩ => show win1_0.index t (2 : Fin 3) * 2048 + 1 * (y 2).val = (y 2).val; omega
theorem blk1_1 (t : Fin cfg1.N) : iblk1 V c 1 t = (V c main_v27 : Vec Ideal S1x2048 .f32) := by
  obtain ⟨e0, e1⟩ := idx1_1 t
  funext y
  refine congrArg (V c main_v27) (funext fun a => Fin.ext ?_)
  match a with
  | ⟨0, _⟩ => show win1_1.index t (0 : Fin 2) * 1 + 1 * (y 0).val = (y 0).val; omega
  | ⟨1, _⟩ => show win1_1.index t (1 : Fin 2) * 2048 + 1 * (y 1).val = (y 1).val; omega
theorem blk1_2 (t : Fin cfg1.N) (y : S1x1x2048.Idx) : iblk1 V c 2 t y
    = (V c main_v4 : Vec Ideal S8x1x6144 .f32) (ix3 ⟨(bat1 t).val, by omega⟩ 0 ⟨2048 + (y 2).val, lt_trans (Nat.add_lt_add_left (y 2).isLt 2048) (by decide)⟩) := by
  obtain ⟨e0, e1, e2⟩ := idx1_2 t
  refine congrArg (V c main_v4) (funext fun a => Fin.ext ?_)
  match a with
  | ⟨0, _⟩ => show win1_2.index t (0 : Fin 3) * 1 + 1 * (y 0).val = t.val / 32; have h2 : (y 0).val < 1 := (y 0).isLt; omega
  | ⟨1, _⟩ => show win1_2.index t (1 : Fin 3) * 1 + 1 * (y 1).val = 0; have h2 : (y 1).val < 1 := (y 1).isLt; omega
  | ⟨2, _⟩ => show win1_2.index t (2 : Fin 3) * 2048 + 1 * (y 2).val = 2048 + (y 2).val; omega
theorem blk1_3 (t : Fin cfg1.N) (y : S1x1x2048.Idx) : iblk1 V c 3 t y
    = (V c main_v4 : Vec Ideal S8x1x6144 .f32) (ix3 ⟨(bat1 t).val, by omega⟩ 0 ⟨(y 2).val, lt_trans (y 2).isLt (by decide)⟩) := by
  obtain ⟨e0, e1, e2⟩ := idx1_3 t
  refine congrArg (V c main_v4) (funext fun a => Fin.ext ?_)
  match a with
  | ⟨0, _⟩ => show win1_3.index t (0 : Fin 3) * 1 + 1 * (y 0).val = t.val / 32; have h2 : (y 0).val < 1 := (y 0).isLt; omega
  | ⟨1, _⟩ => show win1_3.index t (1 : Fin 3) * 1 + 1 * (y 1).val = 0; have h2 : (y 1).val < 1 := (y 1).isLt; omega
  | ⟨2, _⟩ => show win1_3.index t (2 : Fin 3) * 2048 + 1 * (y 2).val = (y 2).val; omega
theorem blk1_4 (t : Fin cfg1.N) : iblk1 V c 4 t = (V c main_v26 : Vec Ideal S2048x5120 .bf16) := by
  obtain ⟨e0, e1⟩ := idx1_4 t
  funext y
  refine congrArg (V c main_v26) (funext fun a => Fin.ext ?_)
  match a with
  | ⟨0, _⟩ => show win1_4.index t (0 : Fin 2) * 2048 + 1 * (y 0).val = (y 0).val; omega
  | ⟨1, _⟩ => show win1_4.index t (1 : Fin 2) * 5120 + 1 * (y 1).val = (y 1).val; omega
theorem blk1_5 (t : Fin cfg1.N) (r : Fin 512) (l : Fin 128) : iblk1 V c 5 t (ix2 r l) = (V c main_v13 : Vec Ideal S16384x128 .f32) (ix2 (tok1 t r) l) := by
  obtain ⟨e0, e1⟩ := idx1_5 t
  refine congrArg (V c main_v13) (funext fun a => Fin.ext ?_)
  match a with
  | ⟨0, _⟩ => show win1_5.index t (0 : Fin 2) * 512 + 1 * r.val = 512 * (t.val % 32) + r.val; omega
  | ⟨1, _⟩ => show win1_5.index t (1 : Fin 2) * 128 + 1 * l.val = l.val; omega
theorem blk1_6 (t : Fin cfg1.N) (r : Fin 512) (l : Fin 128) : iblk1 V c 6 t (ix2 r l) = (V c main_v24 : Vec Ideal S16384x128 .f32) (ix2 (tok1 t r) l) := by
  obtain ⟨e0, e1⟩ := idx1_6 t
  refine congrArg (V c main_v24) (funext fun a => Fin.ext ?_)
  match a with
  | ⟨0, _⟩ => show win1_6.index t (0 : Fin 2) * 512 + 1 * r.val = 512 * (t.val % 32) + r.val; omega
  | ⟨1, _⟩ => show win1_6.index t (1 : Fin 2) * 128 + 1 * l.val = l.val; omega

/-- The normalised rows of a point's block are the array's tokens. -/
theorem hRows_blk (t : Fin cfg1.N) (r : Fin 512) (k : Fin 2048) :
    hRows (iblk1 V c 0 t) (iblk1 V c 1 t) (iblk1 V c 2 t) (iblk1 V c 3 t) (ix2 r k) = hTok (V c main_arg0) (V c main_v27) (V c main_v4) (bat1 t) (tok1 t r) k := by
  unfold hRows hTok
  rw [blk1_1]
  simp only [blk1_0, blk1_2, blk1_3]
  rfl
theorem proj_blk (t : Fin cfg1.N) (r : Fin 512) (j : Fin 5120) :
    projAt (hRows (iblk1 V c 0 t) (iblk1 V c 1 t) (iblk1 V c 2 t) (iblk1 V c 3 t)) (iblk1 V c 4 t) r j = pTok (V c main_arg0) (V c main_v27) (V c main_v4) (V c main_v26) (bat1 t) (tok1 t r) j :=
  congrArg₂ Cert.Pool.inner (funext fun k => hRows_blk V c t r k) (funext fun k => congrFun (blk1_4 V c t) _)

theorem outs1_11 (t : Fin cfg1.N) : (outsAt1 V c t).1 = qBlk (hRows (iblk1 V c 0 t) (iblk1 V c 1 t) (iblk1 V c 2 t) (iblk1 V c 3 t)) (iblk1 V c 4 t) (iblk1 V c 5 t) (iblk1 V c 6 t) := by
  unfold outsAt1
  dsimp only
  rw [out1_11]
theorem qBlk_eq (t : Fin cfg1.N) (y : S1x512x1536.Idx) : qBlk (hRows (iblk1 V c 0 t) (iblk1 V c 1 t) (iblk1 V c 2 t) (iblk1 V c 3 t)) (iblk1 V c 4 t) (iblk1 V c 5 t) (iblk1 V c 6 t) y
    = qArr (V c main_arg0) (V c main_v27) (V c main_v4) (V c main_v26) (V c main_v13) (V c main_v24) (ix3 (bat1 t) (tok1 t (y 1)) (y 2)) := by
  unfold qBlk qArr
  refine congrFun (congr (congr (congrArg rotAt (funext fun l => ?_)) (funext fun l => ?_)) (funext fun l => ?_)) _
  · exact proj_blk V c t (y 1) _
  · exact congrArg (· * qscale) (blk1_5 V c t (y 1) l)
  · exact congrArg (· * qscale) (blk1_6 V c t (y 1) l)
theorem flushed1_11 (t : Fin cfg1.N) : (dat1 V c).flushed 11 t
    = ((cfg1.win 11).blk t).view.read (Elt Ideal) (qArr (V c main_arg0) (V c main_v27) (V c main_v4) (V c main_v26) (V c main_v13) (V c main_v24)) := by
  rw [Pipeline.Dat.flushed, after1_11, outs1_11]
  obtain ⟨e0, e1, e2⟩ := idx1_11 t
  funext y
  refine (qBlk_eq V c t y).trans (congrArg (qArr (V c main_arg0) (V c main_v27) (V c main_v4) (V c main_v26) (V c main_v13) (V c main_v24)) (funext fun a => Fin.ext ?_))
  match a with
  | ⟨0, _⟩ => show t.val / 32 = win1_11.index t (0 : Fin 3) * 1 + 1 * (y 0).val; have h2 : (y 0).val < 1 := (y 0).isLt; omega
  | ⟨1, _⟩ => show 512 * (t.val % 32) + (y 1).val = win1_11.index t (1 : Fin 3) * 512 + 1 * (y 1).val; omega
  | ⟨2, _⟩ => show (y 2).val = win1_11.index t (2 : Fin 3) * 1536 + 1 * (y 2).val; omega
theorem arr1_11 : (dat1 V c).arrAt 11 cfg1.N = qArr (V c main_arg0) (V c main_v27) (V c main_v4) (V c main_v26) (V c main_v13) (V c main_v24) := by
  refine (dat1 V c).arrAt_eq_of_cover 11 _ (fun t _ => flushed1_11 V c t) fun i => ?_
  have hi0 : (i (0 : Fin 3)).val < 2 := (i (0 : Fin 3)).isLt
  have hi1 : (i (1 : Fin 3)).val < 16384 := (i (1 : Fin 3)).isLt
  have hi2 : (i (2 : Fin 3)).val < 1536 := (i (2 : Fin 3)).isLt
  have hN : cfg1.N = 64 := N_1
  obtain ⟨t, ht⟩ : ∃ t : Fin cfg1.N, t.val = 32 * (i (0 : Fin 3)).val + (i (1 : Fin 3)).val / 512 := ⟨⟨_, by omega⟩, rfl⟩
  refine ⟨t, flush1_11 _, ?_⟩
  obtain ⟨e0, e1, e2⟩ := idx1_11 t
  show i ∈ ((View.whole main_v28_0).slice (win1_11.rect t)).set
  rw [View.set_slice_whole, Rect.mem_set_unit]
  intro a
  match a with
  | ⟨0, _⟩ => show win1_11.index t (0 : Fin 3) * 1 ≤ (i (0 : Fin 3)).val ∧ (i (0 : Fin 3)).val < win1_11.index t (0 : Fin 3) * 1 + 1; rw [e0]; omega
  | ⟨1, _⟩ => show win1_11.index t (1 : Fin 3) * 512 ≤ (i (1 : Fin 3)).val ∧ (i (1 : Fin 3)).val < win1_11.index t (1 : Fin 3) * 512 + 512; rw [e1]; omega
  | ⟨2, _⟩ => show win1_11.index t (2 : Fin 3) * 1536 ≤ (i (2 : Fin 3)).val ∧ (i (2 : Fin 3)).val < win1_11.index t (2 : Fin 3) * 1536 + 1536; rw [e2]; omega

theorem outs1_12 (t : Fin cfg1.N) : (outsAt1 V c t).2.1 = kBlk (hRows (iblk1 V c 0 t) (iblk1 V c 1 t) (iblk1 V c 2 t) (iblk1 V c 3 t)) (iblk1 V c 4 t) (iblk1 V c 5 t) (iblk1 V c 6 t) := by
  unfold outsAt1
  dsimp only
  rw [out1_12]
theorem kBlk_eq (t : Fin cfg1.N) (y : S1x512x512.Idx) : kBlk (hRows (iblk1 V c 0 t) (iblk1 V c 1 t) (iblk1 V c 2 t) (iblk1 V c 3 t)) (iblk1 V c 4 t) (iblk1 V c 5 t) (iblk1 V c 6 t) y
    = kArr (V c main_arg0) (V c main_v27) (V c main_v4) (V c main_v26) (V c main_v13) (V c main_v24) (ix3 (bat1 t) (tok1 t (y 1)) (y 2)) := by
  unfold kBlk kArr
  refine congrFun (congr (congr (congrArg rotAt (funext fun l => ?_)) (funext fun l => ?_)) (funext fun l => ?_)) _
  · exact proj_blk V c t (y 1) _
  · exact blk1_5 V c t (y 1) l
  · exact blk1_6 V c t (y 1) l
theorem flushed1_12 (t : Fin cfg1.N) : (dat1 V c).flushed 12 t
    = ((cfg1.win 12).blk t).view.read (Elt Ideal) (kArr (V c main_arg0) (V c main_v27) (V c main_v4) (V c main_v26) (V c main_v13) (V c main_v24)) := by
  rw [Pipeline.Dat.flushed, after1_12, outs1_12]
  obtain ⟨e0, e1, e2⟩ := idx1_12 t
  funext y
  refine (kBlk_eq V c t y).trans (congrArg (kArr (V c main_arg0) (V c main_v27) (V c main_v4) (V c main_v26) (V c main_v13) (V c main_v24)) (funext fun a => Fin.ext ?_))
  match a with
  | ⟨0, _⟩ => show t.val / 32 = win1_12.index t (0 : Fin 3) * 1 + 1 * (y 0).val; have h2 : (y 0).val < 1 := (y 0).isLt; omega
  | ⟨1, _⟩ => show 512 * (t.val % 32) + (y 1).val = win1_12.index t (1 : Fin 3) * 512 + 1 * (y 1).val; omega
  | ⟨2, _⟩ => show (y 2).val = win1_12.index t (2 : Fin 3) * 512 + 1 * (y 2).val; omega
theorem arr1_12 : (dat1 V c).arrAt 12 cfg1.N = kArr (V c main_arg0) (V c main_v27) (V c main_v4) (V c main_v26) (V c main_v13) (V c main_v24) := by
  refine (dat1 V c).arrAt_eq_of_cover 12 _ (fun t _ => flushed1_12 V c t) fun i => ?_
  have hi0 : (i (0 : Fin 3)).val < 2 := (i (0 : Fin 3)).isLt
  have hi1 : (i (1 : Fin 3)).val < 16384 := (i (1 : Fin 3)).isLt
  have hi2 : (i (2 : Fin 3)).val < 512 := (i (2 : Fin 3)).isLt
  have hN : cfg1.N = 64 := N_1
  obtain ⟨t, ht⟩ : ∃ t : Fin cfg1.N, t.val = 32 * (i (0 : Fin 3)).val + (i (1 : Fin 3)).val / 512 := ⟨⟨_, by omega⟩, rfl⟩
  refine ⟨t, flush1_12 _, ?_⟩
  obtain ⟨e0, e1, e2⟩ := idx1_12 t
  show i ∈ ((View.whole main_v28_1).slice (win1_12.rect t)).set
  rw [View.set_slice_whole, Rect.mem_set_unit]
  intro a
  match a with
  | ⟨0, _⟩ => show win1_12.index t (0 : Fin 3) * 1 ≤ (i (0 : Fin 3)).val ∧ (i (0 : Fin 3)).val < win1_12.index t (0 : Fin 3) * 1 + 1; rw [e0]; omega
  | ⟨1, _⟩ => show win1_12.index t (1 : Fin 3) * 512 ≤ (i (1 : Fin 3)).val ∧ (i (1 : Fin 3)).val < win1_12.index t (1 : Fin 3) * 512 + 512; rw [e1]; omega
  | ⟨2, _⟩ => show win1_12.index t (2 : Fin 3) * 512 ≤ (i (2 : Fin 3)).val ∧ (i (2 : Fin 3)).val < win1_12.index t (2 : Fin 3) * 512 + 512; rw [e2]; omega

theorem outs1_13 (t : Fin cfg1.N) : (outsAt1 V c t).2.2.1 = vBlk (hRows (iblk1 V c 0 t) (iblk1 V c 1 t) (iblk1 V c 2 t) (iblk1 V c 3 t)) (iblk1 V c 4 t) := by
  unfold outsAt1
  dsimp only
  rw [out1_13]
theorem vBlk_eq (t : Fin cfg1.N) (y : S1x512x512.Idx) : vBlk (hRows (iblk1 V c 0 t) (iblk1 V c 1 t) (iblk1 V c 2 t) (iblk1 V c 3 t)) (iblk1 V c 4 t) y
    = vArr (V c main_arg0) (V c main_v27) (V c main_v4) (V c main_v26) (ix3 (bat1 t) (tok1 t (y 1)) (y 2)) := by
  unfold vBlk vArr
  exact proj_blk V c t (y 1) _
theorem flushed1_13 (t : Fin cfg1.N) : (dat1 V c).flushed 13 t
    = ((cfg1.win 13).blk t).view.read (Elt Ideal) (vArr (V c main_arg0) (V c main_v27) (V c main_v4) (V c main_v26)) := by
  rw [Pipeline.Dat.flushed, after1_13, outs1_13]
  obtain ⟨e0, e1, e2⟩ := idx1_13 t
  funext y
  refine (vBlk_eq V c t y).trans (congrArg (vArr (V c main_arg0) (V c main_v27) (V c main_v4) (V c main_v26)) (funext fun a => Fin.ext ?_))
  match a with
  | ⟨0, _⟩ => show t.val / 32 = win1_13.index t (0 : Fin 3) * 1 + 1 * (y 0).val; have h2 : (y 0).val < 1 := (y 0).isLt; omega
  | ⟨1, _⟩ => show 512 * (t.val % 32) + (y 1).val = win1_13.index t (1 : Fin 3) * 512 + 1 * (y 1).val; omega
  | ⟨2, _⟩ => show (y 2).val = win1_13.index t (2 : Fin 3) * 512 + 1 * (y 2).val; omega
theorem arr1_13 : (dat1 V c).arrAt 13 cfg1.N = vArr (V c main_arg0) (V c main_v27) (V c main_v4) (V c main_v26) := by
  refine (dat1 V c).arrAt_eq_of_cover 13 _ (fun t _ => flushed1_13 V c t) fun i => ?_
  have hi0 : (i (0 : Fin 3)).val < 2 := (i (0 : Fin 3)).isLt
  have hi1 : (i (1 : Fin 3)).val < 16384 := (i (1 : Fin 3)).isLt
  have hi2 : (i (2 : Fin 3)).val < 512 := (i (2 : Fin 3)).isLt
  have hN : cfg1.N = 64 := N_1
  obtain ⟨t, ht⟩ : ∃ t : Fin cfg1.N, t.val = 32 * (i (0 : Fin 3)).val + (i (1 : Fin 3)).val / 512 := ⟨⟨_, by omega⟩, rfl⟩
  refine ⟨t, flush1_13 _, ?_⟩
  obtain ⟨e0, e1, e2⟩ := idx1_13 t
  show i ∈ ((View.whole main_v28_2).slice (win1_13.rect t)).set
  rw [View.set_slice_whole, Rect.mem_set_unit]
  intro a
  match a with
  | ⟨0, _⟩ => show win1_13.index t (0 : Fin 3) * 1 ≤ (i (0 : Fin 3)).val ∧ (i (0 : Fin 3)).val < win1_13.index t (0 : Fin 3) * 1 + 1; rw [e0]; omega
  | ⟨1, _⟩ => show win1_13.index t (1 : Fin 3) * 512 ≤ (i (1 : Fin 3)).val ∧ (i (1 : Fin 3)).val < win1_13.index t (1 : Fin 3) * 512 + 512; rw [e1]; omega
  | ⟨2, _⟩ => show win1_13.index t (2 : Fin 3) * 512 ≤ (i (2 : Fin 3)).val ∧ (i (2 : Fin 3)).val < win1_13.index t (2 : Fin 3) * 512 + 512; rw [e2]; omega

theorem outs1_14 (t : Fin cfg1.N) : (outsAt1 V c t).2.2.2.1 = fBlk (hRows (iblk1 V c 0 t) (iblk1 V c 1 t) (iblk1 V c 2 t) (iblk1 V c 3 t)) (iblk1 V c 4 t) := by
  unfold outsAt1
  dsimp only
  rw [out1_14]
theorem fBlk_eq (t : Fin cfg1.N) (y : S1x512x512.Idx) : fBlk (hRows (iblk1 V c 0 t) (iblk1 V c 1 t) (iblk1 V c 2 t) (iblk1 V c 3 t)) (iblk1 V c 4 t) y
    = fArr (V c main_arg0) (V c main_v27) (V c main_v4) (V c main_v26) (ix3 (bat1 t) (tok1 t (y 1)) (y 2)) := by
  unfold fBlk fArr
  exact proj_blk V c t (y 1) _
theorem flushed1_14 (t : Fin cfg1.N) : (dat1 V c).flushed 14 t
    = ((cfg1.win 14).blk t).view.read (Elt Ideal) (fArr (V c main_arg0) (V c main_v27) (V c main_v4) (V c main_v26)) := by
  rw [Pipeline.Dat.flushed, after1_14, outs1_14]
  obtain ⟨e0, e1, e2⟩ := idx1_14 t
  funext y
  refine (fBlk_eq V c t y).trans (congrArg (fArr (V c main_arg0) (V c main_v27) (V c main_v4) (V c main_v26)) (funext fun a => Fin.ext ?_))
  match a with
  | ⟨0, _⟩ => show t.val / 32 = win1_14.index t (0 : Fin 3) * 1 + 1 * (y 0).val; have h2 : (y 0).val < 1 := (y 0).isLt; omega
  | ⟨1, _⟩ => show 512 * (t.val % 32) + (y 1).val = win1_14.index t (1 : Fin 3) * 512 + 1 * (y 1).val; omega
  | ⟨2, _⟩ => show (y 2).val = win1_14.index t (2 : Fin 3) * 512 + 1 * (y 2).val; omega
theorem arr1_14 : (dat1 V c).arrAt 14 cfg1.N = fArr (V c main_arg0) (V c main_v27) (V c main_v4) (V c main_v26) := by
  refine (dat1 V c).arrAt_eq_of_cover 14 _ (fun t _ => flushed1_14 V c t) fun i => ?_
  have hi0 : (i (0 : Fin 3)).val < 2 := (i (0 : Fin 3)).isLt
  have hi1 : (i (1 : Fin 3)).val < 16384 := (i (1 : Fin 3)).isLt
  have hi2 : (i (2 : Fin 3)).val < 512 := (i (2 : Fin 3)).isLt
  have hN : cfg1.N = 64 := N_1
  obtain ⟨t, ht⟩ : ∃ t : Fin cfg1.N, t.val = 32 * (i (0 : Fin 3)).val + (i (1 : Fin 3)).val / 512 := ⟨⟨_, by omega⟩, rfl⟩
  refine ⟨t, flush1_14 _, ?_⟩
  obtain ⟨e0, e1, e2⟩ := idx1_14 t
  show i ∈ ((View.whole main_v28_3).slice (win1_14.rect t)).set
  rw [View.set_slice_whole, Rect.mem_set_unit]
  intro a
  match a with
  | ⟨0, _⟩ => show win1_14.index t (0 : Fin 3) * 1 ≤ (i (0 : Fin 3)).val ∧ (i (0 : Fin 3)).val < win1_14.index t (0 : Fin 3) * 1 + 1; rw [e0]; omega
  | ⟨1, _⟩ => show win1_14.index t (1 : Fin 3) * 512 ≤ (i (1 : Fin 3)).val ∧ (i (1 : Fin 3)).val < win1_14.index t (1 : Fin 3) * 512 + 512; rw [e1]; omega
  | ⟨2, _⟩ => show win1_14.index t (2 : Fin 3) * 512 ≤ (i (2 : Fin 3)).val ∧ (i (2 : Fin 3)).val < win1_14.index t (2 : Fin 3) * 512 + 512; rw [e2]; omega

theorem outs1_15 (t : Fin cfg1.N) : (outsAt1 V c t).2.2.2.2.1 = zBlk (hRows (iblk1 V c 0 t) (iblk1 V c 1 t) (iblk1 V c 2 t) (iblk1 V c 3 t)) (iblk1 V c 4 t) := by
  unfold outsAt1
  dsimp only
  rw [out1_15]
theorem zBlk_eq (t : Fin cfg1.N) (y : S1x512x2048.Idx) : zBlk (hRows (iblk1 V c 0 t) (iblk1 V c 1 t) (iblk1 V c 2 t) (iblk1 V c 3 t)) (iblk1 V c 4 t) y
    = zArr (V c main_arg0) (V c main_v27) (V c main_v4) (V c main_v26) (ix3 (bat1 t) (tok1 t (y 1)) (y 2)) := by
  unfold zBlk zArr
  exact congrArg tanhGate (proj_blk V c t (y 1) _)
theorem flushed1_15 (t : Fin cfg1.N) : (dat1 V c).flushed 15 t
    = ((cfg1.win 15).blk t).view.read (Elt Ideal) (zArr (V c main_arg0) (V c main_v27) (V c main_v4) (V c main_v26)) := by
  rw [Pipeline.Dat.flushed, after1_15, outs1_15]
  obtain ⟨e0, e1, e2⟩ := idx1_15 t
  funext y
  refine (zBlk_eq V c t y).trans (congrArg (zArr (V c main_arg0) (V c main_v27) (V c main_v4) (V c main_v26)) (funext fun a => Fin.ext ?_))
  match a with
  | ⟨0, _⟩ => show t.val / 32 = win1_15.index t (0 : Fin 3) * 1 + 1 * (y 0).val; have h2 : (y 0).val < 1 := (y 0).isLt; omega
  | ⟨1, _⟩ => show 512 * (t.val % 32) + (y 1).val = win1_15.index t (1 : Fin 3) * 512 + 1 * (y 1).val; omega
  | ⟨2, _⟩ => show (y 2).val = win1_15.index t (2 : Fin 3) * 2048 + 1 * (y 2).val; omega
theorem arr1_15 : (dat1 V c).arrAt 15 cfg1.N = zArr (V c main_arg0) (V c main_v27) (V c main_v4) (V c main_v26) := by
  refine (dat1 V c).arrAt_eq_of_cover 15 _ (fun t _ => flushed1_15 V c t) fun i => ?_
  have hi0 : (i (0 : Fin 3)).val < 2 := (i (0 : Fin 3)).isLt
  have hi1 : (i (1 : Fin 3)).val < 16384 := (i (1 : Fin 3)).isLt
  have hi2 : (i (2 : Fin 3)).val < 2048 := (i (2 : Fin 3)).isLt
  have hN : cfg1.N = 64 := N_1
  obtain ⟨t, ht⟩ : ∃ t : Fin cfg1.N, t.val = 32 * (i (0 : Fin 3)).val + (i (1 : Fin 3)).val / 512 := ⟨⟨_, by omega⟩, rfl⟩
  refine ⟨t, flush1_15 _, ?_⟩
  obtain ⟨e0, e1, e2⟩ := idx1_15 t
  show i ∈ ((View.whole main_v28_4).slice (win1_15.rect t)).set
  rw [View.set_slice_whole, Rect.mem_set_unit]
  intro a
  match a with
  | ⟨0, _⟩ => show win1_15.index t (0 : Fin 3) * 1 ≤ (i (0 : Fin 3)).val ∧ (i (0 : Fin 3)).val < win1_15.index t (0 : Fin 3) * 1 + 1; rw [e0]; omega
  | ⟨1, _⟩ => show win1_15.index t (1 : Fin 3) * 512 ≤ (i (1 : Fin 3)).val ∧ (i (1 : Fin 3)).val < win1_15.index t (1 : Fin 3) * 512 + 512; rw [e1]; omega
  | ⟨2, _⟩ => show win1_15.index t (2 : Fin 3) * 2048 ≤ (i (2 : Fin 3)).val ∧ (i (2 : Fin 3)).val < win1_15.index t (2 : Fin 3) * 2048 + 2048; rw [e2]; omega

theorem outs1_16 (t : Fin cfg1.N) : (outsAt1 V c t).2.2.2.2.2.1 = (iblk1 V c 7 t : S32x2048.Idx → EReal) := by
  unfold outsAt1
  dsimp only
  rw [out1_16]
theorem flushed1_16 (t : Fin cfg1.N) : (dat1 V c).flushed 16 t
    = ((cfg1.win 16).blk t).view.read (Elt Ideal) (V c main_arg9 : S2048x2048.Idx → EReal) := by
  rw [Pipeline.Dat.flushed, after1_16, outs1_16]
  obtain ⟨e0, e1⟩ := idx1_16 t
  obtain ⟨d0, d1⟩ := idx1_7 t
  funext y
  refine congrArg (V c main_arg9) (funext fun a => Fin.ext ?_)
  match a with
  | ⟨0, _⟩ => show win1_7.index t (0 : Fin 2) * 32 + 1 * (y 0).val = win1_16.index t (0 : Fin 2) * 32 + 1 * (y 0).val; omega
  | ⟨1, _⟩ => show win1_7.index t (1 : Fin 2) * 2048 + 1 * (y 1).val = win1_16.index t (1 : Fin 2) * 2048 + 1 * (y 1).val; omega
theorem arr1_16 : (dat1 V c).arrAt 16 cfg1.N = (V c main_arg9 : S2048x2048.Idx → EReal) := by
  refine (dat1 V c).arrAt_eq_of_cover 16 _ (fun t _ => flushed1_16 V c t) fun i => ?_
  have hi0 : (i (0 : Fin 2)).val < 2048 := (i (0 : Fin 2)).isLt
  have hi1 : (i (1 : Fin 2)).val < 2048 := (i (1 : Fin 2)).isLt
  have hN : cfg1.N = 64 := N_1
  obtain ⟨t, ht⟩ : ∃ t : Fin cfg1.N, t.val = (i (0 : Fin 2)).val / 32 := ⟨⟨_, by omega⟩, rfl⟩
  refine ⟨t, flush1_16 _, ?_⟩
  obtain ⟨e0, e1⟩ := idx1_16 t
  show i ∈ ((View.whole main_v28_5).slice (win1_16.rect t)).set
  rw [View.set_slice_whole, Rect.mem_set_unit]
  intro a
  match a with
  | ⟨0, _⟩ => show win1_16.index t (0 : Fin 2) * 32 ≤ (i (0 : Fin 2)).val ∧ (i (0 : Fin 2)).val < win1_16.index t (0 : Fin 2) * 32 + 32; rw [e0]; omega
  | ⟨1, _⟩ => show win1_16.index t (1 : Fin 2) * 2048 ≤ (i (1 : Fin 2)).val ∧ (i (1 : Fin 2)).val < win1_16.index t (1 : Fin 2) * 2048 + 2048; rw [e1]; omega

theorem outs1_17 (t : Fin cfg1.N) : (outsAt1 V c t).2.2.2.2.2.2.1 = (iblk1 V c 8 t : S32x4096.Idx → EReal) := by
  unfold outsAt1
  dsimp only
  rw [out1_17]
theorem flushed1_17 (t : Fin cfg1.N) : (dat1 V c).flushed 17 t
    = ((cfg1.win 17).blk t).view.read (Elt Ideal) (V c main_arg10 : S2048x4096.Idx → EReal) := by
  rw [Pipeline.Dat.flushed, after1_17, outs1_17]
  obtain ⟨e0, e1⟩ := idx1_17 t
  obtain ⟨d0, d1⟩ := idx1_8 t
  funext y
  refine congrArg (V c main_arg10) (funext fun a => Fin.ext ?_)
  match a with
  | ⟨0, _⟩ => show win1_8.index t (0 : Fin 2) * 32 + 1 * (y 0).val = win1_17.index t (0 : Fin 2) * 32 + 1 * (y 0).val; omega
  | ⟨1, _⟩ => show win1_8.index t (1 : Fin 2) * 4096 + 1 * (y 1).val = win1_17.index t (1 : Fin 2) * 4096 + 1 * (y 1).val; omega
theorem arr1_17 : (dat1 V c).arrAt 17 cfg1.N = (V c main_arg10 : S2048x4096.Idx → EReal) := by
  refine (dat1 V c).arrAt_eq_of_cover 17 _ (fun t _ => flushed1_17 V c t) fun i => ?_
  have hi0 : (i (0 : Fin 2)).val < 2048 := (i (0 : Fin 2)).isLt
  have hi1 : (i (1 : Fin 2)).val < 4096 := (i (1 : Fin 2)).isLt
  have hN : cfg1.N = 64 := N_1
  obtain ⟨t, ht⟩ : ∃ t : Fin cfg1.N, t.val = (i (0 : Fin 2)).val / 32 := ⟨⟨_, by omega⟩, rfl⟩
  refine ⟨t, flush1_17 _, ?_⟩
  obtain ⟨e0, e1⟩ := idx1_17 t
  show i ∈ ((View.whole main_v28_6).slice (win1_17.rect t)).set
  rw [View.set_slice_whole, Rect.mem_set_unit]
  intro a
  match a with
  | ⟨0, _⟩ => show win1_17.index t (0 : Fin 2) * 32 ≤ (i (0 : Fin 2)).val ∧ (i (0 : Fin 2)).val < win1_17.index t (0 : Fin 2) * 32 + 32; rw [e0]; omega
  | ⟨1, _⟩ => show win1_17.index t (1 : Fin 2) * 4096 ≤ (i (1 : Fin 2)).val ∧ (i (1 : Fin 2)).val < win1_17.index t (1 : Fin 2) * 4096 + 4096; rw [e1]; omega

theorem outs1_18 (t : Fin cfg1.N) : (outsAt1 V c t).2.2.2.2.2.2.2.1 = (iblk1 V c 9 t : S32x512.Idx → EReal) := by
  unfold outsAt1
  dsimp only
  rw [out1_18]
theorem flushed1_18 (t : Fin cfg1.N) : (dat1 V c).flushed 18 t
    = ((cfg1.win 18).blk t).view.read (Elt Ideal) (V c main_v25 : S2048x512.Idx → EReal) := by
  rw [Pipeline.Dat.flushed, after1_18, outs1_18]
  obtain ⟨e0, e1⟩ := idx1_18 t
  obtain ⟨d0, d1⟩ := idx1_9 t
  funext y
  refine congrArg (V c main_v25) (funext fun a => Fin.ext ?_)
  match a with
  | ⟨0, _⟩ => show win1_9.index t (0 : Fin 2) * 32 + 1 * (y 0).val = win1_18.index t (0 : Fin 2) * 32 + 1 * (y 0).val; omega
  | ⟨1, _⟩ => show win1_9.index t (1 : Fin 2) * 512 + 1 * (y 1).val = win1_18.index t (1 : Fin 2) * 512 + 1 * (y 1).val; omega
theorem arr1_18 : (dat1 V c).arrAt 18 cfg1.N = (V c main_v25 : S2048x512.Idx → EReal) := by
  refine (dat1 V c).arrAt_eq_of_cover 18 _ (fun t _ => flushed1_18 V c t) fun i => ?_
  have hi0 : (i (0 : Fin 2)).val < 2048 := (i (0 : Fin 2)).isLt
  have hi1 : (i (1 : Fin 2)).val < 512 := (i (1 : Fin 2)).isLt
  have hN : cfg1.N = 64 := N_1
  obtain ⟨t, ht⟩ : ∃ t : Fin cfg1.N, t.val = (i (0 : Fin 2)).val / 32 := ⟨⟨_, by omega⟩, rfl⟩
  refine ⟨t, flush1_18 _, ?_⟩
  obtain ⟨e0, e1⟩ := idx1_18 t
  show i ∈ ((View.whole main_v28_7).slice (win1_18.rect t)).set
  rw [View.set_slice_whole, Rect.mem_set_unit]
  intro a
  match a with
  | ⟨0, _⟩ => show win1_18.index t (0 : Fin 2) * 32 ≤ (i (0 : Fin 2)).val ∧ (i (0 : Fin 2)).val < win1_18.index t (0 : Fin 2) * 32 + 32; rw [e0]; omega
  | ⟨1, _⟩ => show win1_18.index t (1 : Fin 2) * 512 ≤ (i (1 : Fin 2)).val ∧ (i (1 : Fin 2)).val < win1_18.index t (1 : Fin 2) * 512 + 512; rw [e1]; omega

theorem outs1_19 (t : Fin cfg1.N) : (outsAt1 V c t).2.2.2.2.2.2.2.2 = (iblk1 V c 10 t : S32x2048.Idx → EReal) := by
  unfold outsAt1
  dsimp only
  rw [out1_19]
theorem flushed1_19 (t : Fin cfg1.N) : (dat1 V c).flushed 19 t
    = ((cfg1.win 19).blk t).view.read (Elt Ideal) (V c main_arg12 : S2048x2048.Idx → EReal) := by
  rw [Pipeline.Dat.flushed, after1_19, outs1_19]
  obtain ⟨e0, e1⟩ := idx1_19 t
  obtain ⟨d0, d1⟩ := idx1_10 t
  funext y
  refine congrArg (V c main_arg12) (funext fun a => Fin.ext ?_)
  match a with
  | ⟨0, _⟩ => show win1_10.index t (0 : Fin 2) * 32 + 1 * (y 0).val = win1_19.index t (0 : Fin 2) * 32 + 1 * (y 0).val; omega
  | ⟨1, _⟩ => show win1_10.index t (1 : Fin 2) * 2048 + 1 * (y 1).val = win1_19.index t (1 : Fin 2) * 2048 + 1 * (y 1).val; omega
theorem arr1_19 : (dat1 V c).arrAt 19 cfg1.N = (V c main_arg12 : S2048x2048.Idx → EReal) := by
  refine (dat1 V c).arrAt_eq_of_cover 19 _ (fun t _ => flushed1_19 V c t) fun i => ?_
  have hi0 : (i (0 : Fin 2)).val < 2048 := (i (0 : Fin 2)).isLt
  have hi1 : (i (1 : Fin 2)).val < 2048 := (i (1 : Fin 2)).isLt
  have hN : cfg1.N = 64 := N_1
  obtain ⟨t, ht⟩ : ∃ t : Fin cfg1.N, t.val = (i (0 : Fin 2)).val / 32 := ⟨⟨_, by omega⟩, rfl⟩
  refine ⟨t, flush1_19 _, ?_⟩
  obtain ⟨e0, e1⟩ := idx1_19 t
  show i ∈ ((View.whole main_v28_8).slice (win1_19.rect t)).set
  rw [View.set_slice_whole, Rect.mem_set_unit]
  intro a
  match a with
  | ⟨0, _⟩ => show win1_19.index t (0 : Fin 2) * 32 ≤ (i (0 : Fin 2)).val ∧ (i (0 : Fin 2)).val < win1_19.index t (0 : Fin 2) * 32 + 32; rw [e0]; omega
  | ⟨1, _⟩ => show win1_19.index t (1 : Fin 2) * 2048 ≤ (i (1 : Fin 2)).val ∧ (i (1 : Fin 2)).val < win1_19.index t (1 : Fin 2) * 2048 + 2048; rw [e1]; omega

end
end Cert.Kernel2Ideal.Val
end
-- ==== Proof.In0Rope.lean ====
/- The rotation of a head, written with signed tables and written by halves; and what layer 0's input projection computes, over a gate. -/
module

public import proofs.«01_k».proof.Proof.In0
public import proofs.«01_k».proof.Proof.Equation

@[expose] public section
noncomputable section
namespace Cert.Pool
open Idealize.ShloMosaic

/-- The group of a lane. -/
def laneGrp (l : Fin 128) : Fin 2 := ⟨l.val / 64, by omega⟩
/-- A lane's place in its half. -/
def lanePos (l : Fin 128) : Fin 32 := ⟨l.val % 32, by omega⟩
/-- A token's cosines, lane by lane. -/
def cosLane (C : Fin 2 → Fin 32 → EReal) (l : Fin 128) : EReal := C (laneGrp l) (lanePos l)
/-- A token's sines, lane by lane, negative on the first half of each group. -/
def sinLane (S : Fin 2 → Fin 32 → EReal) (l : Fin 128) : EReal := if l.val % 64 < 32 then -(S (laneGrp l) (lanePos l)) else S (laneGrp l) (lanePos l)
/-- One head rotated, half by half: a difference on the first half of a group, a sum on the second. -/
def turnAt (z : Fin 128 → EReal) (C S : Fin 2 → Fin 32 → EReal) (l : Fin 128) : EReal :=
  if l.val % 64 < 32 then z l * C (laneGrp l) (lanePos l) - z (partner l) * S (laneGrp l) (lanePos l)
  else z l * C (laneGrp l) (lanePos l) + z (partner l) * S (laneGrp l) (lanePos l)

theorem rot_turn (z : Fin 128 → EReal) (C S : Fin 2 → Fin 32 → EReal) (l : Fin 128) : rotAt z (cosLane C) (sinLane S) l = turnAt z C S l := by
  unfold rotAt turnAt cosLane sinLane
  by_cases h : l.val % 64 < 32
  · rw [if_pos h, if_pos h, mul_neg, sub_eq_add_neg]
  · rw [if_neg h, if_neg h]

theorem qscale_real : ∃ s : ℝ, 0 ≤ s ∧ qscale = (s : EReal) := by
  refine ⟨_, ?_, by unfold qscale; simp [Ideal.ofBits, Ideal.ieee, -EReal.coe_mul]; rfl⟩
  positivity

/-- A real scale of the tables is a scale of the rotated head. -/
theorem rot_turn_scaled (z : Fin 128 → EReal) (C S : Fin 2 → Fin 32 → EReal) (l : Fin 128) :
    rotAt z (fun l => cosLane C l * qscale) (fun l => sinLane S l * qscale) l = turnAt z C S l * qscale := by
  obtain ⟨s, hs, e⟩ := qscale_real
  rw [← rot_turn]
  unfold rotAt
  rw [e, ← mul_assoc, ← mul_assoc]
  exact (EReal.right_distrib_of_nonneg_of_ne_top (EReal.coe_nonneg.mpr hs) (EReal.coe_ne_top s) _ _).symm

/-! ## The projection, over a gate -/

section
variable (gate : EReal → EReal) (x : Fin 2 → Fin 16384 → Fin 2048 → EReal) (c : Fin 2 → Fin 2048 → EReal) (g : Fin 2048 → EReal) (wm : Fin 2048 → Fin 6144 → EReal) (bm : Fin 6144 → EReal)
  (win : Fin 2048 → Fin 5120 → EReal) (C S : Fin 16384 → Fin 2 → Fin 32 → EReal)

/-- A token's row against a column of the input weights. -/
def colAt (b : Fin 2) (t : Fin 16384) (j : Fin 5120) : EReal := inner (hAt gate x c g wm bm b t) (fun k => win k j)
/-- A head's lanes among the columns, from the first head's first column. -/
def headAt (o : ℕ) (ho : o ≤ 1536) (b : Fin 2) (t : Fin 16384) (h : Fin 12) (l : Fin 128) : EReal := colAt gate x c g wm bm win b t ⟨o + (128 * h.val + l.val), by omega⟩
/-- The queries. -/
def queryAt (b : Fin 2) (t : Fin 16384) (j : Fin 1536) : EReal :=
  turnAt (headAt gate x c g wm bm win 0 (by decide) b t ⟨j.val / 128, by omega⟩) (C t) (S t) ⟨j.val % 128, by omega⟩ * qscale
/-- The keys. -/
def keyAt (b : Fin 2) (t : Fin 16384) (j : Fin 512) : EReal :=
  turnAt (headAt gate x c g wm bm win 1536 (by decide) b t ⟨j.val / 128, by omega⟩) (C t) (S t) ⟨j.val % 128, by omega⟩
/-- The values. -/
def valueAt (b : Fin 2) (t : Fin 16384) (j : Fin 512) : EReal := colAt gate x c g wm bm win b t ⟨2048 + j.val, by omega⟩
/-- The mixer's channels. -/
def mixerAt (b : Fin 2) (t : Fin 16384) (j : Fin 512) : EReal := colAt gate x c g wm bm win b t ⟨2560 + j.val, by omega⟩
/-- The gate. -/
def gatedAt (b : Fin 2) (t : Fin 16384) (j : Fin 2048) : EReal := gate (colAt gate x c g wm bm win b t ⟨3072 + j.val, by omega⟩)
end

section
variable (x : Fin 2 → Fin 16384 → Fin 2048 → EReal) (c : Fin 2 → Fin 2048 → EReal) (g : Fin 2048 → EReal) (wm : Fin 2048 → Fin 6144 → EReal) (bm : Fin 6144 → EReal)
  (win : Fin 2048 → Fin 5120 → EReal) (hc : ∀ b k, IsReal (c b k)) (hg : ∀ k, IsReal (g k)) (hwm : ∀ j k, IsReal (wm j k)) (hbm : ∀ k, IsReal (bm k)) (hwin : ∀ j k, IsReal (win j k))

include hc in
theorem col_eq : colAt tanhGate x c g wm bm win = colAt siluGate x c g wm bm win := by
  funext b t j
  unfold colAt
  rw [h_eq x c g wm bm hc]
include hc in
theorem query_eq (C S : Fin 16384 → Fin 2 → Fin 32 → EReal) : queryAt tanhGate x c g wm bm win C S = queryAt siluGate x c g wm bm win C S := by
  unfold queryAt headAt
  rw [col_eq x c g wm bm win hc]
include hc in
theorem key_eq (C S : Fin 16384 → Fin 2 → Fin 32 → EReal) : keyAt tanhGate x c g wm bm win C S = keyAt siluGate x c g wm bm win C S := by
  unfold keyAt headAt
  rw [col_eq x c g wm bm win hc]
include hc in
theorem value_eq : valueAt tanhGate x c g wm bm win = valueAt siluGate x c g wm bm win := by
  unfold valueAt
  rw [col_eq x c g wm bm win hc]
include hc in
theorem mixer_eq : mixerAt tanhGate x c g wm bm win = mixerAt siluGate x c g wm bm win := by
  unfold mixerAt
  rw [col_eq x c g wm bm win hc]
include hc hg hwm hbm hwin in
theorem gated_eq : gatedAt tanhGate x c g wm bm win = gatedAt siluGate x c g wm bm win := by
  funext b t j
  unfold gatedAt
  rw [col_eq x c g wm bm win hc]
  exact gate_eq (IsReal.inner (h_real x c g wm bm hc hg hwm hbm b t) fun k => hwin k _)
end
end Cert.Pool
end
-- ==== Proof.In0Tables.lean ====
/- What the host lines round layer 0's input projection hold: the condition, the bias, the tables of the rotation, the weights. -/
module

public import proofs.«01_k».proof.Proof.In0Rope
public import Idealize.ShloMosaic.Lib.StableHlo.ReadAt

@[expose] public section
set_option maxRecDepth 16384
noncomputable section
namespace Cert.Kernel2Ideal.Val
open Idealize.ShloMosaic Idealize.ShloMosaic.TcCoe Idealize.ShloMosaic.Tactic
open Idealize.SL Idealize.SL.Sem
open Cert.Kernel2Ideal Cert.Kernel2Ideal.Gen Cert.Pool

section
variable (W : Valuation τ sig (Elt Ideal))

/-- The cosines by token, group and place. -/
def cosOf (t : Fin 16384) (a : Fin 2) (p : Fin 32) : EReal := (W (Proc.devRef .tc main_arg3) : Vec Ideal S16384x2x32 .f32) (ix3 t a p)
/-- The sines by token, group and place. -/
def sinOf (t : Fin 16384) (a : Fin 2) (p : Fin 32) : EReal := (W (Proc.devRef .tc main_arg4) : Vec Ideal S16384x2x32 .f32) (ix3 t a p)

theorem tab_v2 (b : Fin 2) (k : Fin 2048) : (StableHlo.after hostOps0 W (Proc.devRef .tc main_v2) : Vec Ideal S8x2048 .f32) (ix2 ⟨b.val, by omega⟩ k) = (W (Proc.devRef .tc main_arg1) : Vec Ideal S2x2048 .f32) (ix2 b k) := by
  after_reads_at
theorem tab_v3 (k : Fin 6144) : (StableHlo.after hostOps0 W (Proc.devRef .tc main_v3) : Vec Ideal S1x6144 .f32) (ix2 0 k) = (W (Proc.devRef .tc main_arg7) : Vec Ideal S6144 .f32) (ix1 k) := by
  after_reads_at
theorem tab_v25 : (StableHlo.after hostOps1 W (Proc.devRef .tc main_v25) : Vec Ideal S2048x512 .f32) = shapeCast _ (W (Proc.devRef .tc main_arg11) : Vec Ideal S4x512x512 .f32) shapeCasts_S4x512x512_S2048x512 := by
  after_reads_simp
  rfl
theorem tab_v26 (y : S2048x5120.Idx) : (StableHlo.after hostOps1 W (Proc.devRef .tc main_v26) : Vec Ideal S2048x5120 .bf16) y = (W (Proc.devRef .tc main_arg8) : Vec Ideal S2048x5120 .f32) y := by
  after_reads_at
theorem tab_v27 (k : Fin 2048) : (StableHlo.after hostOps1 W (Proc.devRef .tc main_v27) : Vec Ideal S1x2048 .f32) (ix2 0 k) = (W (Proc.devRef .tc main_arg5) : Vec Ideal S2048 .f32) (ix1 k) := by
  after_reads_at
theorem tab_v13_0 (t : Fin 16384) (p : Fin 32) : (StableHlo.after hostOps1 W (Proc.devRef .tc main_v13) : Vec Ideal S16384x128 .f32) (ix2 t ⟨0 + p.val, by omega⟩) = cosOf W t 0 p := by
  unfold cosOf
  after_reads_at
  try simp only [show ¬ (32 + p.val < 32) by omega, show ¬ (64 + p.val < 32) by omega, show ¬ (64 + p.val - 32 < 32) by omega, show ¬ (96 + p.val < 32) by omega, show ¬ (96 + p.val - 32 < 32) by omega,
    show ¬ (96 + p.val - 32 - 32 < 32) by omega, dite_false]
  after_reads_at
theorem tab_v13_1 (t : Fin 16384) (p : Fin 32) : (StableHlo.after hostOps1 W (Proc.devRef .tc main_v13) : Vec Ideal S16384x128 .f32) (ix2 t ⟨32 + p.val, by omega⟩) = cosOf W t 0 p := by
  unfold cosOf
  after_reads_at
  try simp only [show ¬ (32 + p.val < 32) by omega, show ¬ (64 + p.val < 32) by omega, show ¬ (64 + p.val - 32 < 32) by omega, show ¬ (96 + p.val < 32) by omega, show ¬ (96 + p.val - 32 < 32) by omega,
    show ¬ (96 + p.val - 32 - 32 < 32) by omega, dite_false]
  after_reads_at
theorem tab_v13_2 (t : Fin 16384) (p : Fin 32) : (StableHlo.after hostOps1 W (Proc.devRef .tc main_v13) : Vec Ideal S16384x128 .f32) (ix2 t ⟨64 + p.val, by omega⟩) = cosOf W t 1 p := by
  unfold cosOf
  after_reads_at
  try simp only [show ¬ (32 + p.val < 32) by omega, show ¬ (64 + p.val < 32) by omega, show ¬ (64 + p.val - 32 < 32) by omega, show ¬ (96 + p.val < 32) by omega, show ¬ (96 + p.val - 32 < 32) by omega,
    show ¬ (96 + p.val - 32 - 32 < 32) by omega, dite_false]
  after_reads_at
  simp only [show 64 + p.val - 32 - 32 = p.val by omega, p.isLt, dite_true]
theorem tab_v13_3 (t : Fin 16384) (p : Fin 32) : (StableHlo.after hostOps1 W (Proc.devRef .tc main_v13) : Vec Ideal S16384x128 .f32) (ix2 t ⟨96 + p.val, by omega⟩) = cosOf W t 1 p := by
  unfold cosOf
  after_reads_at
  try simp only [show ¬ (32 + p.val < 32) by omega, show ¬ (64 + p.val < 32) by omega, show ¬ (64 + p.val - 32 < 32) by omega, show ¬ (96 + p.val < 32) by omega, show ¬ (96 + p.val - 32 < 32) by omega,
    show ¬ (96 + p.val - 32 - 32 < 32) by omega, dite_false]
  after_reads_at
  simp only [show 96 + p.val - 32 - 32 - 32 = p.val by omega]
theorem tab_v24_0 (t : Fin 16384) (p : Fin 32) : (StableHlo.after hostOps1 W (Proc.devRef .tc main_v24) : Vec Ideal S16384x128 .f32) (ix2 t ⟨0 + p.val, by omega⟩) = -sinOf W t 0 p := by
  unfold sinOf
  after_reads_at
  try simp only [show ¬ (32 + p.val < 32) by omega, show ¬ (64 + p.val < 32) by omega, show ¬ (64 + p.val - 32 < 32) by omega, show ¬ (96 + p.val < 32) by omega, show ¬ (96 + p.val - 32 < 32) by omega,
    show ¬ (96 + p.val - 32 - 32 < 32) by omega, dite_false]
  after_reads_at
theorem tab_v24_1 (t : Fin 16384) (p : Fin 32) : (StableHlo.after hostOps1 W (Proc.devRef .tc main_v24) : Vec Ideal S16384x128 .f32) (ix2 t ⟨32 + p.val, by omega⟩) = sinOf W t 0 p := by
  unfold sinOf
  after_reads_at
  try simp only [show ¬ (32 + p.val < 32) by omega, show ¬ (64 + p.val < 32) by omega, show ¬ (64 + p.val - 32 < 32) by omega, show ¬ (96 + p.val < 32) by omega, show ¬ (96 + p.val - 32 < 32) by omega,
    show ¬ (96 + p.val - 32 - 32 < 32) by omega, dite_false]
  after_reads_at
theorem tab_v24_2 (t : Fin 16384) (p : Fin 32) : (StableHlo.after hostOps1 W (Proc.devRef .tc main_v24) : Vec Ideal S16384x128 .f32) (ix2 t ⟨64 + p.val, by omega⟩) = -sinOf W t 1 p := by
  unfold sinOf
  after_reads_at
  try simp only [show ¬ (32 + p.val < 32) by omega, show ¬ (64 + p.val < 32) by omega, show ¬ (64 + p.val - 32 < 32) by omega, show ¬ (96 + p.val < 32) by omega, show ¬ (96 + p.val - 32 < 32) by omega,
    show ¬ (96 + p.val - 32 - 32 < 32) by omega, dite_false]
  after_reads_at
  simp only [show 64 + p.val - 32 - 32 = p.val by omega, p.isLt, dite_true]
theorem tab_v24_3 (t : Fin 16384) (p : Fin 32) : (StableHlo.after hostOps1 W (Proc.devRef .tc main_v24) : Vec Ideal S16384x128 .f32) (ix2 t ⟨96 + p.val, by omega⟩) = sinOf W t 1 p := by
  unfold sinOf
  after_reads_at
  try simp only [show ¬ (32 + p.val < 32) by omega, show ¬ (64 + p.val < 32) by omega, show ¬ (64 + p.val - 32 < 32) by omega, show ¬ (96 + p.val < 32) by omega, show ¬ (96 + p.val - 32 < 32) by omega,
    show ¬ (96 + p.val - 32 - 32 < 32) by omega, dite_false]
  after_reads_at
  simp only [show 96 + p.val - 32 - 32 - 32 = p.val by omega]

theorem lane_cases (l : Fin 128) : ∃ p : Fin 32, l = ⟨0 + p.val, by omega⟩ ∨ l = ⟨32 + p.val, by omega⟩ ∨ l = ⟨64 + p.val, by omega⟩ ∨ l = ⟨96 + p.val, by omega⟩ := by
  refine ⟨⟨l.val % 32, Nat.mod_lt _ (by decide)⟩, ?_⟩
  have h : l.val / 32 = 0 ∨ l.val / 32 = 1 ∨ l.val / 32 = 2 ∨ l.val / 32 = 3 := by omega
  rcases h with h | h | h | h
  · exact Or.inl (Fin.ext (by show l.val = 0 + l.val % 32; omega))
  · exact Or.inr (Or.inl (Fin.ext (by show l.val = 32 + l.val % 32; omega)))
  · exact Or.inr (Or.inr (Or.inl (Fin.ext (by show l.val = 64 + l.val % 32; omega))))
  · exact Or.inr (Or.inr (Or.inr (Fin.ext (by show l.val = 96 + l.val % 32; omega))))

theorem tab_v13 (t : Fin 16384) (l : Fin 128) : (StableHlo.after hostOps1 W (Proc.devRef .tc main_v13) : Vec Ideal S16384x128 .f32) (ix2 t l)
    = cosLane (cosOf W t) l := by
  unfold cosLane
  obtain ⟨p, h⟩ := lane_cases l
  rcases h with rfl | rfl | rfl | rfl
  · refine (tab_v13_0 W t p).trans (congr (congrArg (cosOf W t) (Fin.ext ?_)) (Fin.ext ?_))
    · show 0 = (0 + p.val) / 64; omega
    · show p.val = (0 + p.val) % 32; omega
  · refine (tab_v13_1 W t p).trans (congr (congrArg (cosOf W t) (Fin.ext ?_)) (Fin.ext ?_))
    · show 0 = (32 + p.val) / 64; omega
    · show p.val = (32 + p.val) % 32; omega
  · refine (tab_v13_2 W t p).trans (congr (congrArg (cosOf W t) (Fin.ext ?_)) (Fin.ext ?_))
    · show 1 = (64 + p.val) / 64; omega
    · show p.val = (64 + p.val) % 32; omega
  · refine (tab_v13_3 W t p).trans (congr (congrArg (cosOf W t) (Fin.ext ?_)) (Fin.ext ?_))
    · show 1 = (96 + p.val) / 64; omega
    · show p.val = (96 + p.val) % 32; omega
theorem tab_v24 (t : Fin 16384) (l : Fin 128) : (StableHlo.after hostOps1 W (Proc.devRef .tc main_v24) : Vec Ideal S16384x128 .f32) (ix2 t l)
    = sinLane (sinOf W t) l := by
  unfold sinLane
  obtain ⟨p, h⟩ := lane_cases l
  rcases h with rfl | rfl | rfl | rfl
  · rw [if_pos (show  (0 + p.val) % 64 < 32 by omega)]
    refine (tab_v24_0 W t p).trans (congrArg (fun e : EReal => -e) (congr (congrArg (sinOf W t) (Fin.ext ?_)) (Fin.ext ?_)))
    · show 0 = (0 + p.val) / 64; omega
    · show p.val = (0 + p.val) % 32; omega
  · rw [if_neg (show ¬ (32 + p.val) % 64 < 32 by omega)]
    refine (tab_v24_1 W t p).trans (congr (congrArg (sinOf W t) (Fin.ext ?_)) (Fin.ext ?_))
    · show 0 = (32 + p.val) / 64; omega
    · show p.val = (32 + p.val) % 32; omega
  · rw [if_pos (show  (64 + p.val) % 64 < 32 by omega)]
    refine (tab_v24_2 W t p).trans (congrArg (fun e : EReal => -e) (congr (congrArg (sinOf W t) (Fin.ext ?_)) (Fin.ext ?_)))
    · show 1 = (64 + p.val) / 64; omega
    · show p.val = (64 + p.val) % 32; omega
  · rw [if_neg (show ¬ (96 + p.val) % 64 < 32 by omega)]
    refine (tab_v24_3 W t p).trans (congr (congrArg (sinOf W t) (Fin.ext ?_)) (Fin.ext ?_))
    · show 1 = (96 + p.val) / 64; omega
    · show p.val = (96 + p.val) % 32; omega

theorem out_v29 (y : S2x16384x1536.Idx) : (StableHlo.after hostOps2 W (Proc.devRef .tc main_v29) : Vec Ideal S2x16384x1536 .f32) y = (W (Proc.devRef .tc main_v28_0) : Vec Ideal S2x16384x1536 .bf16) y := by
  after_reads_at
theorem out_v30 (y : S2x16384x512.Idx) : (StableHlo.after hostOps2 W (Proc.devRef .tc main_v30) : Vec Ideal S2x16384x512 .f32) y = (W (Proc.devRef .tc main_v28_1) : Vec Ideal S2x16384x512 .bf16) y := by
  after_reads_at
theorem out_v31 (y : S2x16384x512.Idx) : (StableHlo.after hostOps2 W (Proc.devRef .tc main_v31) : Vec Ideal S2x16384x512 .f32) y = (W (Proc.devRef .tc main_v28_2) : Vec Ideal S2x16384x512 .bf16) y := by
  after_reads_at
theorem out_v32 (y : S2x16384x2048.Idx) : (StableHlo.after hostOps2 W (Proc.devRef .tc main_v32) : Vec Ideal S2x16384x2048 .f32) y = (W (Proc.devRef .tc main_v28_4) : Vec Ideal S2x16384x2048 .bf16) y := by
  after_reads_at
theorem out_v33 (y : S2048x2048.Idx) : (StableHlo.after hostOps2 W (Proc.devRef .tc main_v33) : Vec Ideal S2048x2048 .f32) y = (W (Proc.devRef .tc main_v28_5) : Vec Ideal S2048x2048 .bf16) y := by
  after_reads_at
theorem out_v34 (y : S2048x4096.Idx) : (StableHlo.after hostOps2 W (Proc.devRef .tc main_v34) : Vec Ideal S2048x4096 .f32) y = (W (Proc.devRef .tc main_v28_6) : Vec Ideal S2048x4096 .bf16) y := by
  after_reads_at
theorem out_v35 (y : S2048x512.Idx) : (StableHlo.after hostOps2 W (Proc.devRef .tc main_v35) : Vec Ideal S2048x512 .f32) y = (W (Proc.devRef .tc main_v28_7) : Vec Ideal S2048x512 .bf16) y := by
  after_reads_at
theorem out_v36 (y : S2048x2048.Idx) : (StableHlo.after hostOps2 W (Proc.devRef .tc main_v36) : Vec Ideal S2048x2048 .f32) y = (W (Proc.devRef .tc main_v28_8) : Vec Ideal S2048x2048 .bf16) y := by
  after_reads_at
end
end Cert.Kernel2Ideal.Val
end
-- ==== Proof.In0Result.lean ====
/- Layer 0's input projection, token by token, in terms of the program's arguments; and the run that leaves it in the result buffers. -/
module

public import proofs.«01_k».proof.Proof.In0Arr
public import proofs.«01_k».proof.Proof.In0Tables

@[expose] public section
set_option maxRecDepth 16384
noncomputable section
namespace Cert.Kernel2Ideal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.Kernel2Ideal Cert.Kernel2Ideal.Gen Cert.Pool

section
variable (m : (ℓ : Loc nD τ sig) → Buf (Elt Ideal) ℓ) (c : Dev nD)

/-- Argument 0 by its coordinates: the tokens. -/
def rX (b : Fin 2) (t : Fin 16384) (k : Fin 2048) : EReal := (m ((c : Thread nD τ).loc main_arg0) : Vec Ideal S2x16384x2048 .f32) (ix3 b t k)
/-- Argument 1: the conditioning. -/
def rC (b : Fin 2) (k : Fin 2048) : EReal := (m ((c : Thread nD τ).loc main_arg1) : Vec Ideal S2x2048 .f32) (ix2 b k)
/-- Argument 3: the cosines. -/
def rCos (t : Fin 16384) (a : Fin 2) (p : Fin 32) : EReal := (m ((c : Thread nD τ).loc main_arg3) : Vec Ideal S16384x2x32 .f32) (ix3 t a p)
/-- Argument 4: the sines. -/
def rSin (t : Fin 16384) (a : Fin 2) (p : Fin 32) : EReal := (m ((c : Thread nD τ).loc main_arg4) : Vec Ideal S16384x2x32 .f32) (ix3 t a p)
/-- Argument 5: the norm's weights. -/
def rG (k : Fin 2048) : EReal := (m ((c : Thread nD τ).loc main_arg5) : Vec Ideal S2048 .f32) (ix1 k)
/-- Argument 6: the modulation's weights. -/
def rWm (j : Fin 2048) (k : Fin 6144) : EReal := (m ((c : Thread nD τ).loc main_arg6) : Vec Ideal S2048x6144 .f32) (ix2 j k)
/-- Argument 7: the modulation's bias. -/
def rBm (k : Fin 6144) : EReal := (m ((c : Thread nD τ).loc main_arg7) : Vec Ideal S6144 .f32) (ix1 k)
/-- Argument 8: the input projection. -/
def rWin (j : Fin 2048) (k : Fin 5120) : EReal := (m ((c : Thread nD τ).loc main_arg8) : Vec Ideal S2048x5120 .f32) (ix2 j k)

/-- The queries at the memory's arguments, over a gate. -/
def qRes (gate : EReal → EReal) : S2x16384x1536.Idx → EReal := fun y => queryAt gate (rX m c) (rC m c) (rG m c) (rWm m c) (rBm m c) (rWin m c) (rCos m c) (rSin m c) (y 0) (y 1) (y 2)
/-- The keys. -/
def kRes (gate : EReal → EReal) : S2x16384x512.Idx → EReal := fun y => keyAt gate (rX m c) (rC m c) (rG m c) (rWm m c) (rBm m c) (rWin m c) (rCos m c) (rSin m c) (y 0) (y 1) (y 2)
/-- The values. -/
def vRes (gate : EReal → EReal) : S2x16384x512.Idx → EReal := fun y => valueAt gate (rX m c) (rC m c) (rG m c) (rWm m c) (rBm m c) (rWin m c) (y 0) (y 1) (y 2)
/-- The mixer's channels. -/
def fRes (gate : EReal → EReal) : S2x16384x512.Idx → EReal := fun y => mixerAt gate (rX m c) (rC m c) (rG m c) (rWm m c) (rBm m c) (rWin m c) (y 0) (y 1) (y 2)
/-- The gate. -/
def zRes (gate : EReal → EReal) : S2x16384x2048.Idx → EReal := fun y => gatedAt gate (rX m c) (rC m c) (rG m c) (rWm m c) (rBm m c) (rWin m c) (y 0) (y 1) (y 2)
/-- The group mixers as one matrix. -/
def gRes : S2048x512.Idx → EReal := shapeCast _ (m ((c : Thread nD τ).loc main_arg11) : Vec Ideal S4x512x512 .f32) shapeCasts_S4x512x512_S2048x512

variable (ρ : Dev nD → PrngReg)

theorem v3_v4 : V3 m ρ c main_v4 = modArr (V1 m ρ c main_v2) (V1 m ρ c main_arg6) (V1 m ρ c main_v3) :=
  ((W3_of m ρ c main_v4 (by decide)).trans (W2_arr m ρ c 3)).trans (arr0 (V1 m ρ) c)

theorem mod_tok (b : Fin 2) (k : Fin 6144) : V3 m ρ c main_v4 (ix3 ⟨b.val, by omega⟩ 0 k) = modAt tanhGate (rC m c) (rWm m c) (rBm m c) b k := by
  rw [v3_v4]
  have h4 : V1 m ρ c main_arg6 = m ((c : Thread nD τ).loc main_arg6) := W1_args m ρ c main_arg6 (by decide)
  have h2 : ∀ j : Fin 2048, V1 m ρ c main_v2 (ix2 ⟨b.val, by omega⟩ j) = rC m c b j := fun j => (tab_v2 (W0 m ρ c) b j).trans (congrFun (W0_args m ρ c main_arg1 (by decide)) _)
  have h3 : V1 m ρ c main_v3 (ix2 0 k) = rBm m c k := (tab_v3 (W0 m ρ c) k).trans (congrFun (W0_args m ρ c main_arg7 (by decide)) _)
  show Cert.Pool.inner (fun j : Fin 2048 => tanhGate (V1 m ρ c main_v2 (ix2 ⟨b.val, _⟩ j))) (fun j => V1 m ρ c main_arg6 (ix2 j k)) + V1 m ρ c main_v3 (ix2 0 k) = _
  simp only [h2]
  rw [h3, h4]
  rfl

theorem h_tok (b : Fin 2) (t : Fin 16384) : hTok (V3 m ρ c main_arg0) (V3 m ρ c main_v27) (V3 m ρ c main_v4) b t
    = hAt tanhGate (rX m c) (rC m c) (rG m c) (rWm m c) (rBm m c) b t := by
  have h0 : V3 m ρ c main_arg0 = m ((c : Thread nD τ).loc main_arg0) := W3_args m ρ c main_arg0 (by decide)
  have h6 : ∀ k : Fin 2048, V3 m ρ c main_v27 (ix2 0 k) = rG m c k := fun k => (tab_v27 (W2 m ρ c) k).trans (congrFun (W2_args m ρ c main_arg5 (by decide)) _)
  funext k
  unfold hTok hAt
  rw [h0]
  exact congrFun (congr (congr (congrArg (modRow (fun k => (m ((c : Thread nD τ).loc main_arg0) : Vec Ideal S2x16384x2048 .f32) (ix3 b t k))) (funext h6)) (funext fun k => mod_tok m c ρ b _)) (funext fun k => mod_tok m c ρ b _)) k

theorem win_tok (j : Fin 2048) (k : Fin 5120) : V3 m ρ c main_v26 (ix2 j k) = rWin m c j k :=
  (tab_v26 (W2 m ρ c) (ix2 j k)).trans (congrFun (W2_args m ρ c main_arg8 (by decide)) _)

theorem col_tok (b : Fin 2) (t : Fin 16384) (j : Fin 5120) : pTok (V3 m ρ c main_arg0) (V3 m ρ c main_v27) (V3 m ρ c main_v4) (V3 m ρ c main_v26) b t j
    = colAt tanhGate (rX m c) (rC m c) (rG m c) (rWm m c) (rBm m c) (rWin m c) b t j := by
  unfold pTok colAt
  exact congr (congrArg Cert.Pool.inner (h_tok m c ρ b t)) (funext fun k => win_tok m c ρ k _)

theorem cos_tok (t : Fin 16384) (l : Fin 128) : V3 m ρ c main_v13 (ix2 t l) = cosLane (rCos m c t) l :=
  (tab_v13 (W2 m ρ c) t l).trans (congrFun (congrArg cosLane (funext fun a => funext fun p => congrFun (W2_args m ρ c main_arg3 (by decide)) (ix3 t a p))) l)
theorem sin_tok (t : Fin 16384) (l : Fin 128) : V3 m ρ c main_v24 (ix2 t l) = sinLane (rSin m c t) l :=
  (tab_v24 (W2 m ρ c) t l).trans (congrFun (congrArg sinLane (funext fun a => funext fun p => congrFun (W2_args m ρ c main_arg4 (by decide)) (ix3 t a p))) l)

theorem q_res : W5 m ρ c (Proc.devRef .tc main_v29) = qRes m c tanhGate := by
  funext y
  refine (out_v29 (W4 m ρ c) y).trans ((congrFun ((W4_arr m ρ c 11).trans (arr1_11 (V3 m ρ) c)) y).trans ?_)
  unfold qArr qRes queryAt
  refine Eq.trans ?_ (rot_turn_scaled _ _ _ _)
  refine congrFun (congr (congr (congrArg rotAt (funext fun l => ?_)) (funext fun l => ?_)) (funext fun l => ?_)) _
  · refine (col_tok m c ρ (y 0) (y 1) _).trans (congrArg _ (Fin.ext ?_))
    exact (Nat.zero_add _).symm
  · exact congrArg (· * qscale) (cos_tok m c ρ (y 1) l)
  · exact congrArg (· * qscale) (sin_tok m c ρ (y 1) l)

theorem k_res : W5 m ρ c (Proc.devRef .tc main_v30) = kRes m c tanhGate := by
  funext y
  refine (out_v30 (W4 m ρ c) y).trans ((congrFun ((W4_arr m ρ c 12).trans (arr1_12 (V3 m ρ) c)) y).trans ?_)
  unfold kArr kRes keyAt
  refine Eq.trans ?_ (rot_turn _ _ _ _)
  refine congrFun (congr (congr (congrArg rotAt (funext fun l => ?_)) (funext fun l => ?_)) (funext fun l => ?_)) _
  · exact col_tok m c ρ (y 0) (y 1) _
  · exact cos_tok m c ρ (y 1) l
  · exact sin_tok m c ρ (y 1) l

theorem v_res : W5 m ρ c (Proc.devRef .tc main_v31) = vRes m c tanhGate := by
  funext y
  refine (out_v31 (W4 m ρ c) y).trans ((congrFun ((W4_arr m ρ c 13).trans (arr1_13 (V3 m ρ) c)) y).trans ?_)
  exact col_tok m c ρ (y 0) (y 1) _
theorem f_res : W5 m ρ c (Proc.devRef .tc main_v28_3) = fRes m c tanhGate := by
  funext y
  refine (congrFun ((W5_of m ρ c main_v28_3 (by decide)).trans ((W4_arr m ρ c 14).trans (arr1_14 (V3 m ρ) c))) y).trans ?_
  exact col_tok m c ρ (y 0) (y 1) _
theorem z_res : W5 m ρ c (Proc.devRef .tc main_v32) = zRes m c tanhGate := by
  funext y
  refine (out_v32 (W4 m ρ c) y).trans ((congrFun ((W4_arr m ρ c 15).trans (arr1_15 (V3 m ρ) c)) y).trans ?_)
  exact congrArg tanhGate (col_tok m c ρ (y 0) (y 1) _)
theorem w9_res : W5 m ρ c (Proc.devRef .tc main_v33) = (m ((c : Thread nD τ).loc main_arg9) : Vec Ideal S2048x2048 .f32) := by
  funext y
  exact (out_v33 (W4 m ρ c) y).trans ((congrFun ((W4_arr m ρ c 16).trans (arr1_16 (V3 m ρ) c)) y).trans (congrFun (W3_args m ρ c main_arg9 (by decide)) y))
theorem w10_res : W5 m ρ c (Proc.devRef .tc main_v34) = (m ((c : Thread nD τ).loc main_arg10) : Vec Ideal S2048x4096 .f32) := by
  funext y
  exact (out_v34 (W4 m ρ c) y).trans ((congrFun ((W4_arr m ρ c 17).trans (arr1_17 (V3 m ρ) c)) y).trans (congrFun (W3_args m ρ c main_arg10 (by decide)) y))
theorem w11_res : W5 m ρ c (Proc.devRef .tc main_v35) = gRes m c := by
  funext y
  refine (out_v35 (W4 m ρ c) y).trans ((congrFun ((W4_arr m ρ c 18).trans (arr1_18 (V3 m ρ) c)) y).trans ((congrFun (tab_v25 (W2 m ρ c)) y).trans ?_))
  have h : W2 m ρ c (Proc.devRef .tc main_arg11) = m ((c : Thread nD τ).loc main_arg11) := W2_args m ρ c main_arg11 (by decide)
  unfold gRes
  rw [h]
theorem w12_res : W5 m ρ c (Proc.devRef .tc main_v36) = (m ((c : Thread nD τ).loc main_arg12) : Vec Ideal S2048x2048 .f32) := by
  funext y
  exact (out_v36 (W4 m ρ c) y).trans ((congrFun ((W4_arr m ρ c 19).trans (arr1_19 (V3 m ρ) c)) y).trans (congrFun (W3_args m ρ c main_arg12 (by decide)) y))
end

/-! ## The run -/

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run ends with the projection's parts in the result buffers and the arguments unchanged. -/
theorem run : θ_run defs (onTc (τ := τ) (main (F := Ideal))) ⟨m, fun _ => 0, ρ⟩ (fun r => ∀ c : Dev nD,
      r.2.mem ((c.tc : Thread nD τ).loc main_v29) = qRes m c tanhGate
      ∧ r.2.mem ((c.tc : Thread nD τ).loc main_v30) = kRes m c tanhGate
      ∧ r.2.mem ((c.tc : Thread nD τ).loc main_v31) = vRes m c tanhGate
      ∧ r.2.mem ((c.tc : Thread nD τ).loc main_v28_3) = fRes m c tanhGate
      ∧ r.2.mem ((c.tc : Thread nD τ).loc main_v32) = zRes m c tanhGate
      ∧ r.2.mem ((c.tc : Thread nD τ).loc main_v33) = (m ((c : Thread nD τ).loc main_arg9) : Vec Ideal S2048x2048 .f32)
      ∧ r.2.mem ((c.tc : Thread nD τ).loc main_v34) = (m ((c : Thread nD τ).loc main_arg10) : Vec Ideal S2048x4096 .f32)
      ∧ r.2.mem ((c.tc : Thread nD τ).loc main_v35) = gRes m c
      ∧ r.2.mem ((c.tc : Thread nD τ).loc main_v36) = (m ((c : Thread nD τ).loc main_arg12) : Vec Ideal S2048x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hheld, Hreg, Howe⟩
      isplitl [Hheld Hreg]
      · isplitl [Hheld]
        · iexact Hheld
        iexact Hreg
      iexact Howe⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨(h c _ (mem_uc main_v29 (by decide))).trans (q_res m c ρ),
       (h c _ (mem_uc main_v30 (by decide))).trans (k_res m c ρ),
       (h c _ (mem_uc main_v31 (by decide))).trans (v_res m c ρ),
       (h c _ (mem_uc main_v28_3 (by decide))).trans (f_res m c ρ),
       (h c _ (mem_uc main_v32 (by decide))).trans (z_res m c ρ),
       (h c _ (mem_uc main_v33 (by decide))).trans (w9_res m c ρ),
       (h c _ (mem_uc main_v34 (by decide))).trans (w10_res m c ρ),
       (h c _ (mem_uc main_v35 (by decide))).trans (w11_res m c ρ),
       (h c _ (mem_uc main_v36 (by decide))).trans (w12_res m c ρ),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)
end Cert.Kernel2Ideal.Val
end
-- ==== Proof.In0Cols.lean ====
/- The input projection's reference value, token by token. -/
module

public import proofs.«01_k».proof.Proof.In0Rope
public import proofs.«01_k».proof.Proof.Gen.Reference2Ideal.Read
public import Idealize.ShloMosaic.Lib.Pointwise

@[expose] public section
set_option maxRecDepth 16384
noncomputable section
namespace Cert.Reference2Ideal.Val
open Idealize.ShloMosaic Idealize.ShloMosaic.TcCoe Idealize.ShloMosaic.Tactic Idealize.SL Idealize.SL.Sem Cert.Reference2Ideal Cert.Reference2Ideal.Read Cert.Pool

variable (x0 : Vec Ideal S2x16384x2048 .f32) (x1 : Vec Ideal S2x2048 .f32) (x3 x4 : Vec Ideal S16384x2x32 .f32) (x5 : Vec Ideal S2048 .f32) (x6 : Vec Ideal S2048x6144 .f32) (x7 : Vec Ideal S6144 .f32)
  (x8 : Vec Ideal S2048x5120 .f32)

theorem r0 (b : Fin 2) (k : Fin 2048) : val_main_v0 (F := Ideal) x1 (ix2 b k) = siluGate (x1 (ix2 b k)) := by
  unfold val_main_v0 val_main_call0_v5 val_main_call0_v4 val_main_call0_v3 val_main_call0_v2 val_main_call0_v1 val_main_call0_v0 val_main_call0_cst val_main_call0_cst_0
  pointwise
  rfl

theorem r4 (b : Fin 2) (k : Fin 6144) : val_main_v4 (F := Ideal) x1 x6 x7 (ix2 b k)
    = modAt siluGate (fun b k => x1 (ix2 b k)) (fun j k => x6 (ix2 j k)) (fun k => x7 (ix1 k)) b k := by
  have h := r0 x1 b
  unfold val_main_v4 val_main_v3 val_main_v2 val_main_v1
  generalize val_main_v0 (F := Ideal) x1 = M at h ⊢
  pointwise [dot_S2x2048_S2048x6144_S2x6144_1_0_0_1_n_n]
  simp only [h]
  rfl

theorem r20 (b : Fin 2) (t : Fin 16384) (k : Fin 2048) : val_main_v20 (F := Ideal) x0 x5 (ix3 b t k) = unitRow (fun k => x0 (ix3 b t k)) k * x5 (ix1 k) := by
  unfold val_main_v20 val_main_v19 val_main_v18 val_main_v17 val_main_v16 val_main_v15 val_main_v14 val_main_v13 val_main_v12 val_main_v11 val_main_v10 val_main_v9 val_main_v8 val_main_cst val_main_cst_0 val_main_cst_1
  pointwise
  rfl

theorem r28 (b : Fin 2) (t : Fin 16384) (k : Fin 2048) : val_main_v28 (F := Ideal) x0 x1 x5 x6 x7 (ix3 b t k)
    = hAt siluGate (fun b t k => x0 (ix3 b t k)) (fun b k => x1 (ix2 b k)) (fun k => x5 (ix1 k)) (fun j k => x6 (ix2 j k)) (fun k => x7 (ix1 k)) b t k := by
  have h := r4 x1 x6 x7 b
  have h' := r20 x0 x5 b t k
  unfold val_main_v28 val_main_v27 val_main_v26 val_main_v25 val_main_v24 val_main_v23 val_main_v22 val_main_v21 val_main_v6 val_main_v5 val_main_cst_2
  generalize val_main_v4 (F := Ideal) x1 x6 x7 = M at h ⊢
  generalize val_main_v20 (F := Ideal) x0 x5 = N at h' ⊢
  pointwise
  rw [h', h, h]
  rfl

theorem r29 (b : Fin 2) (t : Fin 16384) (j : Fin 5120) : val_main_v29 (F := Ideal) x0 x1 x5 x6 x7 x8 (ix3 b t j)
    = colAt siluGate (fun b t k => x0 (ix3 b t k)) (fun b k => x1 (ix2 b k)) (fun k => x5 (ix1 k)) (fun j k => x6 (ix2 j k)) (fun k => x7 (ix1 k)) (fun j k => x8 (ix2 j k)) b t j := by
  have h := r28 x0 x1 x5 x6 x7 b t
  unfold val_main_v29
  generalize val_main_v28 (F := Ideal) x0 x1 x5 x6 x7 = M at h ⊢
  pointwise [dot_S2x16384x2048_S2048x5120_S2x16384x5120_2_0_01_1_n_n]
  simp only [h]
  rfl

theorem r32 (b : Fin 2) (t : Fin 16384) (j : Fin 512) : val_main_v32 (F := Ideal) x0 x1 x5 x6 x7 x8 (ix3 b t j)
    = valueAt siluGate (fun b t k => x0 (ix3 b t k)) (fun b k => x1 (ix2 b k)) (fun k => x5 (ix1 k)) (fun j k => x6 (ix2 j k)) (fun k => x7 (ix1 k)) (fun j k => x8 (ix2 j k)) b t j := by
  have h := r29 x0 x1 x5 x6 x7 x8 b t
  unfold val_main_v32
  generalize val_main_v29 (F := Ideal) x0 x1 x5 x6 x7 x8 = M at h ⊢
  pointwise
  exact h _
theorem r33 (b : Fin 2) (t : Fin 16384) (j : Fin 512) : val_main_v33 (F := Ideal) x0 x1 x5 x6 x7 x8 (ix3 b t j)
    = mixerAt siluGate (fun b t k => x0 (ix3 b t k)) (fun b k => x1 (ix2 b k)) (fun k => x5 (ix1 k)) (fun j k => x6 (ix2 j k)) (fun k => x7 (ix1 k)) (fun j k => x8 (ix2 j k)) b t j := by
  have h := r29 x0 x1 x5 x6 x7 x8 b t
  unfold val_main_v33
  generalize val_main_v29 (F := Ideal) x0 x1 x5 x6 x7 x8 = M at h ⊢
  pointwise
  exact h _
theorem r83 (b : Fin 2) (t : Fin 16384) (j : Fin 2048) : val_main_v83 (F := Ideal) x0 x1 x5 x6 x7 x8 (ix3 b t j)
    = gatedAt siluGate (fun b t k => x0 (ix3 b t k)) (fun b k => x1 (ix2 b k)) (fun k => x5 (ix1 k)) (fun j k => x6 (ix2 j k)) (fun k => x7 (ix1 k)) (fun j k => x8 (ix2 j k)) b t j := by
  have h := r29 x0 x1 x5 x6 x7 x8 b t
  unfold val_main_v83 val_main_call1_v5 val_main_call1_v4 val_main_call1_v3 val_main_call1_v2 val_main_call1_v1 val_main_call1_v0 val_main_call1_cst val_main_call1_cst_0 val_main_v34
  generalize val_main_v29 (F := Ideal) x0 x1 x5 x6 x7 x8 = M at h ⊢
  pointwise
  rw [h]
  rfl

end Cert.Reference2Ideal.Val
end
-- ==== Proof.In0RefQ.lean ====
/- The reference's queries, head by head. -/
module

public import proofs.«01_k».proof.Proof.In0Cols

@[expose] public section
set_option maxRecDepth 16384
noncomputable section
namespace Cert.Reference2Ideal.Val
open Idealize.ShloMosaic Idealize.ShloMosaic.TcCoe Idealize.ShloMosaic.Tactic Idealize.SL Idealize.SL.Sem Cert.Reference2Ideal Cert.Reference2Ideal.Read Cert.Pool

variable (x0 : Vec Ideal S2x16384x2048 .f32) (x1 : Vec Ideal S2x2048 .f32) (x3 x4 : Vec Ideal S16384x2x32 .f32) (x5 : Vec Ideal S2048 .f32) (x6 : Vec Ideal S2048x6144 .f32) (x7 : Vec Ideal S6144 .f32)
  (x8 : Vec Ideal S2048x5120 .f32)

/-- A head's lanes, as the reference splits them. -/
theorem sq (b : Fin 2) (t : Fin 16384) (h : Fin 12) (a e : Fin 2) (p : Fin 32) : val_main_v36 (F := Ideal) x0 x1 x5 x6 x7 x8 (ix6 b t h a e p)
    = headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨h.val, by omega⟩ ⟨64 * a.val + 32 * e.val + p.val, by omega⟩ := by
  have h' := r29 x0 x1 x5 x6 x7 x8 b t
  unfold val_main_v36 val_main_v35 val_main_v30 headAt
  generalize val_main_v29 (F := Ideal) x0 x1 x5 x6 x7 x8 = M at h' ⊢
  pointwise
  rw [← h']
  refine congrArg M (congrArg (ix3 b t) (Fin.ext ?_))
  simp only
  omega

theorem fq (b : Fin 2) (t : Fin 16384) (h : Fin 12) (a : Fin 2) (p : Fin 32) : val_main_v55 (F := Ideal) x0 x1 x3 x4 x5 x6 x7 x8 (ix6 b t h a 0 p)
    = headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨h.val, by omega⟩ ⟨64 * a.val + 32 * 0 + p.val, by omega⟩ * x3 (ix3 t a p)
      - headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨h.val, by omega⟩ ⟨64 * a.val + 32 * 1 + p.val, by omega⟩ * x4 (ix3 t a p) := by
  have h0 := sq x0 x1 x5 x6 x7 x8 b t h a 0 p
  have h1 := sq x0 x1 x5 x6 x7 x8 b t h a 1 p
  unfold val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37
  generalize val_main_v36 (F := Ideal) x0 x1 x5 x6 x7 x8 = M at h0 h1 ⊢
  pointwise
  exact congr (congrArg _ (congrArg (· * _) h0)) (congrArg (· * _) h1)

theorem gq (b : Fin 2) (t : Fin 16384) (h : Fin 12) (a : Fin 2) (p : Fin 32) : val_main_v55 (F := Ideal) x0 x1 x3 x4 x5 x6 x7 x8 (ix6 b t h a 1 p)
    = headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨h.val, by omega⟩ ⟨64 * a.val + 32 * 1 + p.val, by omega⟩ * x3 (ix3 t a p)
      + headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨h.val, by omega⟩ ⟨64 * a.val + 32 * 0 + p.val, by omega⟩ * x4 (ix3 t a p) := by
  have h0 := sq x0 x1 x5 x6 x7 x8 b t h a 0 p
  have h1 := sq x0 x1 x5 x6 x7 x8 b t h a 1 p
  unfold val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37
  generalize val_main_v36 (F := Ideal) x0 x1 x5 x6 x7 x8 = M at h0 h1 ⊢
  pointwise
  exact congr (congrArg _ (congrArg (· * _) h1)) (congrArg (· * _) h0)

theorem jq (b : Fin 2) (t : Fin 16384) (j : Fin 1536) (e : Fin 2) (he : e.val = j.val % 64 / 32) : val_main_v57 (F := Ideal) x0 x1 x3 x4 x5 x6 x7 x8 (ix3 b t j)
    = val_main_v55 (F := Ideal) x0 x1 x3 x4 x5 x6 x7 x8 (ix6 b t ⟨j.val / 128, by omega⟩ (laneGrp ⟨j.val % 128, by omega⟩) e (lanePos ⟨j.val % 128, by omega⟩)) := by
  unfold val_main_v57 val_main_v56
  generalize val_main_v55 (F := Ideal) x0 x1 x3 x4 x5 x6 x7 x8 = M
  pointwise
  refine congrArg M (funext fun q => Fin.ext ?_)
  match q with
  | ⟨0, _⟩ => rfl
  | ⟨1, _⟩ => rfl
  | ⟨2, _⟩ => show j.val / 128 = j.val / 128; rfl
  | ⟨3, _⟩ => show j.val / 64 % 2 = j.val % 128 / 64; omega
  | ⟨4, _⟩ => show j.val / 32 % 2 = e.val; omega
  | ⟨5, _⟩ => show j.val % 32 = j.val % 128 % 32; omega

end Cert.Reference2Ideal.Val
end
-- ==== Proof.In0RefK.lean ====
/- The reference's keys, head by head. -/
module

public import proofs.«01_k».proof.Proof.In0Cols

@[expose] public section
set_option maxRecDepth 16384
noncomputable section
namespace Cert.Reference2Ideal.Val
open Idealize.ShloMosaic Idealize.ShloMosaic.TcCoe Idealize.ShloMosaic.Tactic Idealize.SL Idealize.SL.Sem Cert.Reference2Ideal Cert.Reference2Ideal.Read Cert.Pool

variable (x0 : Vec Ideal S2x16384x2048 .f32) (x1 : Vec Ideal S2x2048 .f32) (x3 x4 : Vec Ideal S16384x2x32 .f32) (x5 : Vec Ideal S2048 .f32) (x6 : Vec Ideal S2048x6144 .f32) (x7 : Vec Ideal S6144 .f32)
  (x8 : Vec Ideal S2048x5120 .f32)

/-- A head's lanes, as the reference splits them. -/
theorem sk (b : Fin 2) (t : Fin 16384) (h : Fin 4) (a e : Fin 2) (p : Fin 32) : val_main_v59 (F := Ideal) x0 x1 x5 x6 x7 x8 (ix6 b t h a e p)
    = headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨h.val, by omega⟩ ⟨64 * a.val + 32 * e.val + p.val, by omega⟩ := by
  have h' := r29 x0 x1 x5 x6 x7 x8 b t
  unfold val_main_v59 val_main_v58 val_main_v31 headAt
  generalize val_main_v29 (F := Ideal) x0 x1 x5 x6 x7 x8 = M at h' ⊢
  pointwise
  rw [← h']
  refine congrArg M (congrArg (ix3 b t) (Fin.ext ?_))
  simp only
  omega

theorem fk (b : Fin 2) (t : Fin 16384) (h : Fin 4) (a : Fin 2) (p : Fin 32) : val_main_v78 (F := Ideal) x0 x1 x3 x4 x5 x6 x7 x8 (ix6 b t h a 0 p)
    = headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨h.val, by omega⟩ ⟨64 * a.val + 32 * 0 + p.val, by omega⟩ * x3 (ix3 t a p)
      - headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨h.val, by omega⟩ ⟨64 * a.val + 32 * 1 + p.val, by omega⟩ * x4 (ix3 t a p) := by
  have h0 := sk x0 x1 x5 x6 x7 x8 b t h a 0 p
  have h1 := sk x0 x1 x5 x6 x7 x8 b t h a 1 p
  unfold val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60
  generalize val_main_v59 (F := Ideal) x0 x1 x5 x6 x7 x8 = M at h0 h1 ⊢
  pointwise
  exact congr (congrArg _ (congrArg (· * _) h0)) (congrArg (· * _) h1)

theorem gk (b : Fin 2) (t : Fin 16384) (h : Fin 4) (a : Fin 2) (p : Fin 32) : val_main_v78 (F := Ideal) x0 x1 x3 x4 x5 x6 x7 x8 (ix6 b t h a 1 p)
    = headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨h.val, by omega⟩ ⟨64 * a.val + 32 * 1 + p.val, by omega⟩ * x3 (ix3 t a p)
      + headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨h.val, by omega⟩ ⟨64 * a.val + 32 * 0 + p.val, by omega⟩ * x4 (ix3 t a p) := by
  have h0 := sk x0 x1 x5 x6 x7 x8 b t h a 0 p
  have h1 := sk x0 x1 x5 x6 x7 x8 b t h a 1 p
  unfold val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60
  generalize val_main_v59 (F := Ideal) x0 x1 x5 x6 x7 x8 = M at h0 h1 ⊢
  pointwise
  exact congr (congrArg _ (congrArg (· * _) h1)) (congrArg (· * _) h0)

theorem jk (b : Fin 2) (t : Fin 16384) (j : Fin 512) (e : Fin 2) (he : e.val = j.val % 64 / 32) : val_main_v80 (F := Ideal) x0 x1 x3 x4 x5 x6 x7 x8 (ix3 b t j)
    = val_main_v78 (F := Ideal) x0 x1 x3 x4 x5 x6 x7 x8 (ix6 b t ⟨j.val / 128, by omega⟩ (laneGrp ⟨j.val % 128, by omega⟩) e (lanePos ⟨j.val % 128, by omega⟩)) := by
  unfold val_main_v80 val_main_v79
  generalize val_main_v78 (F := Ideal) x0 x1 x3 x4 x5 x6 x7 x8 = M
  pointwise
  refine congrArg M (funext fun q => Fin.ext ?_)
  match q with
  | ⟨0, _⟩ => rfl
  | ⟨1, _⟩ => rfl
  | ⟨2, _⟩ => show j.val / 128 = j.val / 128; rfl
  | ⟨3, _⟩ => show j.val / 64 % 2 = j.val % 128 / 64; omega
  | ⟨4, _⟩ => show j.val / 32 % 2 = e.val; omega
  | ⟨5, _⟩ => show j.val % 32 = j.val % 128 % 32; omega

end Cert.Reference2Ideal.Val
end
-- ==== Proof.In0Ref.lean ====
/- The reference's rotated queries and keys. -/
module

public import proofs.«01_k».proof.Proof.In0RefQ
public import proofs.«01_k».proof.Proof.In0RefK

@[expose] public section
set_option maxRecDepth 16384
noncomputable section
namespace Cert.Reference2Ideal.Val
open Idealize.ShloMosaic Idealize.ShloMosaic.TcCoe Idealize.ShloMosaic.Tactic Idealize.SL Idealize.SL.Sem Cert.Reference2Ideal Cert.Reference2Ideal.Read Cert.Pool

variable (x0 : Vec Ideal S2x16384x2048 .f32) (x1 : Vec Ideal S2x2048 .f32) (x3 x4 : Vec Ideal S16384x2x32 .f32) (x5 : Vec Ideal S2048 .f32) (x6 : Vec Ideal S2048x6144 .f32) (x7 : Vec Ideal S6144 .f32)
  (x8 : Vec Ideal S2048x5120 .f32)

/-- A lane of the first of a pair. -/
theorem turn_low (Z : Fin 128 → EReal) (C S : Fin 2 → Fin 32 → EReal) (l : Fin 128) (h : l.val % 64 < 32) :
    Z ⟨64 * (laneGrp l).val + 32 * 0 + (lanePos l).val, by omega⟩ * C (laneGrp l) (lanePos l) - Z ⟨64 * (laneGrp l).val + 32 * 1 + (lanePos l).val, by omega⟩ * S (laneGrp l) (lanePos l) = turnAt Z C S l := by
  unfold turnAt partner
  rw [if_pos h, if_pos h]
  refine congr (congrArg _ (congrArg (· * _) (congrArg Z (Fin.ext ?_)))) (congrArg (· * _) (congrArg Z (Fin.ext ?_)))
  · show 64 * (l.val / 64) + 32 * 0 + l.val % 32 = l.val; omega
  · show 64 * (l.val / 64) + 32 * 1 + l.val % 32 = (l.val + 32) % 128; omega
/-- A lane of the second. -/
theorem turn_high (Z : Fin 128 → EReal) (C S : Fin 2 → Fin 32 → EReal) (l : Fin 128) (h : ¬ l.val % 64 < 32) :
    Z ⟨64 * (laneGrp l).val + 32 * 1 + (lanePos l).val, by omega⟩ * C (laneGrp l) (lanePos l) + Z ⟨64 * (laneGrp l).val + 32 * 0 + (lanePos l).val, by omega⟩ * S (laneGrp l) (lanePos l) = turnAt Z C S l := by
  unfold turnAt partner
  rw [if_neg h, if_neg h]
  refine congr (congrArg _ (congrArg (· * _) (congrArg Z (Fin.ext ?_)))) (congrArg (· * _) (congrArg Z (Fin.ext ?_)))
  · show 64 * (l.val / 64) + 32 * 1 + l.val % 32 = l.val; omega
  · show 64 * (l.val / 64) + 32 * 0 + l.val % 32 = (l.val + 96) % 128; omega

theorem q_low (b : Fin 2) (t : Fin 16384) (j : Fin 1536) (h : j.val % 128 % 64 < 32) : val_main_v57 (F := Ideal) x0 x1 x3 x4 x5 x6 x7 x8 (ix3 b t j)
    = turnAt (headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨j.val / 128, by omega⟩) (fun a p => x3 (ix3 t a p)) (fun a p => x4 (ix3 t a p)) ⟨j.val % 128, by omega⟩ :=
  ((jq x0 x1 x3 x4 x5 x6 x7 x8 b t j 0 (by show 0 = j.val % 64 / 32; omega)).trans (fq x0 x1 x3 x4 x5 x6 x7 x8 b t ⟨j.val / 128, by omega⟩ (laneGrp ⟨j.val % 128, by omega⟩) (lanePos ⟨j.val % 128, by omega⟩))).trans
    (turn_low (headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨j.val / 128, by omega⟩) (fun a p => x3 (ix3 t a p)) (fun a p => x4 (ix3 t a p)) ⟨j.val % 128, by omega⟩ h)
theorem q_high (b : Fin 2) (t : Fin 16384) (j : Fin 1536) (h : ¬ j.val % 128 % 64 < 32) : val_main_v57 (F := Ideal) x0 x1 x3 x4 x5 x6 x7 x8 (ix3 b t j)
    = turnAt (headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨j.val / 128, by omega⟩) (fun a p => x3 (ix3 t a p)) (fun a p => x4 (ix3 t a p)) ⟨j.val % 128, by omega⟩ :=
  ((jq x0 x1 x3 x4 x5 x6 x7 x8 b t j 1 (by show 1 = j.val % 64 / 32; omega)).trans (gq x0 x1 x3 x4 x5 x6 x7 x8 b t ⟨j.val / 128, by omega⟩ (laneGrp ⟨j.val % 128, by omega⟩) (lanePos ⟨j.val % 128, by omega⟩))).trans
    (turn_high (headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨j.val / 128, by omega⟩) (fun a p => x3 (ix3 t a p)) (fun a p => x4 (ix3 t a p)) ⟨j.val % 128, by omega⟩ h)
theorem r57 (b : Fin 2) (t : Fin 16384) (j : Fin 1536) : val_main_v57 (F := Ideal) x0 x1 x3 x4 x5 x6 x7 x8 (ix3 b t j)
    = turnAt (headAt siluGate (fun b t k => x0 (ix3 b t k)) (fun b k => x1 (ix2 b k)) (fun k => x5 (ix1 k)) (fun j k => x6 (ix2 j k)) (fun k => x7 (ix1 k)) (fun j k => x8 (ix2 j k)) 0 (by decide) b t ⟨j.val / 128, by omega⟩) (fun a p => x3 (ix3 t a p)) (fun a p => x4 (ix3 t a p)) ⟨j.val % 128, by omega⟩ := by
  by_cases h : j.val % 128 % 64 < 32
  · exact q_low x0 x1 x3 x4 x5 x6 x7 x8 b t j h
  · exact q_high x0 x1 x3 x4 x5 x6 x7 x8 b t j h

theorem k_low (b : Fin 2) (t : Fin 16384) (j : Fin 512) (h : j.val % 128 % 64 < 32) : val_main_v80 (F := Ideal) x0 x1 x3 x4 x5 x6 x7 x8 (ix3 b t j)
    = turnAt (headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨j.val / 128, by omega⟩) (fun a p => x3 (ix3 t a p)) (fun a p => x4 (ix3 t a p)) ⟨j.val % 128, by omega⟩ :=
  ((jk x0 x1 x3 x4 x5 x6 x7 x8 b t j 0 (by show 0 = j.val % 64 / 32; omega)).trans (fk x0 x1 x3 x4 x5 x6 x7 x8 b t ⟨j.val / 128, by omega⟩ (laneGrp ⟨j.val % 128, by omega⟩) (lanePos ⟨j.val % 128, by omega⟩))).trans
    (turn_low (headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨j.val / 128, by omega⟩) (fun a p => x3 (ix3 t a p)) (fun a p => x4 (ix3 t a p)) ⟨j.val % 128, by omega⟩ h)
theorem k_high (b : Fin 2) (t : Fin 16384) (j : Fin 512) (h : ¬ j.val % 128 % 64 < 32) : val_main_v80 (F := Ideal) x0 x1 x3 x4 x5 x6 x7 x8 (ix3 b t j)
    = turnAt (headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨j.val / 128, by omega⟩) (fun a p => x3 (ix3 t a p)) (fun a p => x4 (ix3 t a p)) ⟨j.val % 128, by omega⟩ :=
  ((jk x0 x1 x3 x4 x5 x6 x7 x8 b t j 1 (by show 1 = j.val % 64 / 32; omega)).trans (gk x0 x1 x3 x4 x5 x6 x7 x8 b t ⟨j.val / 128, by omega⟩ (laneGrp ⟨j.val % 128, by omega⟩) (lanePos ⟨j.val % 128, by omega⟩))).trans
    (turn_high (headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨j.val / 128, by omega⟩) (fun a p => x3 (ix3 t a p)) (fun a p => x4 (ix3 t a p)) ⟨j.val % 128, by omega⟩ h)
theorem r80 (b : Fin 2) (t : Fin 16384) (j : Fin 512) : val_main_v80 (F := Ideal) x0 x1 x3 x4 x5 x6 x7 x8 (ix3 b t j)
    = turnAt (headAt siluGate (fun b t k => x0 (ix3 b t k)) (fun b k => x1 (ix2 b k)) (fun k => x5 (ix1 k)) (fun j k => x6 (ix2 j k)) (fun k => x7 (ix1 k)) (fun j k => x8 (ix2 j k)) 1536 (by decide) b t ⟨j.val / 128, by omega⟩) (fun a p => x3 (ix3 t a p)) (fun a p => x4 (ix3 t a p)) ⟨j.val % 128, by omega⟩ := by
  by_cases h : j.val % 128 % 64 < 32
  · exact k_low x0 x1 x3 x4 x5 x6 x7 x8 b t j h
  · exact k_high x0 x1 x3 x4 x5 x6 x7 x8 b t j h

theorem scale_const (i : S2x16384x1536.Idx) : val_main_v81 (F := Ideal) i = qscale := by
  rw [val_main_v81_apply, val_main_cst_3_apply]
  unfold qscale
  rfl

theorem r82 (b : Fin 2) (t : Fin 16384) (j : Fin 1536) : val_main_v82 (F := Ideal) x0 x1 x3 x4 x5 x6 x7 x8 (ix3 b t j)
    = queryAt siluGate (fun b t k => x0 (ix3 b t k)) (fun b k => x1 (ix2 b k)) (fun k => x5 (ix1 k)) (fun j k => x6 (ix2 j k)) (fun k => x7 (ix1 k)) (fun j k => x8 (ix2 j k)) (fun t a p => x3 (ix3 t a p)) (fun t a p => x4 (ix3 t a p)) b t j := by
  have h := r57 x0 x1 x3 x4 x5 x6 x7 x8 b t j
  rw [val_main_v82_apply, h, scale_const]
  unfold queryAt
  generalize qscale = s
  rfl
end Cert.Reference2Ideal.Val
end
-- ==== Proof.In0Claims.lean ====
/- The value claim of layer 0's input projection and its reference's frame. -/
module

public import proofs.«01_k».proof.Proof.In0Result
public import proofs.«01_k».proof.Proof.In0Ref
public import proofs.«01_k».proof.Proof.Finite
public import proofs.«01_k».proof.Proof.Gen.Pre_finite2
public import proofs.«01_k».proof.Proof.Gen.Reference2Ideal.Run
public import Idealize.ShloMosaic.Adequacy
public import Idealize.ShloMosaic.Init

@[expose] public section
set_option maxRecDepth 16384
noncomputable section
namespace Cert.In0
open Idealize.ShloMosaic Idealize.ShloMosaic.TcCoe Idealize.SL.Sem Cert.Kernel2Ideal.Val Cert.Pool

section
open Cert.Pre_finite2
variable (a0 : Vec Ideal S2x16384x2048 .f32) (a1 : Vec Ideal S2x2048 .f32) (a2 : Vec Ideal S2048 .f32) (a3 a4 : Vec Ideal S16384x2x32 .f32) (a5 : Vec Ideal S2048 .f32) (a6 : Vec Ideal S2048x6144 .f32)
  (a7 : Vec Ideal S6144 .f32) (a8 : Vec Ideal S2048x5120 .f32) (a9 : Vec Ideal S2048x2048 .f32) (a10 : Vec Ideal S2048x4096 .f32) (a11 : Vec Ideal S4x512x512 .f32) (a12 : Vec Ideal S2048x2048 .f32)

/-- The precondition at its one index, taken apart. -/
theorem finite_parts (h : Cert.Pre_finite2.fn (F := Ideal) a0 a1 a2 a3 a4 a5 a6 a7 a8 a9 a10 a11 a12 = fun _ => 1#1) :
    (∀ i, IsReal (a1 i)) ∧ (∀ i, IsReal (a5 i)) ∧ (∀ i, IsReal (a6 i)) ∧ (∀ i, IsReal (a7 i)) ∧ (∀ i, IsReal (a8 i)) := by
  have h0 := congrFun h (fun i => i.elim0)
  unfold Cert.Pre_finite2.fn Cert.Pre_finite2.fn_part1 at h0
  obtain ⟨h1, e8⟩ := IntOp.andi_eq_one.mp h0
  obtain ⟨h2, e7⟩ := IntOp.andi_eq_one.mp h1
  obtain ⟨h3, e6⟩ := IntOp.andi_eq_one.mp h2
  obtain ⟨e1, e5⟩ := IntOp.andi_eq_one.mp h3
  haveI : Subsingleton S_.Idx := ⟨fun a b => funext fun i => i.elim0⟩
  exact ⟨fun i => real_of_lt _ (Host.reduce_andi_all _ _ _ _ _ e1 i), fun i => real_of_lt _ (Host.reduce_andi_all _ _ _ _ _ e5 i), fun i => real_of_lt _ (Host.reduce_andi_all _ _ _ _ _ e6 i),
    fun i => real_of_lt _ (Host.reduce_andi_all _ _ _ _ _ e7 i), fun i => real_of_lt _ (Host.reduce_andi_all _ _ _ _ _ e8 i)⟩
end

/-- The reference ends with its arguments unchanged; it has no semaphore. -/
theorem frame_ref : Cert.quiescent_Reference2Ideal := fun m ρ _ =>
  (θ_run Cert.Reference2Ideal.defs _ _).mono (fun r h => ⟨fun c => (h c).2.2.2.2.2.2.2.2.2, Idealize.ShloMosaic.sem_eq_zero_of_no_sems (by decide) r.2⟩)
    (Cert.Reference2Ideal.Value.run (F := Ideal) m ρ)

/-- The kernel's program and the reference, from equal arguments, end with equal results. -/
theorem algebraic : Cert.algebraic_Kernel2Ideal_Reference2Ideal_pre_finite2 := by
  intro m ρ m' ρ' hpre hagree
  refine ⟨fun c => qRes m c tanhGate, fun c => kRes m c tanhGate, fun c => vRes m c tanhGate, fun c => fRes m c tanhGate, fun c => zRes m c tanhGate,
    fun c => m ((c.tc : Thread Cert.Kernel2Ideal.nD Cert.Kernel2Ideal.τ).loc Cert.Kernel2Ideal.main_arg9), fun c => m ((c.tc : Thread Cert.Kernel2Ideal.nD Cert.Kernel2Ideal.τ).loc Cert.Kernel2Ideal.main_arg10), fun c => gRes m c,
    fun c => m ((c.tc : Thread Cert.Kernel2Ideal.nD Cert.Kernel2Ideal.τ).loc Cert.Kernel2Ideal.main_arg12), run m ρ, ?_⟩
  refine (θ_run Cert.Reference2Ideal.defs _ _).mono (fun _ h c => ?_) (Cert.Reference2Ideal.Value.run (F := Ideal) m' ρ')
  obtain ⟨e0, e1, -, e3, e4, e5, e6, e7, e8, e9, e10, e11, e12⟩ := hagree c
  obtain ⟨f1, f5, f6, f7, f8⟩ := finite_parts _ _ _ _ _ _ _ _ _ _ _ _ _ (hpre c)
  have hc : ∀ b k, IsReal (rC m c b k) := fun _ _ => f1 _
  have hg : ∀ k, IsReal (rG m c k) := fun _ => f5 _
  have hwm : ∀ j k, IsReal (rWm m c j k) := fun _ _ => f6 _
  have hbm : ∀ k, IsReal (rBm m c k) := fun _ => f7 _
  have hwin : ∀ j k, IsReal (rWin m c j k) := fun _ _ => f8 _
  obtain ⟨h82, h80, h32, h33, h83, h9, h10, h84, h12, hargs⟩ := h c
  refine ⟨h82.trans ?_, h80.trans ?_, h32.trans ?_, h33.trans ?_, h83.trans ?_, h9.trans e9, h10.trans e10, h84.trans ?_, h12.trans e12, hargs⟩
  · refine (Cert.Reference2Ideal.Read.val_main_v82_eq m' c).trans ?_
    rw [e0, e1, e3, e4, e5, e6, e7, e8]
    funext y
    refine (congrArg _ (eq_ix3 y)).trans ((Cert.Reference2Ideal.Val.r82 _ _ _ _ _ _ _ _ (y 0) (y 1) (y 2)).trans ?_)
    exact congrFun (congrFun (congrFun (query_eq (rX m c) (rC m c) (rG m c) (rWm m c) (rBm m c) (rWin m c) hc (rCos m c) (rSin m c)).symm (y 0)) (y 1)) (y 2)
  · refine (Cert.Reference2Ideal.Read.val_main_v80_eq m' c).trans ?_
    rw [e0, e1, e3, e4, e5, e6, e7, e8]
    funext y
    refine (congrArg _ (eq_ix3 y)).trans ((Cert.Reference2Ideal.Val.r80 _ _ _ _ _ _ _ _ (y 0) (y 1) (y 2)).trans ?_)
    exact congrFun (congrFun (congrFun (key_eq (rX m c) (rC m c) (rG m c) (rWm m c) (rBm m c) (rWin m c) hc (rCos m c) (rSin m c)).symm (y 0)) (y 1)) (y 2)
  · refine (Cert.Reference2Ideal.Read.val_main_v32_eq _ _ _ _ _ _).trans ?_
    rw [e0, e1, e5, e6, e7, e8]
    funext y
    refine (congrArg _ (eq_ix3 y)).trans ((Cert.Reference2Ideal.Val.r32 _ _ _ _ _ _ (y 0) (y 1) (y 2)).trans ?_)
    exact congrFun (congrFun (congrFun (value_eq (rX m c) (rC m c) (rG m c) (rWm m c) (rBm m c) (rWin m c) hc).symm (y 0)) (y 1)) (y 2)
  · refine (Cert.Reference2Ideal.Read.val_main_v33_eq _ _ _ _ _ _).trans ?_
    rw [e0, e1, e5, e6, e7, e8]
    funext y
    refine (congrArg _ (eq_ix3 y)).trans ((Cert.Reference2Ideal.Val.r33 _ _ _ _ _ _ (y 0) (y 1) (y 2)).trans ?_)
    exact congrFun (congrFun (congrFun (mixer_eq (rX m c) (rC m c) (rG m c) (rWm m c) (rBm m c) (rWin m c) hc).symm (y 0)) (y 1)) (y 2)
  · refine (Cert.Reference2Ideal.Read.val_main_v83_eq m' c).trans ?_
    rw [e0, e1, e5, e6, e7, e8]
    funext y
    refine (congrArg _ (eq_ix3 y)).trans ((Cert.Reference2Ideal.Val.r83 _ _ _ _ _ _ (y 0) (y 1) (y 2)).trans ?_)
    exact congrFun (congrFun (congrFun (gated_eq (rX m c) (rC m c) (rG m c) (rWm m c) (rBm m c) (rWin m c) hc hg hwm hbm hwin).symm (y 0)) (y 1)) (y 2)
  · rw [e11]
    rfl
end Cert.In0
end
-- ==== Proof.Out.lean ====
/- Layer 0's gated output projection: what one block holds, what the array holds, and the reference's value. -/
module

public import proofs.«01_k».proof.Defs
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pointwise
public import Idealize.ShloMosaic.Adequacy
public import Idealize.ShloMosaic.Init
public import Idealize.ShloMosaic.Lib.StableHlo.ReadAt

@[expose] public section
set_option maxRecDepth 16384
noncomputable section

namespace Cert.Out
open Idealize.ShloMosaic

section
variable (a : Fin 2 → Fin 16384 → Fin 1536 → EReal) (zf : Fin 2 → Fin 16384 → Fin 512 → EReal) (sz x : Fin 2 → Fin 16384 → Fin 2048 → EReal)
  (gate : Fin 2 → Fin 2048 → EReal) (w : Fin 2048 → Fin 2048 → EReal)

/-- The two mixers' outputs side by side. -/
def both (b : Fin 2) (t : Fin 16384) (k : Fin 2048) : EReal := if h : k.val < 1536 then a b t ⟨k.val, h⟩ else zf b t ⟨k.val - 1536, by omega⟩
/-- The gated rows through the output projection, added to the token. -/
def outOf (b : Fin 2) (t : Fin 16384) (j : Fin 2048) : EReal := x b t j + gate b j * ∑ k : Fin 2048, both a zf b t k * sz b t k * w k j
/-- The same with the projection in two products, as the kernel forms it. -/
def outCut (b : Fin 2) (t : Fin 16384) (j : Fin 2048) : EReal :=
  x b t j + gate b j * ((∑ k : Fin 1536, a b t k * sz b t ⟨k.val, by omega⟩ * w ⟨k.val, by omega⟩ j)
    + ∑ k : Fin 512, zf b t k * sz b t ⟨1536 + k.val, by omega⟩ * w ⟨1536 + k.val, by omega⟩ j)

theorem outCut_eq : outCut a zf sz x gate w = outOf a zf sz x gate w := by
  funext b t j
  unfold outCut outOf
  refine congrArg (fun s => x b t j + gate b j * s) ?_
  refine Eq.trans ?_ (Fin.sum_univ_add (a := 1536) (b := 512) fun k => both a zf b t k * sz b t k * w k j).symm
  refine congr (congrArg HAdd.hAdd (Finset.sum_congr rfl fun k _ => ?_)) (Finset.sum_congr rfl fun k _ => ?_)
  · have e : both a zf b t (Fin.castAdd 512 k) = a b t k := dif_pos k.isLt
    rw [e]; rfl
  · have e : both a zf b t (Fin.natAdd 1536 k) = zf b t k := by
      refine (dif_neg (by show ¬1536 + k.val < 1536; omega)).trans (congrArg (zf b t) (Fin.ext ?_))
      show 1536 + k.val - 1536 = k.val; omega
    rw [e]; rfl
end
end Cert.Out

namespace Cert.Kernel3Ideal.Val
open Idealize.ShloMosaic Idealize.ShloMosaic.TcCoe Idealize.ShloMosaic.Tactic
open Idealize.SL Idealize.SL.Sem
open Cert.Kernel3Ideal Cert.Kernel3Ideal.Gen Cert.Out
open Idealize.ShloMosaic.Pipeline (Dat Cfg Window)

theorem pay1_apply (v0 : Vec Ideal S1x512x1536 .bf16) (v2 : Vec Ideal S1x512x1536 .bf16) (v5 : Vec Ideal S1x512x512 .f32) (v8 : Vec Ideal S1x512x512 .bf16) (v11 : Vec Ideal S1536x2048 .bf16)
    (v14 : Vec Ideal S512x2048 .bf16) (v18 : Vec Ideal S1x512x2048 .f32) (v20 : Vec Ideal S1x1x2048 .f32) (y : S1x512x2048.Idx) :
    k0_pay1 (F := Ideal) v0 v2 v5 v8 v11 v14 v18 v20 y
      = v18 (ix3 0 (y 1) (y 2)) + v20 (ix3 0 0 (y 2)) * ((∑ k : Fin 1536, v0 (ix3 0 (y 1) k) * v2 (ix3 0 (y 1) k) * v11 (ix2 k (y 2)))
        + ∑ k : Fin 512, v5 (ix3 0 (y 1) k) * v8 (ix3 0 (y 1) k) * v14 (ix2 k (y 2))) := by
  have ey : y = ix3 0 (y 1) (y 2) := by
    funext a; apply Fin.ext
    match a with
    | ⟨0, _⟩ => show (y 0).val = 0; have h2 : (y 0).val < 1 := (y 0).isLt; omega
    | ⟨1, _⟩ => rfl
    | ⟨2, _⟩ => rfl
  unfold_payloads
  pointwise [dot_S512x1536_S1536x2048_S512x2048_1_0_0_1_n_n, dot_S512x512_S512x2048_S512x2048_1_0_0_1_n_n]
  exact congrArg (· + _) (congrArg v18 ey)

section
variable (m : (ℓ : Loc nD τ sig) → Buf (Elt Ideal) ℓ) (c : Dev nD)

/-- The kernel's value at the memory's arguments, over one of the two forms of the projection. -/
def outArr (f : (Fin 2 → Fin 16384 → Fin 1536 → EReal) → (Fin 2 → Fin 16384 → Fin 512 → EReal) → (Fin 2 → Fin 16384 → Fin 2048 → EReal) → (Fin 2 → Fin 16384 → Fin 2048 → EReal)
    → (Fin 2 → Fin 2048 → EReal) → (Fin 2048 → Fin 2048 → EReal) → Fin 2 → Fin 16384 → Fin 2048 → EReal) : S2x16384x2048.Idx → EReal :=
  fun y => f (fun b t k => (m ((c : Thread nD τ).loc main_arg0) : Vec Ideal S2x16384x1536 .f32) (ix3 b t k)) (fun b t k => (m ((c : Thread nD τ).loc main_arg1) : Vec Ideal S2x16384x512 .f32) (ix3 b t k))
    (fun b t k => (m ((c : Thread nD τ).loc main_arg2) : Vec Ideal S2x16384x2048 .f32) (ix3 b t k)) (fun b t k => (m ((c : Thread nD τ).loc main_arg3) : Vec Ideal S2x16384x2048 .f32) (ix3 b t k))
    (fun b k => (m ((c : Thread nD τ).loc main_arg4) : Vec Ideal S2x2048 .f32) (ix2 b k)) (fun j k => (m ((c : Thread nD τ).loc main_arg5) : Vec Ideal S2048x2048 .f32) (ix2 j k)) (y 0) (y 1) (y 2)

theorem host_gate (b : Fin 2) (k : Fin 2048) : (V m c main_v4 : Vec Ideal S8x1x6144 .f32) (ix3 ⟨b.val, by omega⟩ 0 ⟨4096 + k.val, by omega⟩)
    = (m ((c : Thread nD τ).loc main_arg4) : Vec Ideal S2x2048 .f32) (ix2 b k) := by
  after_reads_at
  after_reads_at
theorem host_a (y : S2x16384x1536.Idx) : (V m c main_v5 : Vec Ideal S2x16384x1536 .bf16) y = (m ((c : Thread nD τ).loc main_arg0) : Vec Ideal S2x16384x1536 .f32) y := by
  after_reads_at
theorem host_sz (y : S2x16384x2048.Idx) : (V m c main_v6 : Vec Ideal S2x16384x2048 .bf16) y = (m ((c : Thread nD τ).loc main_arg2) : Vec Ideal S2x16384x2048 .f32) y := by
  after_reads_at
theorem host_w (y : S2048x2048.Idx) : (V m c main_v7 : Vec Ideal S2048x2048 .bf16) y = (m ((c : Thread nD τ).loc main_arg5) : Vec Ideal S2048x2048 .f32) y := by
  after_reads_at

theorem idx0 : ∀ t : Fin cfg0.N, (win0_0.index t (0 : Fin 3) = t.val / 32 ∧ win0_0.index t (1 : Fin 3) = t.val % 32 ∧ win0_0.index t (2 : Fin 3) = 0)
    ∧ (win0_1.index t (0 : Fin 3) = t.val / 32 ∧ win0_1.index t (1 : Fin 3) = t.val % 32 ∧ win0_1.index t (2 : Fin 3) = 0)
    ∧ (win0_2.index t (0 : Fin 3) = t.val / 32 ∧ win0_2.index t (1 : Fin 3) = t.val % 32 ∧ win0_2.index t (2 : Fin 3) = 0)
    ∧ (win0_3.index t (0 : Fin 3) = t.val / 32 ∧ win0_3.index t (1 : Fin 3) = t.val % 32 ∧ win0_3.index t (2 : Fin 3) = 0)
    ∧ (win0_4.index t (0 : Fin 3) = t.val / 32 ∧ win0_4.index t (1 : Fin 3) = 0 ∧ win0_4.index t (2 : Fin 3) = 2)
    ∧ (win0_5.index t (0 : Fin 2) = 0 ∧ win0_5.index t (1 : Fin 2) = 0)
    ∧ (win0_6.index t (0 : Fin 3) = t.val / 32 ∧ win0_6.index t (1 : Fin 3) = t.val % 32 ∧ win0_6.index t (2 : Fin 3) = 0) :=
  (by decide +kernel : ∀ t : Fin grid0.N, _)

/-- The batch row of a point of the grid. -/
def bat (t : Fin cfg0.N) : Fin 2 := ⟨t.val / 32, by have := t.isLt; have h : cfg0.N = 64 := N_0; omega⟩
/-- The token a row of a point's block is. -/
def tok (t : Fin cfg0.N) (r : Fin 512) : Fin 16384 := ⟨512 * (t.val % 32) + r.val, by omega⟩

theorem blk_0 (t : Fin cfg0.N) (y : S1x512x1536.Idx) : iblk m c 0 t y = (m ((c : Thread nD τ).loc main_arg0) : Vec Ideal S2x16384x1536 .f32) (ix3 (bat t) (tok t (y 1)) (y 2)) := by
  obtain ⟨⟨e0, e1, e2⟩, -⟩ := idx0 t
  refine Eq.trans (congrArg (V m c main_v5) (funext fun a => Fin.ext ?_)) (host_a m c _)
  match a with
  | ⟨0, _⟩ => show win0_0.index t (0 : Fin 3) * 1 + 1 * (y 0).val = t.val / 32; have h2 : (y 0).val < 1 := (y 0).isLt; omega
  | ⟨1, _⟩ => show win0_0.index t (1 : Fin 3) * 512 + 1 * (y 1).val = 512 * (t.val % 32) + (y 1).val; omega
  | ⟨2, _⟩ => show win0_0.index t (2 : Fin 3) * 1536 + 1 * (y 2).val = (y 2).val; omega
theorem blk_1 (t : Fin cfg0.N) (y : S1x512x512.Idx) : iblk m c 1 t y = (m ((c : Thread nD τ).loc main_arg1) : Vec Ideal S2x16384x512 .f32) (ix3 (bat t) (tok t (y 1)) (y 2)) := by
  obtain ⟨-, ⟨e0, e1, e2⟩, -⟩ := idx0 t
  refine Eq.trans (congrArg (V m c main_arg1) (funext fun a => Fin.ext ?_)) (congrFun (V_main_arg1 m c) _)
  match a with
  | ⟨0, _⟩ => show win0_1.index t (0 : Fin 3) * 1 + 1 * (y 0).val = t.val / 32; have h2 : (y 0).val < 1 := (y 0).isLt; omega
  | ⟨1, _⟩ => show win0_1.index t (1 : Fin 3) * 512 + 1 * (y 1).val = 512 * (t.val % 32) + (y 1).val; omega
  | ⟨2, _⟩ => show win0_1.index t (2 : Fin 3) * 512 + 1 * (y 2).val = (y 2).val; omega
theorem blk_2 (t : Fin cfg0.N) (y : S1x512x2048.Idx) : iblk m c 2 t y = (m ((c : Thread nD τ).loc main_arg2) : Vec Ideal S2x16384x2048 .f32) (ix3 (bat t) (tok t (y 1)) (y 2)) := by
  obtain ⟨-, -, ⟨e0, e1, e2⟩, -⟩ := idx0 t
  refine Eq.trans (congrArg (V m c main_v6) (funext fun a => Fin.ext ?_)) (host_sz m c _)
  match a with
  | ⟨0, _⟩ => show win0_2.index t (0 : Fin 3) * 1 + 1 * (y 0).val = t.val / 32; have h2 : (y 0).val < 1 := (y 0).isLt; omega
  | ⟨1, _⟩ => show win0_2.index t (1 : Fin 3) * 512 + 1 * (y 1).val = 512 * (t.val % 32) + (y 1).val; omega
  | ⟨2, _⟩ => show win0_2.index t (2 : Fin 3) * 2048 + 1 * (y 2).val = (y 2).val; omega
theorem blk_3 (t : Fin cfg0.N) (y : S1x512x2048.Idx) : iblk m c 3 t y = (m ((c : Thread nD τ).loc main_arg3) : Vec Ideal S2x16384x2048 .f32) (ix3 (bat t) (tok t (y 1)) (y 2)) := by
  obtain ⟨-, -, -, ⟨e0, e1, e2⟩, -⟩ := idx0 t
  refine Eq.trans (congrArg (V m c main_arg3) (funext fun a => Fin.ext ?_)) (congrFun (V_main_arg3 m c) _)
  match a with
  | ⟨0, _⟩ => show win0_3.index t (0 : Fin 3) * 1 + 1 * (y 0).val = t.val / 32; have h2 : (y 0).val < 1 := (y 0).isLt; omega
  | ⟨1, _⟩ => show win0_3.index t (1 : Fin 3) * 512 + 1 * (y 1).val = 512 * (t.val % 32) + (y 1).val; omega
  | ⟨2, _⟩ => show win0_3.index t (2 : Fin 3) * 2048 + 1 * (y 2).val = (y 2).val; omega
theorem blk_4 (t : Fin cfg0.N) (y : S1x1x2048.Idx) : iblk m c 4 t y = (m ((c : Thread nD τ).loc main_arg4) : Vec Ideal S2x2048 .f32) (ix2 (bat t) (y 2)) := by
  obtain ⟨-, -, -, -, ⟨e0, e1, e2⟩, -⟩ := idx0 t
  refine Eq.trans (congrArg (V m c main_v4) (funext fun a => Fin.ext ?_)) (host_gate m c _ _)
  match a with
  | ⟨0, _⟩ => show win0_4.index t (0 : Fin 3) * 1 + 1 * (y 0).val = t.val / 32; have h2 : (y 0).val < 1 := (y 0).isLt; omega
  | ⟨1, _⟩ => show win0_4.index t (1 : Fin 3) * 1 + 1 * (y 1).val = 0; have h2 : (y 1).val < 1 := (y 1).isLt; omega
  | ⟨2, _⟩ => show win0_4.index t (2 : Fin 3) * 2048 + 1 * (y 2).val = 4096 + (y 2).val; omega
theorem blk_5 (t : Fin cfg0.N) (y : S2048x2048.Idx) : iblk m c 5 t y = (m ((c : Thread nD τ).loc main_arg5) : Vec Ideal S2048x2048 .f32) y := by
  obtain ⟨-, -, -, -, -, ⟨e0, e1⟩, -⟩ := idx0 t
  refine Eq.trans (congrArg (V m c main_v7) (funext fun a => Fin.ext ?_)) (host_w m c _)
  match a with
  | ⟨0, _⟩ => show win0_5.index t (0 : Fin 2) * 2048 + 1 * (y 0).val = (y 0).val; omega
  | ⟨1, _⟩ => show win0_5.index t (1 : Fin 2) * 2048 + 1 * (y 1).val = (y 1).val; omega

theorem flushed (t : Fin cfg0.N) : (dats m 0 c).flushed 6 t = ((cfg0.win 6).blk t).view.read (Elt Ideal) (outArr m c outCut) := by
  rw [Pipeline.Dat.flushed, after0_6]
  obtain ⟨-, -, -, -, -, -, e0, e1, e2⟩ := idx0 t
  funext y
  show out0_6 (F := Ideal) _ _ _ _ _ _ y = outArr m c outCut (((cfg0.win 6).blk t).view.emb y)
  unfold out0_6
  have ei : ((cfg0.win 6).blk t).view.emb y = ix3 (bat t) (tok t (y 1)) (y 2) := by
    funext a; apply Fin.ext
    match a with
    | ⟨0, _⟩ => show win0_6.index t (0 : Fin 3) * 1 + 1 * (y 0).val = t.val / 32; have h2 : (y 0).val < 1 := (y 0).isLt; omega
    | ⟨1, _⟩ => show win0_6.index t (1 : Fin 3) * 512 + 1 * (y 1).val = 512 * (t.val % 32) + (y 1).val; omega
    | ⟨2, _⟩ => show win0_6.index t (2 : Fin 3) * 2048 + 1 * (y 2).val = (y 2).val; omega
  rw [View.canon_unit_zero (S := S1x512x2048) (by decide), pay1_apply, ei]
  unfold outArr outCut
  refine congr (congrArg HAdd.hAdd ?_) (congr (congrArg HMul.hMul ?_) (congr (congrArg HAdd.hAdd (Finset.sum_congr rfl fun k _ => ?_)) (Finset.sum_congr rfl fun k _ => ?_)))
  · refine (congrArg (iblk m c 3 t) ?_).trans ((blk_3 m c t (ix3 0 (y 1) (y 2))).trans rfl)
    funext a; apply Fin.ext
    match a with
    | ⟨0, _⟩ => rfl
    | ⟨1, _⟩ => show 0 + 1 * (y 1).val = (y 1).val; omega
    | ⟨2, _⟩ => show 0 + 1 * (y 2).val = (y 2).val; omega
  · refine (congrArg (iblk m c 4 t) ?_).trans ((blk_4 m c t (ix3 0 0 (y 2))).trans rfl)
    funext a; apply Fin.ext
    match a with
    | ⟨0, _⟩ => rfl
    | ⟨1, _⟩ => rfl
    | ⟨2, _⟩ => show 0 + 1 * (y 2).val = (y 2).val; omega
  · refine congr (congrArg HMul.hMul (congr (congrArg HMul.hMul ?_) ?_)) ?_
    · refine (congrArg (iblk m c 0 t) ?_).trans ((blk_0 m c t (ix3 0 (y 1) k)).trans rfl)
      funext a; apply Fin.ext
      match a with
      | ⟨0, _⟩ => rfl
      | ⟨1, _⟩ => show 0 + 1 * (y 1).val = (y 1).val; omega
      | ⟨2, _⟩ => show 0 + 1 * k.val = k.val; omega
    · refine (congrArg (iblk m c 2 t) ?_).trans ((blk_2 m c t (ix3 0 (y 1) ⟨k.val, by omega⟩)).trans rfl)
      funext a; apply Fin.ext
      match a with
      | ⟨0, _⟩ => rfl
      | ⟨1, _⟩ => show 0 + 1 * (y 1).val = (y 1).val; omega
      | ⟨2, _⟩ => show 0 + 1 * k.val = k.val; omega
    · refine (congrArg (iblk m c 5 t) ?_).trans ((blk_5 m c t (ix2 ⟨k.val, by omega⟩ (y 2))).trans rfl)
      funext a; apply Fin.ext
      match a with
      | ⟨0, _⟩ => show 0 + 1 * k.val = k.val; omega
      | ⟨1, _⟩ => show 0 + 1 * (y 2).val = (y 2).val; omega
  · refine congr (congrArg HMul.hMul (congr (congrArg HMul.hMul ?_) ?_)) ?_
    · refine (congrArg (iblk m c 1 t) ?_).trans ((blk_1 m c t (ix3 0 (y 1) k)).trans rfl)
      funext a; apply Fin.ext
      match a with
      | ⟨0, _⟩ => rfl
      | ⟨1, _⟩ => show 0 + 1 * (y 1).val = (y 1).val; omega
      | ⟨2, _⟩ => show 0 + 1 * k.val = k.val; omega
    · refine (congrArg (iblk m c 2 t) ?_).trans ((blk_2 m c t (ix3 0 (y 1) ⟨1536 + k.val, by omega⟩)).trans rfl)
      funext a; apply Fin.ext
      match a with
      | ⟨0, _⟩ => rfl
      | ⟨1, _⟩ => show 0 + 1 * (y 1).val = (y 1).val; omega
      | ⟨2, _⟩ => show 1536 + 1 * k.val = 1536 + k.val; omega
    · refine (congrArg (iblk m c 5 t) ?_).trans ((blk_5 m c t (ix2 ⟨1536 + k.val, by omega⟩ (y 2))).trans rfl)
      funext a; apply Fin.ext
      match a with
      | ⟨0, _⟩ => show 1536 + 1 * k.val = 1536 + k.val; omega
      | ⟨1, _⟩ => show 0 + 1 * (y 2).val = (y 2).val; omega

theorem arr : (dats m 0 c).arrAt 6 cfg0.N = outArr m c outCut := by
  refine (dats m 0 c).arrAt_eq_of_cover 6 _ (fun t _ => flushed m c t) fun i => ?_
  have hi0 : (i (0 : Fin 3)).val < 2 := (i (0 : Fin 3)).isLt
  have hi1 : (i (1 : Fin 3)).val < 16384 := (i (1 : Fin 3)).isLt
  have hi2 : (i (2 : Fin 3)).val < 2048 := (i (2 : Fin 3)).isLt
  have hN : cfg0.N = 64 := N_0
  obtain ⟨t, ht⟩ : ∃ t : Fin cfg0.N, t.val = 32 * (i (0 : Fin 3)).val + (i (1 : Fin 3)).val / 512 := ⟨⟨_, by omega⟩, rfl⟩
  refine ⟨t, flush0_6 _, ?_⟩
  obtain ⟨-, -, -, -, -, -, e0, e1, e2⟩ := idx0 t
  show i ∈ ((View.whole main_v8).slice (win0_6.rect t)).set
  rw [View.set_slice_whole, Rect.mem_set_unit]
  intro a
  match a with
  | ⟨0, _⟩ => show win0_6.index t (0 : Fin 3) * 1 ≤ (i (0 : Fin 3)).val ∧ (i (0 : Fin 3)).val < win0_6.index t (0 : Fin 3) * 1 + 1; rw [e0]; omega
  | ⟨1, _⟩ => show win0_6.index t (1 : Fin 3) * 512 ≤ (i (1 : Fin 3)).val ∧ (i (1 : Fin 3)).val < win0_6.index t (1 : Fin 3) * 512 + 512; rw [e1]; omega
  | ⟨2, _⟩ => show win0_6.index t (2 : Fin 3) * 2048 ≤ (i (2 : Fin 3)).val ∧ (i (2 : Fin 3)).val < win0_6.index t (2 : Fin 3) * 2048 + 2048; rw [e2]; omega

variable (ρ : Dev nD → PrngReg)

/-- Every fair run ends with the projection in the result buffer and the arguments unchanged. -/
theorem run : θ_run defs (onTc (τ := τ) (main (F := Ideal))) ⟨m, fun _ => 0, ρ⟩ (fun r => ∀ c : Dev nD,
      r.2.mem ((c.tc : Thread nD τ).loc main_v8) = outArr m c outOf
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have e : outCut = outOf := by funext a zf sz x gate w; exact outCut_eq a zf sz x gate w
  exact (θ_run defs _ _).mono (fun _ h c => ⟨((h.1 c).1 6).trans ((arr m c).trans (congrArg (outArr m c) e)), h.2 c⟩)
    (θ_run_and (run_main m ρ) (unchanged m ρ))
end
end Cert.Kernel3Ideal.Val

namespace Cert.Reference3Ideal.Val
open Idealize.ShloMosaic Idealize.ShloMosaic.TcCoe Idealize.ShloMosaic.Tactic Idealize.SL Idealize.SL.Sem Cert.Reference3Ideal Cert.Reference3Ideal.Read Cert.Out

variable (x0 : Vec Ideal S2x16384x1536 .f32) (x1 : Vec Ideal S2x16384x512 .f32) (x2 x3 : Vec Ideal S2x16384x2048 .f32) (x4 : Vec Ideal S2x2048 .f32) (x5 : Vec Ideal S2048x2048 .f32)

theorem r0 (b : Fin 2) (t : Fin 16384) (k : Fin 2048) : val_main_v0 (F := Ideal) x0 x1 (ix3 b t k) = both (fun b t k => x0 (ix3 b t k)) (fun b t k => x1 (ix3 b t k)) b t k := by
  unfold val_main_v0 both
  pointwise

theorem r6 (b : Fin 2) (t : Fin 16384) (j : Fin 2048) : val_main_v6 (F := Ideal) x0 x1 x2 x3 x4 x5 (ix3 b t j)
    = outOf (fun b t k => x0 (ix3 b t k)) (fun b t k => x1 (ix3 b t k)) (fun b t k => x2 (ix3 b t k)) (fun b t k => x3 (ix3 b t k)) (fun b k => x4 (ix2 b k)) (fun j k => x5 (ix2 j k)) b t j := by
  have h := r0 x0 x1 b t
  unfold val_main_v6 val_main_v5 val_main_v4 val_main_v3 val_main_v2 val_main_v1
  generalize val_main_v0 (F := Ideal) x0 x1 = M at h ⊢
  pointwise [dot_S2x16384x2048_S2048x2048_S2x16384x2048_2_0_01_1_n_n]
  simp only [h]
  rfl
end Cert.Reference3Ideal.Val

namespace Cert.Out
open Idealize.ShloMosaic Idealize.ShloMosaic.TcCoe Idealize.SL.Sem

/-- The reference ends with its arguments unchanged; it has no semaphore. -/
theorem frame_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The kernel's program and the reference, from equal arguments, end with equal results. -/
theorem algebraic : Cert.algebraic_Kernel3Ideal_Reference3Ideal := by
  intro m ρ m' ρ' _ hagree
  refine ⟨fun c => Cert.Kernel3Ideal.Val.outArr m c outOf, Cert.Kernel3Ideal.Val.run m ρ, ?_⟩
  refine (θ_run Cert.Reference3Ideal.defs _ _).mono (fun _ h c => ⟨(h c).1.trans ?_, (h c).2⟩) (Cert.Reference3Ideal.Value.run (F := Ideal) m' ρ')
  obtain ⟨e0, e1, e2, e3, e4, e5⟩ := hagree c
  refine (Cert.Reference3Ideal.Read.val_main_v6_eq _ _ _ _ _ _).trans ?_
  rw [e0, e1, e2, e3, e4, e5]
  funext y
  refine (congrArg _ (eq_ix3 y)).trans ?_
  exact Cert.Reference3Ideal.Val.r6 _ _ _ _ _ _ (y 0) (y 1) (y 2)
end Cert.Out
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Gen.Pre_finite2
public import proofs.«01_k».proof.Proof.Claims
public import proofs.«01_k».proof.Proof.In0Claims
public import proofs.«01_k».proof.Proof.Out
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  Cert.Pool.frame_ref, fun m ρ _ => Cert.Pool.frame_ref m ρ trivial,
  fun m ρ _ => Cert.Kernel2.Gen.frame m ρ, fun m ρ _ => Cert.Kernel2Ideal.Gen.frame m ρ, fun m ρ _ => Cert.Kernel2Ideal.Gen.frame m ρ,
  Cert.In0.frame_ref, fun m ρ _ => Cert.In0.frame_ref m ρ trivial,
  fun m ρ _ => Cert.Kernel3.Gen.frame m ρ, fun m ρ _ => Cert.Kernel3Ideal.Gen.frame m ρ, Cert.Out.frame_ref,
  trivial, Cert.Pool.algebraic, trivial, Cert.In0.algebraic, trivial, Cert.Out.algebraic⟩

end Cert.Proof

end
